-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))) = (fun _ => 1#1)

def Pre_FfnF (m : (ℓ : Loc Cert.FfnF.nD Cert.FfnF.τ Cert.FfnF.sig) → Buf (Elt Bits) ℓ) : Prop :=
  True

def Pre_FfnFIdeal (m : (ℓ : Loc Cert.FfnFIdeal.nD Cert.FfnFIdeal.τ Cert.FfnFIdeal.sig) → Buf (Elt Ideal) ℓ) : Prop :=
  True

def Pre_FfnFRefIdeal (m : (ℓ : Loc Cert.FfnFRefIdeal.nD Cert.FfnFRefIdeal.τ Cert.FfnFRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBRefIdeal (m : (ℓ : Loc Cert.OutBRefIdeal.nD Cert.OutBRefIdeal.τ Cert.OutBRefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnF [hFfnF : Cert.FfnF.Facts] : Prop :=
  ∀ (m : (ℓ : Loc Cert.FfnF.nD Cert.FfnF.τ Cert.FfnF.sig) → Buf (Elt Bits) ℓ) (g : Dev Cert.FfnF.nD → PrngReg), Pre_FfnF m →
    θ_run (Cert.FfnF.defs (F := Bits)) (onTc (τ := Cert.FfnF.τ) (Cert.FfnF.main (F := Bits))) ⟨m, fun _ => 0, g⟩ (fun r => (∀ c : Dev Cert.FfnF.nD,
      r.2.mem ((c.tc : Thread Cert.FfnF.nD Cert.FfnF.τ).loc Cert.FfnF.main_arg0) = m ((c.tc : Thread Cert.FfnF.nD Cert.FfnF.τ).loc Cert.FfnF.main_arg0)
      ∧ r.2.mem ((c.tc : Thread Cert.FfnF.nD Cert.FfnF.τ).loc Cert.FfnF.main_arg1) = m ((c.tc : Thread Cert.FfnF.nD Cert.FfnF.τ).loc Cert.FfnF.main_arg1)
      ∧ r.2.mem ((c.tc : Thread Cert.FfnF.nD Cert.FfnF.τ).loc Cert.FfnF.main_arg2) = m ((c.tc : Thread Cert.FfnF.nD Cert.FfnF.τ).loc Cert.FfnF.main_arg2))
      ∧ r.2.sem = fun _ => 0)

def quiescent_FfnFIdeal [hFfnFIdeal : Cert.FfnFIdeal.Facts] : Prop :=
  ∀ (m : (ℓ : Loc Cert.FfnFIdeal.nD Cert.FfnFIdeal.τ Cert.FfnFIdeal.sig) → Buf (Elt Ideal) ℓ) (g : Dev Cert.FfnFIdeal.nD → PrngReg), Pre_FfnFIdeal m →
    θ_run (Cert.FfnFIdeal.defs (F := Ideal)) (onTc (τ := Cert.FfnFIdeal.τ) (Cert.FfnFIdeal.main (F := Ideal))) ⟨m, fun _ => 0, g⟩ (fun r => (∀ c : Dev Cert.FfnFIdeal.nD,
      r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
      ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
      ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2))
      ∧ r.2.sem = fun _ => 0)

def quiescent_FfnFRefIdeal [hFfnFRefIdeal : Cert.FfnFRefIdeal.Facts] : Prop :=
  ∀ (m : (ℓ : Loc Cert.FfnFRefIdeal.nD Cert.FfnFRefIdeal.τ Cert.FfnFRefIdeal.sig) → Buf (Elt Ideal) ℓ) (g : Dev Cert.FfnFRefIdeal.nD → PrngReg), Pre_FfnFRefIdeal m →
    θ_run (Cert.FfnFRefIdeal.defs (F := Ideal)) (onTc (τ := Cert.FfnFRefIdeal.τ) (Cert.FfnFRefIdeal.main (F := Ideal))) ⟨m, fun _ => 0, g⟩ (fun r => (∀ c : Dev Cert.FfnFRefIdeal.nD,
      r.2.mem ((c.tc : Thread Cert.FfnFRefIdeal.nD Cert.FfnFRefIdeal.τ).loc Cert.FfnFRefIdeal.main_arg0) = m ((c.tc : Thread Cert.FfnFRefIdeal.nD Cert.FfnFRefIdeal.τ).loc Cert.FfnFRefIdeal.main_arg0)
      ∧ r.2.mem ((c.tc : Thread Cert.FfnFRefIdeal.nD Cert.FfnFRefIdeal.τ).loc Cert.FfnFRefIdeal.main_arg1) = m ((c.tc : Thread Cert.FfnFRefIdeal.nD Cert.FfnFRefIdeal.τ).loc Cert.FfnFRefIdeal.main_arg1)
      ∧ r.2.mem ((c.tc : Thread Cert.FfnFRefIdeal.nD Cert.FfnFRefIdeal.τ).loc Cert.FfnFRefIdeal.main_arg2) = m ((c.tc : Thread Cert.FfnFRefIdeal.nD Cert.FfnFRefIdeal.τ).loc Cert.FfnFRefIdeal.main_arg2))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2)
      ∧ r.2.mem ((c.tc : Thread Cert.OutF.nD Cert.OutF.τ).loc Cert.OutF.main_arg3) = m ((c.tc : Thread Cert.OutF.nD Cert.OutF.τ).loc Cert.OutF.main_arg3)
      ∧ r.2.mem ((c.tc : Thread Cert.OutF.nD Cert.OutF.τ).loc Cert.OutF.main_arg4) = m ((c.tc : Thread Cert.OutF.nD Cert.OutF.τ).loc Cert.OutF.main_arg4))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
      ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3)
      ∧ r.2.mem ((c.tc : Thread Cert.OutFIdeal.nD Cert.OutFIdeal.τ).loc Cert.OutFIdeal.main_arg4) = m ((c.tc : Thread Cert.OutFIdeal.nD Cert.OutFIdeal.τ).loc Cert.OutFIdeal.main_arg4))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2)
      ∧ r.2.mem ((c.tc : Thread Cert.OutFRefIdeal.nD Cert.OutFRefIdeal.τ).loc Cert.OutFRefIdeal.main_arg3) = m ((c.tc : Thread Cert.OutFRefIdeal.nD Cert.OutFRefIdeal.τ).loc Cert.OutFRefIdeal.main_arg3)
      ∧ r.2.mem ((c.tc : Thread Cert.OutFRefIdeal.nD Cert.OutFRefIdeal.τ).loc Cert.OutFRefIdeal.main_arg4) = m ((c.tc : Thread Cert.OutFRefIdeal.nD Cert.OutFRefIdeal.τ).loc Cert.OutFRefIdeal.main_arg4))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1)
      ∧ r.2.mem ((c.tc : Thread Cert.OutB.nD Cert.OutB.τ).loc Cert.OutB.main_arg2) = m ((c.tc : Thread Cert.OutB.nD Cert.OutB.τ).loc Cert.OutB.main_arg2)
      ∧ r.2.mem ((c.tc : Thread Cert.OutB.nD Cert.OutB.τ).loc Cert.OutB.main_arg3) = m ((c.tc : Thread Cert.OutB.nD Cert.OutB.τ).loc Cert.OutB.main_arg3)
      ∧ r.2.mem ((c.tc : Thread Cert.OutB.nD Cert.OutB.τ).loc Cert.OutB.main_arg4) = m ((c.tc : Thread Cert.OutB.nD Cert.OutB.τ).loc Cert.OutB.main_arg4)
      ∧ r.2.mem ((c.tc : Thread Cert.OutB.nD Cert.OutB.τ).loc Cert.OutB.main_arg5) = m ((c.tc : Thread Cert.OutB.nD Cert.OutB.τ).loc Cert.OutB.main_arg5)
      ∧ r.2.mem ((c.tc : Thread Cert.OutB.nD Cert.OutB.τ).loc Cert.OutB.main_arg6) = m ((c.tc : Thread Cert.OutB.nD Cert.OutB.τ).loc Cert.OutB.main_arg6)
      ∧ r.2.mem ((c.tc : Thread Cert.OutB.nD Cert.OutB.τ).loc Cert.OutB.main_arg7) = m ((c.tc : Thread Cert.OutB.nD Cert.OutB.τ).loc Cert.OutB.main_arg7))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
      ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
      ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3)
      ∧ r.2.mem ((c.tc : Thread Cert.OutBIdeal.nD Cert.OutBIdeal.τ).loc Cert.OutBIdeal.main_arg4) = m ((c.tc : Thread Cert.OutBIdeal.nD Cert.OutBIdeal.τ).loc Cert.OutBIdeal.main_arg4)
      ∧ r.2.mem ((c.tc : Thread Cert.OutBIdeal.nD Cert.OutBIdeal.τ).loc Cert.OutBIdeal.main_arg5) = m ((c.tc : Thread Cert.OutBIdeal.nD Cert.OutBIdeal.τ).loc Cert.OutBIdeal.main_arg5)
      ∧ r.2.mem ((c.tc : Thread Cert.OutBIdeal.nD Cert.OutBIdeal.τ).loc Cert.OutBIdeal.main_arg6) = m ((c.tc : Thread Cert.OutBIdeal.nD Cert.OutBIdeal.τ).loc Cert.OutBIdeal.main_arg6)
      ∧ r.2.mem ((c.tc : Thread Cert.OutBIdeal.nD Cert.OutBIdeal.τ).loc Cert.OutBIdeal.main_arg7) = m ((c.tc : Thread Cert.OutBIdeal.nD Cert.OutBIdeal.τ).loc Cert.OutBIdeal.main_arg7))
      ∧ r.2.sem = fun _ => 0)

def quiescent_OutBRefIdeal [hOutBRefIdeal : Cert.OutBRefIdeal.Facts] : Prop :=
  ∀ (m : (ℓ : Loc Cert.OutBRefIdeal.nD Cert.OutBRefIdeal.τ Cert.OutBRefIdeal.sig) → Buf (Elt Ideal) ℓ) (g : Dev Cert.OutBRefIdeal.nD → PrngReg), Pre_OutBRefIdeal m →
    θ_run (Cert.OutBRefIdeal.defs (F := Ideal)) (onTc (τ := Cert.OutBRefIdeal.τ) (Cert.OutBRefIdeal.main (F := Ideal))) ⟨m, fun _ => 0, g⟩ (fun r => (∀ c : Dev Cert.OutBRefIdeal.nD,
      r.2.mem ((c.tc : Thread Cert.OutBRefIdeal.nD Cert.OutBRefIdeal.τ).loc Cert.OutBRefIdeal.main_arg0) = m ((c.tc : Thread Cert.OutBRefIdeal.nD Cert.OutBRefIdeal.τ).loc Cert.OutBRefIdeal.main_arg0)
      ∧ r.2.mem ((c.tc : Thread Cert.OutBRefIdeal.nD Cert.OutBRefIdeal.τ).loc Cert.OutBRefIdeal.main_arg1) = m ((c.tc : Thread Cert.OutBRefIdeal.nD Cert.OutBRefIdeal.τ).loc Cert.OutBRefIdeal.main_arg1)
      ∧ r.2.mem ((c.tc : Thread Cert.OutBRefIdeal.nD Cert.OutBRefIdeal.τ).loc Cert.OutBRefIdeal.main_arg2) = m ((c.tc : Thread Cert.OutBRefIdeal.nD Cert.OutBRefIdeal.τ).loc Cert.OutBRefIdeal.main_arg2)
      ∧ r.2.mem ((c.tc : Thread Cert.OutBRefIdeal.nD Cert.OutBRefIdeal.τ).loc Cert.OutBRefIdeal.main_arg3) = m ((c.tc : Thread Cert.OutBRefIdeal.nD Cert.OutBRefIdeal.τ).loc Cert.OutBRefIdeal.main_arg3)
      ∧ r.2.mem ((c.tc : Thread Cert.OutBRefIdeal.nD Cert.OutBRefIdeal.τ).loc Cert.OutBRefIdeal.main_arg4) = m ((c.tc : Thread Cert.OutBRefIdeal.nD Cert.OutBRefIdeal.τ).loc Cert.OutBRefIdeal.main_arg4)
      ∧ r.2.mem ((c.tc : Thread Cert.OutBRefIdeal.nD Cert.OutBRefIdeal.τ).loc Cert.OutBRefIdeal.main_arg5) = m ((c.tc : Thread Cert.OutBRefIdeal.nD Cert.OutBRefIdeal.τ).loc Cert.OutBRefIdeal.main_arg5)
      ∧ r.2.mem ((c.tc : Thread Cert.OutBRefIdeal.nD Cert.OutBRefIdeal.τ).loc Cert.OutBRefIdeal.main_arg6) = m ((c.tc : Thread Cert.OutBRefIdeal.nD Cert.OutBRefIdeal.τ).loc Cert.OutBRefIdeal.main_arg6)
      ∧ r.2.mem ((c.tc : Thread Cert.OutBRefIdeal.nD Cert.OutBRefIdeal.τ).loc Cert.OutBRefIdeal.main_arg7) = m ((c.tc : Thread Cert.OutBRefIdeal.nD Cert.OutBRefIdeal.τ).loc Cert.OutBRefIdeal.main_arg7))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2)
      ∧ r.2.mem ((c.tc : Thread Cert.InB.nD Cert.InB.τ).loc Cert.InB.main_arg3) = m ((c.tc : Thread Cert.InB.nD Cert.InB.τ).loc Cert.InB.main_arg3)
      ∧ r.2.mem ((c.tc : Thread Cert.InB.nD Cert.InB.τ).loc Cert.InB.main_arg4) = m ((c.tc : Thread Cert.InB.nD Cert.InB.τ).loc Cert.InB.main_arg4)
      ∧ r.2.mem ((c.tc : Thread Cert.InB.nD Cert.InB.τ).loc Cert.InB.main_arg5) = m ((c.tc : Thread Cert.InB.nD Cert.InB.τ).loc Cert.InB.main_arg5)
      ∧ r.2.mem ((c.tc : Thread Cert.InB.nD Cert.InB.τ).loc Cert.InB.main_arg6) = m ((c.tc : Thread Cert.InB.nD Cert.InB.τ).loc Cert.InB.main_arg6)
      ∧ r.2.mem ((c.tc : Thread Cert.InB.nD Cert.InB.τ).loc Cert.InB.main_arg7) = m ((c.tc : Thread Cert.InB.nD Cert.InB.τ).loc Cert.InB.main_arg7)
      ∧ r.2.mem ((c.tc : Thread Cert.InB.nD Cert.InB.τ).loc Cert.InB.main_arg8) = m ((c.tc : Thread Cert.InB.nD Cert.InB.τ).loc Cert.InB.main_arg8)
      ∧ r.2.mem ((c.tc : Thread Cert.InB.nD Cert.InB.τ).loc Cert.InB.main_arg9) = m ((c.tc : Thread Cert.InB.nD Cert.InB.τ).loc Cert.InB.main_arg9)
      ∧ r.2.mem ((c.tc : Thread Cert.InB.nD Cert.InB.τ).loc Cert.InB.main_arg10) = m ((c.tc : Thread Cert.InB.nD Cert.InB.τ).loc Cert.InB.main_arg10)
      ∧ r.2.mem ((c.tc : Thread Cert.InB.nD Cert.InB.τ).loc Cert.InB.main_arg11) = m ((c.tc : Thread Cert.InB.nD Cert.InB.τ).loc Cert.InB.main_arg11)
      ∧ r.2.mem ((c.tc : Thread Cert.InB.nD Cert.InB.τ).loc Cert.InB.main_arg12) = m ((c.tc : Thread Cert.InB.nD Cert.InB.τ).loc Cert.InB.main_arg12))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
      ∧ r.2.mem ((c.tc : Thread Cert.InBIdeal.nD Cert.InBIdeal.τ).loc Cert.InBIdeal.main_arg4) = m ((c.tc : Thread Cert.InBIdeal.nD Cert.InBIdeal.τ).loc Cert.InBIdeal.main_arg4)
      ∧ r.2.mem ((c.tc : Thread Cert.InBIdeal.nD Cert.InBIdeal.τ).loc Cert.InBIdeal.main_arg5) = m ((c.tc : Thread Cert.InBIdeal.nD Cert.InBIdeal.τ).loc Cert.InBIdeal.main_arg5)
      ∧ r.2.mem ((c.tc : Thread Cert.InBIdeal.nD Cert.InBIdeal.τ).loc Cert.InBIdeal.main_arg6) = m ((c.tc : Thread Cert.InBIdeal.nD Cert.InBIdeal.τ).loc Cert.InBIdeal.main_arg6)
      ∧ r.2.mem ((c.tc : Thread Cert.InBIdeal.nD Cert.InBIdeal.τ).loc Cert.InBIdeal.main_arg7) = m ((c.tc : Thread Cert.InBIdeal.nD Cert.InBIdeal.τ).loc Cert.InBIdeal.main_arg7)
      ∧ r.2.mem ((c.tc : Thread Cert.InBIdeal.nD Cert.InBIdeal.τ).loc Cert.InBIdeal.main_arg8) = m ((c.tc : Thread Cert.InBIdeal.nD Cert.InBIdeal.τ).loc Cert.InBIdeal.main_arg8)
      ∧ r.2.mem ((c.tc : Thread Cert.InBIdeal.nD Cert.InBIdeal.τ).loc Cert.InBIdeal.main_arg9) = m ((c.tc : Thread Cert.InBIdeal.nD Cert.InBIdeal.τ).loc Cert.InBIdeal.main_arg9)
      ∧ r.2.mem ((c.tc : Thread Cert.InBIdeal.nD Cert.InBIdeal.τ).loc Cert.InBIdeal.main_arg10) = m ((c.tc : Thread Cert.InBIdeal.nD Cert.InBIdeal.τ).loc Cert.InBIdeal.main_arg10)
      ∧ r.2.mem ((c.tc : Thread Cert.InBIdeal.nD Cert.InBIdeal.τ).loc Cert.InBIdeal.main_arg11) = m ((c.tc : Thread Cert.InBIdeal.nD Cert.InBIdeal.τ).loc Cert.InBIdeal.main_arg11)
      ∧ r.2.mem ((c.tc : Thread Cert.InBIdeal.nD Cert.InBIdeal.τ).loc Cert.InBIdeal.main_arg12) = m ((c.tc : Thread Cert.InBIdeal.nD Cert.InBIdeal.τ).loc Cert.InBIdeal.main_arg12))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2)
      ∧ r.2.mem ((c.tc : Thread Cert.InBRefIdeal.nD Cert.InBRefIdeal.τ).loc Cert.InBRefIdeal.main_arg3) = m ((c.tc : Thread Cert.InBRefIdeal.nD Cert.InBRefIdeal.τ).loc Cert.InBRefIdeal.main_arg3)
      ∧ r.2.mem ((c.tc : Thread Cert.InBRefIdeal.nD Cert.InBRefIdeal.τ).loc Cert.InBRefIdeal.main_arg4) = m ((c.tc : Thread Cert.InBRefIdeal.nD Cert.InBRefIdeal.τ).loc Cert.InBRefIdeal.main_arg4)
      ∧ r.2.mem ((c.tc : Thread Cert.InBRefIdeal.nD Cert.InBRefIdeal.τ).loc Cert.InBRefIdeal.main_arg5) = m ((c.tc : Thread Cert.InBRefIdeal.nD Cert.InBRefIdeal.τ).loc Cert.InBRefIdeal.main_arg5)
      ∧ r.2.mem ((c.tc : Thread Cert.InBRefIdeal.nD Cert.InBRefIdeal.τ).loc Cert.InBRefIdeal.main_arg6) = m ((c.tc : Thread Cert.InBRefIdeal.nD Cert.InBRefIdeal.τ).loc Cert.InBRefIdeal.main_arg6)
      ∧ r.2.mem ((c.tc : Thread Cert.InBRefIdeal.nD Cert.InBRefIdeal.τ).loc Cert.InBRefIdeal.main_arg7) = m ((c.tc : Thread Cert.InBRefIdeal.nD Cert.InBRefIdeal.τ).loc Cert.InBRefIdeal.main_arg7)
      ∧ r.2.mem ((c.tc : Thread Cert.InBRefIdeal.nD Cert.InBRefIdeal.τ).loc Cert.InBRefIdeal.main_arg8) = m ((c.tc : Thread Cert.InBRefIdeal.nD Cert.InBRefIdeal.τ).loc Cert.InBRefIdeal.main_arg8)
      ∧ r.2.mem ((c.tc : Thread Cert.InBRefIdeal.nD Cert.InBRefIdeal.τ).loc Cert.InBRefIdeal.main_arg9) = m ((c.tc : Thread Cert.InBRefIdeal.nD Cert.InBRefIdeal.τ).loc Cert.InBRefIdeal.main_arg9)
      ∧ r.2.mem ((c.tc : Thread Cert.InBRefIdeal.nD Cert.InBRefIdeal.τ).loc Cert.InBRefIdeal.main_arg10) = m ((c.tc : Thread Cert.InBRefIdeal.nD Cert.InBRefIdeal.τ).loc Cert.InBRefIdeal.main_arg10)
      ∧ r.2.mem ((c.tc : Thread Cert.InBRefIdeal.nD Cert.InBRefIdeal.τ).loc Cert.InBRefIdeal.main_arg11) = m ((c.tc : Thread Cert.InBRefIdeal.nD Cert.InBRefIdeal.τ).loc Cert.InBRefIdeal.main_arg11)
      ∧ r.2.mem ((c.tc : Thread Cert.InBRefIdeal.nD Cert.InBRefIdeal.τ).loc Cert.InBRefIdeal.main_arg12) = m ((c.tc : Thread Cert.InBRefIdeal.nD Cert.InBRefIdeal.τ).loc Cert.InBRefIdeal.main_arg12))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1_0)) (v1 : (c : Dev Cert.ConvIdeal.nD) → Buf (Elt Ideal) ((c.tc : Thread Cert.ConvIdeal.nD Cert.ConvIdeal.τ).loc Cert.ConvIdeal.main_v1_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1_0) = v0 c
          ∧ r.2.mem ((c.tc : Thread Cert.ConvIdeal.nD Cert.ConvIdeal.τ).loc Cert.ConvIdeal.main_v1_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v77) = v0 c
          ∧ r.2.mem ((c.tc : Thread Cert.ConvRefIdeal.nD Cert.ConvRefIdeal.τ).loc Cert.ConvRefIdeal.main_v78) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)) (v3 : (c : Dev Cert.FfnIdeal.nD) → Buf (Elt Ideal) ((c.tc : Thread Cert.FfnIdeal.nD Cert.FfnIdeal.τ).loc Cert.FfnIdeal.main_v0_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_v0_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v40) = v0 c
          ∧ r.2.mem ((c.tc : Thread Cert.FfnRefIdeal.nD Cert.FfnRefIdeal.τ).loc Cert.FfnRefIdeal.main_v41) = v1 c
          ∧ r.2.mem ((c.tc : Thread Cert.FfnRefIdeal.nD Cert.FfnRefIdeal.τ).loc Cert.FfnRefIdeal.main_v42) = v2 c
          ∧ r.2.mem ((c.tc : Thread Cert.FfnRefIdeal.nD Cert.FfnRefIdeal.τ).loc Cert.FfnRefIdeal.main_v43) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_FfnF_FfnFIdeal : Prop :=
  True

def algebraic_FfnFIdeal_FfnFRefIdeal [hFfnFIdeal : Cert.FfnFIdeal.Facts] [hFfnFRefIdeal : Cert.FfnFRefIdeal.Facts] : Prop :=
  ∀ (m : (ℓ : Loc Cert.FfnFIdeal.nD Cert.FfnFIdeal.τ Cert.FfnFIdeal.sig) → Buf (Elt Ideal) ℓ) (g : Dev Cert.FfnFIdeal.nD → PrngReg)
    (m' : (ℓ : Loc Cert.FfnFRefIdeal.nD Cert.FfnFRefIdeal.τ Cert.FfnFRefIdeal.sig) → Buf (Elt Ideal) ℓ) (g' : Dev Cert.FfnFRefIdeal.nD → PrngReg), Pre_FfnFIdeal m →
    (∀ c : Dev Cert.FfnFIdeal.nD,
      m' ((c.tc : Thread Cert.FfnFRefIdeal.nD Cert.FfnFRefIdeal.τ).loc Cert.FfnFRefIdeal.main_arg0) = m ((c.tc : Thread Cert.FfnFIdeal.nD Cert.FfnFIdeal.τ).loc Cert.FfnFIdeal.main_arg0)
      ∧ m' ((c.tc : Thread Cert.FfnFRefIdeal.nD Cert.FfnFRefIdeal.τ).loc Cert.FfnFRefIdeal.main_arg1) = m ((c.tc : Thread Cert.FfnFIdeal.nD Cert.FfnFIdeal.τ).loc Cert.FfnFIdeal.main_arg1)
      ∧ m' ((c.tc : Thread Cert.FfnFRefIdeal.nD Cert.FfnFRefIdeal.τ).loc Cert.FfnFRefIdeal.main_arg2) = m ((c.tc : Thread Cert.FfnFIdeal.nD Cert.FfnFIdeal.τ).loc Cert.FfnFIdeal.main_arg2)) →
    ∃ (v0 : (c : Dev Cert.FfnFIdeal.nD) → Buf (Elt Ideal) ((c.tc : Thread Cert.FfnFIdeal.nD Cert.FfnFIdeal.τ).loc Cert.FfnFIdeal.main_v0)),
      θ_run (Cert.FfnFIdeal.defs (F := Ideal)) (onTc (τ := Cert.FfnFIdeal.τ) (Cert.FfnFIdeal.main (F := Ideal))) ⟨m, fun _ => 0, g⟩ (fun r => ∀ c : Dev Cert.FfnFIdeal.nD,
          r.2.mem ((c.tc : Thread Cert.FfnFIdeal.nD Cert.FfnFIdeal.τ).loc Cert.FfnFIdeal.main_v0) = v0 c
          ∧ r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
          ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
          ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2))
      ∧ θ_run (Cert.FfnFRefIdeal.defs (F := Ideal)) (onTc (τ := Cert.FfnFRefIdeal.τ) (Cert.FfnFRefIdeal.main (F := Ideal))) ⟨m', fun _ => 0, g'⟩ (fun r => ∀ c : Dev Cert.FfnFRefIdeal.nD,
          r.2.mem ((c.tc : Thread Cert.FfnFRefIdeal.nD Cert.FfnFRefIdeal.τ).loc Cert.FfnFRefIdeal.main_v30) = v0 c
          ∧ r.2.mem ((c.tc : Thread Cert.FfnFRefIdeal.nD Cert.FfnFRefIdeal.τ).loc Cert.FfnFRefIdeal.main_arg0) = m' ((c.tc : Thread Cert.FfnFRefIdeal.nD Cert.FfnFRefIdeal.τ).loc Cert.FfnFRefIdeal.main_arg0)
          ∧ r.2.mem ((c.tc : Thread Cert.FfnFRefIdeal.nD Cert.FfnFRefIdeal.τ).loc Cert.FfnFRefIdeal.main_arg1) = m' ((c.tc : Thread Cert.FfnFRefIdeal.nD Cert.FfnFRefIdeal.τ).loc Cert.FfnFRefIdeal.main_arg1)
          ∧ r.2.mem ((c.tc : Thread Cert.FfnFRefIdeal.nD Cert.FfnFRefIdeal.τ).loc Cert.FfnFRefIdeal.main_arg2) = m' ((c.tc : Thread Cert.FfnFRefIdeal.nD Cert.FfnFRefIdeal.τ).loc Cert.FfnFRefIdeal.main_arg2))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)
      ∧ m' ((c.tc : Thread Cert.OutFRefIdeal.nD Cert.OutFRefIdeal.τ).loc Cert.OutFRefIdeal.main_arg2) = m ((c.tc : Thread Cert.OutFIdeal.nD Cert.OutFIdeal.τ).loc Cert.OutFIdeal.main_arg2)
      ∧ m' ((c.tc : Thread Cert.OutFRefIdeal.nD Cert.OutFRefIdeal.τ).loc Cert.OutFRefIdeal.main_arg3) = m ((c.tc : Thread Cert.OutFIdeal.nD Cert.OutFIdeal.τ).loc Cert.OutFIdeal.main_arg3)
      ∧ m' ((c.tc : Thread Cert.OutFRefIdeal.nD Cert.OutFRefIdeal.τ).loc Cert.OutFRefIdeal.main_arg4) = m ((c.tc : Thread Cert.OutFIdeal.nD Cert.OutFIdeal.τ).loc Cert.OutFIdeal.main_arg4)) →
    ∃ (v0 : (c : Dev Cert.OutFIdeal.nD) → Buf (Elt Ideal) ((c.tc : Thread Cert.OutFIdeal.nD Cert.OutFIdeal.τ).loc Cert.OutFIdeal.main_v0)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v0) = v0 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
          ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3)
          ∧ r.2.mem ((c.tc : Thread Cert.OutFIdeal.nD Cert.OutFIdeal.τ).loc Cert.OutFIdeal.main_arg4) = m ((c.tc : Thread Cert.OutFIdeal.nD Cert.OutFIdeal.τ).loc Cert.OutFIdeal.main_arg4))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v5) = v0 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1)
          ∧ r.2.mem ((c.tc : Thread Cert.OutFRefIdeal.nD Cert.OutFRefIdeal.τ).loc Cert.OutFRefIdeal.main_arg2) = m' ((c.tc : Thread Cert.OutFRefIdeal.nD Cert.OutFRefIdeal.τ).loc Cert.OutFRefIdeal.main_arg2)
          ∧ r.2.mem ((c.tc : Thread Cert.OutFRefIdeal.nD Cert.OutFRefIdeal.τ).loc Cert.OutFRefIdeal.main_arg3) = m' ((c.tc : Thread Cert.OutFRefIdeal.nD Cert.OutFRefIdeal.τ).loc Cert.OutFRefIdeal.main_arg3)
          ∧ r.2.mem ((c.tc : Thread Cert.OutFRefIdeal.nD Cert.OutFRefIdeal.τ).loc Cert.OutFRefIdeal.main_arg4) = m' ((c.tc : Thread Cert.OutFRefIdeal.nD Cert.OutFRefIdeal.τ).loc Cert.OutFRefIdeal.main_arg4))

def preserves_OutB_OutBIdeal : Prop :=
  True

def algebraic_OutBIdeal_OutBRefIdeal [hOutBIdeal : Cert.OutBIdeal.Facts] [hOutBRefIdeal : Cert.OutBRefIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBRefIdeal.nD Cert.OutBRefIdeal.τ Cert.OutBRefIdeal.sig) → Buf (Elt Ideal) ℓ) (g' : Dev Cert.OutBRefIdeal.nD → PrngReg), Pre_OutBIdeal m →
    (∀ c : Dev Cert.OutBIdeal.nD,
      m' ((c.tc : Thread Cert.OutBRefIdeal.nD Cert.OutBRefIdeal.τ).loc Cert.OutBRefIdeal.main_arg0) = m ((c.tc : Thread Cert.OutBIdeal.nD Cert.OutBIdeal.τ).loc Cert.OutBIdeal.main_arg0)
      ∧ m' ((c.tc : Thread Cert.OutBRefIdeal.nD Cert.OutBRefIdeal.τ).loc Cert.OutBRefIdeal.main_arg1) = m ((c.tc : Thread Cert.OutBIdeal.nD Cert.OutBIdeal.τ).loc Cert.OutBIdeal.main_arg1)
      ∧ m' ((c.tc : Thread Cert.OutBRefIdeal.nD Cert.OutBRefIdeal.τ).loc Cert.OutBRefIdeal.main_arg2) = m ((c.tc : Thread Cert.OutBIdeal.nD Cert.OutBIdeal.τ).loc Cert.OutBIdeal.main_arg2)
      ∧ m' ((c.tc : Thread Cert.OutBRefIdeal.nD Cert.OutBRefIdeal.τ).loc Cert.OutBRefIdeal.main_arg3) = m ((c.tc : Thread Cert.OutBIdeal.nD Cert.OutBIdeal.τ).loc Cert.OutBIdeal.main_arg3)
      ∧ m' ((c.tc : Thread Cert.OutBRefIdeal.nD Cert.OutBRefIdeal.τ).loc Cert.OutBRefIdeal.main_arg4) = m ((c.tc : Thread Cert.OutBIdeal.nD Cert.OutBIdeal.τ).loc Cert.OutBIdeal.main_arg4)
      ∧ m' ((c.tc : Thread Cert.OutBRefIdeal.nD Cert.OutBRefIdeal.τ).loc Cert.OutBRefIdeal.main_arg5) = m ((c.tc : Thread Cert.OutBIdeal.nD Cert.OutBIdeal.τ).loc Cert.OutBIdeal.main_arg5)
      ∧ m' ((c.tc : Thread Cert.OutBRefIdeal.nD Cert.OutBRefIdeal.τ).loc Cert.OutBRefIdeal.main_arg6) = m ((c.tc : Thread Cert.OutBIdeal.nD Cert.OutBIdeal.τ).loc Cert.OutBIdeal.main_arg6)
      ∧ m' ((c.tc : Thread Cert.OutBRefIdeal.nD Cert.OutBRefIdeal.τ).loc Cert.OutBRefIdeal.main_arg7) = m ((c.tc : Thread Cert.OutBIdeal.nD Cert.OutBIdeal.τ).loc Cert.OutBIdeal.main_arg7)) →
    ∃ (v0 : (c : Dev Cert.OutBIdeal.nD) → Buf (Elt Ideal) ((c.tc : Thread Cert.OutBIdeal.nD Cert.OutBIdeal.τ).loc Cert.OutBIdeal.main_v0_0)) (v1 : (c : Dev Cert.OutBIdeal.nD) → Buf (Elt Ideal) ((c.tc : Thread Cert.OutBIdeal.nD Cert.OutBIdeal.τ).loc Cert.OutBIdeal.main_v0_1)) (v2 : (c : Dev Cert.OutBIdeal.nD) → Buf (Elt Ideal) ((c.tc : Thread Cert.OutBIdeal.nD Cert.OutBIdeal.τ).loc Cert.OutBIdeal.main_v0_2)) (v3 : (c : Dev Cert.OutBIdeal.nD) → Buf (Elt Ideal) ((c.tc : Thread Cert.OutBIdeal.nD Cert.OutBIdeal.τ).loc Cert.OutBIdeal.main_v0_3)) (v4 : (c : Dev Cert.OutBIdeal.nD) → Buf (Elt Ideal) ((c.tc : Thread Cert.OutBIdeal.nD Cert.OutBIdeal.τ).loc Cert.OutBIdeal.main_v0_4)) (v5 : (c : Dev Cert.OutBIdeal.nD) → Buf (Elt Ideal) ((c.tc : Thread Cert.OutBIdeal.nD Cert.OutBIdeal.τ).loc Cert.OutBIdeal.main_v0_5)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v0_0) = v0 c
          ∧ r.2.mem ((c.tc : Thread Cert.OutBIdeal.nD Cert.OutBIdeal.τ).loc Cert.OutBIdeal.main_v0_1) = v1 c
          ∧ r.2.mem ((c.tc : Thread Cert.OutBIdeal.nD Cert.OutBIdeal.τ).loc Cert.OutBIdeal.main_v0_2) = v2 c
          ∧ r.2.mem ((c.tc : Thread Cert.OutBIdeal.nD Cert.OutBIdeal.τ).loc Cert.OutBIdeal.main_v0_3) = v3 c
          ∧ r.2.mem ((c.tc : Thread Cert.OutBIdeal.nD Cert.OutBIdeal.τ).loc Cert.OutBIdeal.main_v0_4) = v4 c
          ∧ r.2.mem ((c.tc : Thread Cert.OutBIdeal.nD Cert.OutBIdeal.τ).loc Cert.OutBIdeal.main_v0_5) = v5 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
          ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
          ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3)
          ∧ r.2.mem ((c.tc : Thread Cert.OutBIdeal.nD Cert.OutBIdeal.τ).loc Cert.OutBIdeal.main_arg4) = m ((c.tc : Thread Cert.OutBIdeal.nD Cert.OutBIdeal.τ).loc Cert.OutBIdeal.main_arg4)
          ∧ r.2.mem ((c.tc : Thread Cert.OutBIdeal.nD Cert.OutBIdeal.τ).loc Cert.OutBIdeal.main_arg5) = m ((c.tc : Thread Cert.OutBIdeal.nD Cert.OutBIdeal.τ).loc Cert.OutBIdeal.main_arg5)
          ∧ r.2.mem ((c.tc : Thread Cert.OutBIdeal.nD Cert.OutBIdeal.τ).loc Cert.OutBIdeal.main_arg6) = m ((c.tc : Thread Cert.OutBIdeal.nD Cert.OutBIdeal.τ).loc Cert.OutBIdeal.main_arg6)
          ∧ r.2.mem ((c.tc : Thread Cert.OutBIdeal.nD Cert.OutBIdeal.τ).loc Cert.OutBIdeal.main_arg7) = m ((c.tc : Thread Cert.OutBIdeal.nD Cert.OutBIdeal.τ).loc Cert.OutBIdeal.main_arg7))
      ∧ θ_run (Cert.OutBRefIdeal.defs (F := Ideal)) (onTc (τ := Cert.OutBRefIdeal.τ) (Cert.OutBRefIdeal.main (F := Ideal))) ⟨m', fun _ => 0, g'⟩ (fun r => ∀ c : Dev Cert.OutBRefIdeal.nD,
          r.2.mem ((c.tc : Thread Cert.OutBRefIdeal.nD Cert.OutBRefIdeal.τ).loc Cert.OutBRefIdeal.main_v36) = v0 c
          ∧ r.2.mem ((c.tc : Thread Cert.OutBRefIdeal.nD Cert.OutBRefIdeal.τ).loc Cert.OutBRefIdeal.main_v19) = v1 c
          ∧ r.2.mem ((c.tc : Thread Cert.OutBRefIdeal.nD Cert.OutBRefIdeal.τ).loc Cert.OutBRefIdeal.main_v45) = v2 c
          ∧ r.2.mem ((c.tc : Thread Cert.OutBRefIdeal.nD Cert.OutBRefIdeal.τ).loc Cert.OutBRefIdeal.main_v46) = v3 c
          ∧ r.2.mem ((c.tc : Thread Cert.OutBRefIdeal.nD Cert.OutBRefIdeal.τ).loc Cert.OutBRefIdeal.main_v47) = v4 c
          ∧ r.2.mem ((c.tc : Thread Cert.OutBRefIdeal.nD Cert.OutBRefIdeal.τ).loc Cert.OutBRefIdeal.main_v43) = v5 c
          ∧ r.2.mem ((c.tc : Thread Cert.OutBRefIdeal.nD Cert.OutBRefIdeal.τ).loc Cert.OutBRefIdeal.main_arg0) = m' ((c.tc : Thread Cert.OutBRefIdeal.nD Cert.OutBRefIdeal.τ).loc Cert.OutBRefIdeal.main_arg0)
          ∧ r.2.mem ((c.tc : Thread Cert.OutBRefIdeal.nD Cert.OutBRefIdeal.τ).loc Cert.OutBRefIdeal.main_arg1) = m' ((c.tc : Thread Cert.OutBRefIdeal.nD Cert.OutBRefIdeal.τ).loc Cert.OutBRefIdeal.main_arg1)
          ∧ r.2.mem ((c.tc : Thread Cert.OutBRefIdeal.nD Cert.OutBRefIdeal.τ).loc Cert.OutBRefIdeal.main_arg2) = m' ((c.tc : Thread Cert.OutBRefIdeal.nD Cert.OutBRefIdeal.τ).loc Cert.OutBRefIdeal.main_arg2)
          ∧ r.2.mem ((c.tc : Thread Cert.OutBRefIdeal.nD Cert.OutBRefIdeal.τ).loc Cert.OutBRefIdeal.main_arg3) = m' ((c.tc : Thread Cert.OutBRefIdeal.nD Cert.OutBRefIdeal.τ).loc Cert.OutBRefIdeal.main_arg3)
          ∧ r.2.mem ((c.tc : Thread Cert.OutBRefIdeal.nD Cert.OutBRefIdeal.τ).loc Cert.OutBRefIdeal.main_arg4) = m' ((c.tc : Thread Cert.OutBRefIdeal.nD Cert.OutBRefIdeal.τ).loc Cert.OutBRefIdeal.main_arg4)
          ∧ r.2.mem ((c.tc : Thread Cert.OutBRefIdeal.nD Cert.OutBRefIdeal.τ).loc Cert.OutBRefIdeal.main_arg5) = m' ((c.tc : Thread Cert.OutBRefIdeal.nD Cert.OutBRefIdeal.τ).loc Cert.OutBRefIdeal.main_arg5)
          ∧ r.2.mem ((c.tc : Thread Cert.OutBRefIdeal.nD Cert.OutBRefIdeal.τ).loc Cert.OutBRefIdeal.main_arg6) = m' ((c.tc : Thread Cert.OutBRefIdeal.nD Cert.OutBRefIdeal.τ).loc Cert.OutBRefIdeal.main_arg6)
          ∧ r.2.mem ((c.tc : Thread Cert.OutBRefIdeal.nD Cert.OutBRefIdeal.τ).loc Cert.OutBRefIdeal.main_arg7) = m' ((c.tc : Thread Cert.OutBRefIdeal.nD Cert.OutBRefIdeal.τ).loc Cert.OutBRefIdeal.main_arg7))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)
      ∧ m' ((c.tc : Thread Cert.InBRefIdeal.nD Cert.InBRefIdeal.τ).loc Cert.InBRefIdeal.main_arg3) = m ((c.tc : Thread Cert.InBIdeal.nD Cert.InBIdeal.τ).loc Cert.InBIdeal.main_arg3)
      ∧ m' ((c.tc : Thread Cert.InBRefIdeal.nD Cert.InBRefIdeal.τ).loc Cert.InBRefIdeal.main_arg4) = m ((c.tc : Thread Cert.InBIdeal.nD Cert.InBIdeal.τ).loc Cert.InBIdeal.main_arg4)
      ∧ m' ((c.tc : Thread Cert.InBRefIdeal.nD Cert.InBRefIdeal.τ).loc Cert.InBRefIdeal.main_arg5) = m ((c.tc : Thread Cert.InBIdeal.nD Cert.InBIdeal.τ).loc Cert.InBIdeal.main_arg5)
      ∧ m' ((c.tc : Thread Cert.InBRefIdeal.nD Cert.InBRefIdeal.τ).loc Cert.InBRefIdeal.main_arg6) = m ((c.tc : Thread Cert.InBIdeal.nD Cert.InBIdeal.τ).loc Cert.InBIdeal.main_arg6)
      ∧ m' ((c.tc : Thread Cert.InBRefIdeal.nD Cert.InBRefIdeal.τ).loc Cert.InBRefIdeal.main_arg7) = m ((c.tc : Thread Cert.InBIdeal.nD Cert.InBIdeal.τ).loc Cert.InBIdeal.main_arg7)
      ∧ m' ((c.tc : Thread Cert.InBRefIdeal.nD Cert.InBRefIdeal.τ).loc Cert.InBRefIdeal.main_arg8) = m ((c.tc : Thread Cert.InBIdeal.nD Cert.InBIdeal.τ).loc Cert.InBIdeal.main_arg8)
      ∧ m' ((c.tc : Thread Cert.InBRefIdeal.nD Cert.InBRefIdeal.τ).loc Cert.InBRefIdeal.main_arg9) = m ((c.tc : Thread Cert.InBIdeal.nD Cert.InBIdeal.τ).loc Cert.InBIdeal.main_arg9)
      ∧ m' ((c.tc : Thread Cert.InBRefIdeal.nD Cert.InBRefIdeal.τ).loc Cert.InBRefIdeal.main_arg10) = m ((c.tc : Thread Cert.InBIdeal.nD Cert.InBIdeal.τ).loc Cert.InBIdeal.main_arg10)
      ∧ m' ((c.tc : Thread Cert.InBRefIdeal.nD Cert.InBRefIdeal.τ).loc Cert.InBRefIdeal.main_arg11) = m ((c.tc : Thread Cert.InBIdeal.nD Cert.InBIdeal.τ).loc Cert.InBIdeal.main_arg11)
      ∧ m' ((c.tc : Thread Cert.InBRefIdeal.nD Cert.InBRefIdeal.τ).loc Cert.InBRefIdeal.main_arg12) = m ((c.tc : Thread Cert.InBIdeal.nD Cert.InBIdeal.τ).loc Cert.InBIdeal.main_arg12)) →
    ∃ (v0 : (c : Dev Cert.InBIdeal.nD) → Buf (Elt Ideal) ((c.tc : Thread Cert.InBIdeal.nD Cert.InBIdeal.τ).loc Cert.InBIdeal.main_v4_0)) (v1 : (c : Dev Cert.InBIdeal.nD) → Buf (Elt Ideal) ((c.tc : Thread Cert.InBIdeal.nD Cert.InBIdeal.τ).loc Cert.InBIdeal.main_v4_1)) (v2 : (c : Dev Cert.InBIdeal.nD) → Buf (Elt Ideal) ((c.tc : Thread Cert.InBIdeal.nD Cert.InBIdeal.τ).loc Cert.InBIdeal.main_v4_2)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v4_0) = v0 c
          ∧ r.2.mem ((c.tc : Thread Cert.InBIdeal.nD Cert.InBIdeal.τ).loc Cert.InBIdeal.main_v4_1) = v1 c
          ∧ r.2.mem ((c.tc : Thread Cert.InBIdeal.nD Cert.InBIdeal.τ).loc Cert.InBIdeal.main_v4_2) = v2 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
          ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
          ∧ r.2.mem ((c.tc : Thread Cert.InBIdeal.nD Cert.InBIdeal.τ).loc Cert.InBIdeal.main_arg4) = m ((c.tc : Thread Cert.InBIdeal.nD Cert.InBIdeal.τ).loc Cert.InBIdeal.main_arg4)
          ∧ r.2.mem ((c.tc : Thread Cert.InBIdeal.nD Cert.InBIdeal.τ).loc Cert.InBIdeal.main_arg5) = m ((c.tc : Thread Cert.InBIdeal.nD Cert.InBIdeal.τ).loc Cert.InBIdeal.main_arg5)
          ∧ r.2.mem ((c.tc : Thread Cert.InBIdeal.nD Cert.InBIdeal.τ).loc Cert.InBIdeal.main_arg6) = m ((c.tc : Thread Cert.InBIdeal.nD Cert.InBIdeal.τ).loc Cert.InBIdeal.main_arg6)
          ∧ r.2.mem ((c.tc : Thread Cert.InBIdeal.nD Cert.InBIdeal.τ).loc Cert.InBIdeal.main_arg7) = m ((c.tc : Thread Cert.InBIdeal.nD Cert.InBIdeal.τ).loc Cert.InBIdeal.main_arg7)
          ∧ r.2.mem ((c.tc : Thread Cert.InBIdeal.nD Cert.InBIdeal.τ).loc Cert.InBIdeal.main_arg8) = m ((c.tc : Thread Cert.InBIdeal.nD Cert.InBIdeal.τ).loc Cert.InBIdeal.main_arg8)
          ∧ r.2.mem ((c.tc : Thread Cert.InBIdeal.nD Cert.InBIdeal.τ).loc Cert.InBIdeal.main_arg9) = m ((c.tc : Thread Cert.InBIdeal.nD Cert.InBIdeal.τ).loc Cert.InBIdeal.main_arg9)
          ∧ r.2.mem ((c.tc : Thread Cert.InBIdeal.nD Cert.InBIdeal.τ).loc Cert.InBIdeal.main_arg10) = m ((c.tc : Thread Cert.InBIdeal.nD Cert.InBIdeal.τ).loc Cert.InBIdeal.main_arg10)
          ∧ r.2.mem ((c.tc : Thread Cert.InBIdeal.nD Cert.InBIdeal.τ).loc Cert.InBIdeal.main_arg11) = m ((c.tc : Thread Cert.InBIdeal.nD Cert.InBIdeal.τ).loc Cert.InBIdeal.main_arg11)
          ∧ r.2.mem ((c.tc : Thread Cert.InBIdeal.nD Cert.InBIdeal.τ).loc Cert.InBIdeal.main_arg12) = m ((c.tc : Thread Cert.InBIdeal.nD Cert.InBIdeal.τ).loc Cert.InBIdeal.main_arg12))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v132) = v0 c
          ∧ r.2.mem ((c.tc : Thread Cert.InBRefIdeal.nD Cert.InBRefIdeal.τ).loc Cert.InBRefIdeal.main_v115) = v1 c
          ∧ r.2.mem ((c.tc : Thread Cert.InBRefIdeal.nD Cert.InBRefIdeal.τ).loc Cert.InBRefIdeal.main_v111) = v2 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2)
          ∧ r.2.mem ((c.tc : Thread Cert.InBRefIdeal.nD Cert.InBRefIdeal.τ).loc Cert.InBRefIdeal.main_arg3) = m' ((c.tc : Thread Cert.InBRefIdeal.nD Cert.InBRefIdeal.τ).loc Cert.InBRefIdeal.main_arg3)
          ∧ r.2.mem ((c.tc : Thread Cert.InBRefIdeal.nD Cert.InBRefIdeal.τ).loc Cert.InBRefIdeal.main_arg4) = m' ((c.tc : Thread Cert.InBRefIdeal.nD Cert.InBRefIdeal.τ).loc Cert.InBRefIdeal.main_arg4)
          ∧ r.2.mem ((c.tc : Thread Cert.InBRefIdeal.nD Cert.InBRefIdeal.τ).loc Cert.InBRefIdeal.main_arg5) = m' ((c.tc : Thread Cert.InBRefIdeal.nD Cert.InBRefIdeal.τ).loc Cert.InBRefIdeal.main_arg5)
          ∧ r.2.mem ((c.tc : Thread Cert.InBRefIdeal.nD Cert.InBRefIdeal.τ).loc Cert.InBRefIdeal.main_arg6) = m' ((c.tc : Thread Cert.InBRefIdeal.nD Cert.InBRefIdeal.τ).loc Cert.InBRefIdeal.main_arg6)
          ∧ r.2.mem ((c.tc : Thread Cert.InBRefIdeal.nD Cert.InBRefIdeal.τ).loc Cert.InBRefIdeal.main_arg7) = m' ((c.tc : Thread Cert.InBRefIdeal.nD Cert.InBRefIdeal.τ).loc Cert.InBRefIdeal.main_arg7)
          ∧ r.2.mem ((c.tc : Thread Cert.InBRefIdeal.nD Cert.InBRefIdeal.τ).loc Cert.InBRefIdeal.main_arg8) = m' ((c.tc : Thread Cert.InBRefIdeal.nD Cert.InBRefIdeal.τ).loc Cert.InBRefIdeal.main_arg8)
          ∧ r.2.mem ((c.tc : Thread Cert.InBRefIdeal.nD Cert.InBRefIdeal.τ).loc Cert.InBRefIdeal.main_arg9) = m' ((c.tc : Thread Cert.InBRefIdeal.nD Cert.InBRefIdeal.τ).loc Cert.InBRefIdeal.main_arg9)
          ∧ r.2.mem ((c.tc : Thread Cert.InBRefIdeal.nD Cert.InBRefIdeal.τ).loc Cert.InBRefIdeal.main_arg10) = m' ((c.tc : Thread Cert.InBRefIdeal.nD Cert.InBRefIdeal.τ).loc Cert.InBRefIdeal.main_arg10)
          ∧ r.2.mem ((c.tc : Thread Cert.InBRefIdeal.nD Cert.InBRefIdeal.τ).loc Cert.InBRefIdeal.main_arg11) = m' ((c.tc : Thread Cert.InBRefIdeal.nD Cert.InBRefIdeal.τ).loc Cert.InBRefIdeal.main_arg11)
          ∧ r.2.mem ((c.tc : Thread Cert.InBRefIdeal.nD Cert.InBRefIdeal.τ).loc Cert.InBRefIdeal.main_arg12) = m' ((c.tc : Thread Cert.InBRefIdeal.nD Cert.InBRefIdeal.τ).loc Cert.InBRefIdeal.main_arg12))

def Claim : Prop :=
  ∃ (hConv : Cert.Conv.Facts) (hConvIdeal : Cert.ConvIdeal.Facts) (hConvRefIdeal : Cert.ConvRefIdeal.Facts) (hFfn : Cert.Ffn.Facts) (hFfnIdeal : Cert.FfnIdeal.Facts) (hFfnRefIdeal : Cert.FfnRefIdeal.Facts) (hFfnF : Cert.FfnF.Facts) (hFfnFIdeal : Cert.FfnFIdeal.Facts) (hFfnFRefIdeal : Cert.FfnFRefIdeal.Facts) (hOutF : Cert.OutF.Facts) (hOutFIdeal : Cert.OutFIdeal.Facts) (hOutFRefIdeal : Cert.OutFRefIdeal.Facts) (hOutB : Cert.OutB.Facts) (hOutBIdeal : Cert.OutBIdeal.Facts) (hOutBRefIdeal : Cert.OutBRefIdeal.Facts) (hInB : Cert.InB.Facts) (hInBIdeal : Cert.InBIdeal.Facts) (hInBRefIdeal : Cert.InBRefIdeal.Facts) (hPre_ffn_finite : Cert.Pre_ffn_finite.Facts),
    quiescent_Conv (hConv := hConv)
    ∧ quiescent_ConvIdeal (hConvIdeal := hConvIdeal)
    ∧ quiescent_ConvRefIdeal (hConvRefIdeal := hConvRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_FfnF (hFfnF := hFfnF)
    ∧ quiescent_FfnFIdeal (hFfnFIdeal := hFfnFIdeal)
    ∧ quiescent_FfnFRefIdeal (hFfnFRefIdeal := hFfnFRefIdeal)
    ∧ quiescent_OutF (hOutF := hOutF)
    ∧ quiescent_OutFIdeal (hOutFIdeal := hOutFIdeal)
    ∧ quiescent_OutFRefIdeal (hOutFRefIdeal := hOutFRefIdeal)
    ∧ quiescent_OutB (hOutB := hOutB)
    ∧ quiescent_OutBIdeal (hOutBIdeal := hOutBIdeal)
    ∧ quiescent_OutBRefIdeal (hOutBRefIdeal := hOutBRefIdeal)
    ∧ quiescent_InB (hInB := hInB)
    ∧ quiescent_InBIdeal (hInBIdeal := hInBIdeal)
    ∧ quiescent_InBRefIdeal (hInBRefIdeal := hInBRefIdeal)
    ∧ preserves_Conv_ConvIdeal
    ∧ algebraic_ConvIdeal_ConvRefIdeal (hConvIdeal := hConvIdeal) (hConvRefIdeal := hConvRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_FfnF_FfnFIdeal
    ∧ algebraic_FfnFIdeal_FfnFRefIdeal (hFfnFIdeal := hFfnFIdeal) (hFfnFRefIdeal := hFfnFRefIdeal)
    ∧ preserves_OutF_OutFIdeal
    ∧ algebraic_OutFIdeal_OutFRefIdeal (hOutFIdeal := hOutFIdeal) (hOutFRefIdeal := hOutFRefIdeal)
    ∧ preserves_OutB_OutBIdeal
    ∧ algebraic_OutBIdeal_OutBRefIdeal (hOutBIdeal := hOutBIdeal) (hOutBRefIdeal := hOutBRefIdeal)
    ∧ preserves_InB_InBIdeal
    ∧ algebraic_InBIdeal_InBRefIdeal (hInBIdeal := hInBIdeal) (hInBRefIdeal := hInBRefIdeal)
-- ==== Pre_ffn_finite.lean ====
abbrev S4096x1024 : Shape := ⟨2, ![4096, 1024]⟩
abbrev S1x1024 : Shape := ⟨2, ![1, 1024]⟩
abbrev S4x2112x1024 : Shape := ⟨3, ![4, 2112, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S4x2112x1024 : S_.BroadcastsInDim S4x2112x1024 (![] : Fin 0 → Fin S4x2112x1024.rank)
  reducesTo_S4x2112x1024_S_d0_1_2 : S4x2112x1024.ReducesTo [0, 1, 2] S_

variable [Facts]

def fn_part1 {F : FTy → Type} [FloatOps F] (main_v3 : IVec S_ 1) (main_v7 : IVec S_ 1) (main_v12 : IVec S_ 1) (main_v15 : IVec S4096x1024 1) (main_c_5 : IVec S_ 1) : IVec S_ 1 :=
  let main_v16 : IVec S_ 1 := (fun x v => Host.reduce IntOp.andi x v reducesTo_S4096x1024_S_d0_1 h_S_) main_v15 main_c_5
  let main_v17 : IVec S_ 1 := andi main_v3 main_v7
  let main_v18 : IVec S_ 1 := andi main_v17 main_v12
  let main_v19 : IVec S_ 1 := andi main_v18 main_v16
  main_v19

def fn {F : FTy → Type} [FloatOps F] (main_arg0 : FVec F S4096x1024 .f32) (main_arg1 : FVec F S1x1024 .f32) (main_arg2 : FVec F S4x2112x1024 .bf16) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S4x2112x1024 .f32 := (extf .f32 · bitsLt_bf16_f32) main_arg2
  let main_v9 : FVec F S4x2112x1024 .f32 := Host.absf main_v8
  let main_cst_2 : FVec F S_ .f32 := constant S_ .f32 0x7F800000#32
  let main_v10 : FVec F S4x2112x1024 .f32 := broadcastInDim S4x2112x1024 ![] bcast_S_S4x2112x1024 main_cst_2
  let main_v11 : IVec S4x2112x1024 1 := cmpf .olt main_v9 main_v10
  let main_c_3 : IVec S_ 1 := constantI S_ 1 1#1
  let main_v12 : IVec S_ 1 := (fun x v => Host.reduce IntOp.andi x v reducesTo_S4x2112x1024_S_d0_1_2 h_S_) main_v11 main_c_3
  let main_v13 : FVec F S4096x1024 .f32 := Host.absf main_arg3
  let main_cst_4 : FVec F S_ .f32 := constant S_ .f32 0x7F800000#32
  let main_v14 : FVec F S4096x1024 .f32 := broadcastInDim S4096x1024 ![] bcast_S_S4096x1024 main_cst_4
  let main_v15 : IVec S4096x1024 1 := cmpf .olt main_v13 main_v14
  let main_c_5 : IVec S_ 1 := constantI S_ 1 1#1
  fn_part1 (F := F) main_v3 main_v7 main_v12 main_v15 main_c_5
-- ==== Conv.lean ====
abbrev S4096x1536 : Shape := ⟨2, ![4096, 1536]⟩
abbrev S4x1536 : Shape := ⟨2, ![4, 1536]⟩
abbrev S_ : Shape := ⟨0, ![]⟩
abbrev S8x1536 : Shape := ⟨2, ![8, 1536]⟩
abbrev S256x1536 : Shape := ⟨2, ![256, 1536]⟩
abbrev S264x1536 : Shape := ⟨2, ![264, 1536]⟩
abbrev S1x1536 : Shape := ⟨2, ![1, 1536]⟩
abbrev S1536 : Shape := ⟨1, ![1536]⟩

abbrev nBuf : Space → Nat
  | .hbm => 8
  | .vmem => 12
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S4096x1536, .f32⟩
  | .hbm, ⟨3, _⟩ => ⟨S_, .i32⟩
  | .hbm, ⟨4, _⟩ => ⟨S_, .f32⟩
  | .hbm, ⟨5, _⟩ => ⟨S8x1536, .f32⟩
  | .hbm, ⟨6, _⟩ => ⟨S4096x1536, .f32⟩
  | .hbm, ⟨7, _⟩ => ⟨S8x1536, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S256x1536, .f32⟩
  | .local _ .vmem, ⟨6, _⟩ => ⟨S256x1536, .f32⟩
  | .local _ .vmem, ⟨7, _⟩ => ⟨S8x1536, .f32⟩
  | .local _ .vmem, ⟨8, _⟩ => ⟨S8x1536, .f32⟩
  | .local _ .vmem, ⟨9, _⟩ => ⟨S256x1536, .f32⟩
  | .local _ .vmem, ⟨10, _⟩ => ⟨S256x1536, .f32⟩
  | .local _ .vmem, ⟨11, _⟩ => ⟨S8x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvRefIdeal.lean ====
abbrev S4096x1536 : Shape := ⟨2, ![4096, 1536]⟩
abbrev S4x1536 : Shape := ⟨2, ![4, 1536]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩
abbrev S1536 : Shape := ⟨1, ![1536]⟩
abbrev S8x1536 : Shape := ⟨2, ![8, 1536]⟩

abbrev nBuf : Space → Nat
  | .hbm => 103
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S4096x1536, .f32⟩
  | .hbm, ⟨3, _⟩ => ⟨S_, .f32⟩
  | .hbm, ⟨4, _⟩ => ⟨S3x1536, .f32⟩
  | .hbm, ⟨5, _⟩ => ⟨S4099x1536, .f32⟩
  | .hbm, ⟨6, _⟩ => ⟨S_, .f32⟩
  | .hbm, ⟨7, _⟩ => ⟨S3x1536, .f32⟩
  | .hbm, ⟨8, _⟩ => ⟨S1x1536, .f32⟩
  | .hbm, ⟨9, _⟩ => ⟨S1536, .f32⟩
  | .hbm, ⟨10, _⟩ => ⟨S4096x1536, .f32⟩
  | .hbm, ⟨11, _⟩ => ⟨S1x1536, .f32⟩
  | .hbm, ⟨12, _⟩ => ⟨S4096x1536, .f32⟩
  | .hbm, ⟨13, _⟩ => ⟨S4096x1536, .f32⟩
  | .hbm, ⟨14, _⟩ => ⟨S_, .f32⟩
  | .hbm, ⟨15, _⟩ => ⟨S4096x1536, .f32⟩
  | .hbm, ⟨16, _⟩ => ⟨S4096x1536, .f32⟩
  | .hbm, ⟨17, _⟩ => ⟨S1x1536, .f32⟩
  | .hbm, ⟨18, _⟩ => ⟨S1536, .f32⟩
  | .hbm, ⟨19, _⟩ => ⟨S4096x1536, .f32⟩
  | .hbm, ⟨20, _⟩ => ⟨S1x1536, .f32⟩
  | .hbm, ⟨21, _⟩ => ⟨S4096x1536, .f32⟩
  | .hbm, ⟨22, _⟩ => ⟨S4096x1536, .f32⟩
  | .hbm, ⟨23, _⟩ => ⟨S4096x1536, .f32⟩
  | .hbm, ⟨24, _⟩ => ⟨S1x1536, .f32⟩
  | .hbm, ⟨25, _⟩ => ⟨S1536, .f32⟩
  | .hbm, ⟨26, _⟩ => ⟨S4096x1536, .f32⟩
  | .hbm, ⟨27, _⟩ => ⟨S1x1536, .f32⟩
  | .hbm, ⟨28, _⟩ => ⟨S4096x1536, .f32⟩
  | .hbm, ⟨29, _⟩ => ⟨S4096x1536, .f32⟩
  | .hbm, ⟨30, _⟩ => ⟨S4096x1536, .f32⟩
  | .hbm, ⟨31, _⟩ => ⟨S1x1536, .f32⟩
  | .hbm, ⟨32, _⟩ => ⟨S1536, .f32⟩
  | .hbm, ⟨33, _⟩ => ⟨S4096x1536, .f32⟩
  | .hbm, ⟨34, _⟩ => ⟨S1x1536, .f32⟩
  | .hbm, ⟨35, _⟩ => ⟨S4096x1536, .f32⟩
  | .hbm, ⟨36, _⟩ => ⟨S4096x1536, .f32⟩
  | .hbm, ⟨37, _⟩ => ⟨S4096x1536, .f32⟩
  | .hbm, ⟨38, _⟩ => ⟨S4096x1536, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S4096x1536, .f32⟩
  | .hbm, ⟨43, _⟩ => ⟨S_, .f32⟩
  | .hbm, ⟨44, _⟩ => ⟨S1536, .f32⟩
  | .hbm, ⟨45, _⟩ => ⟨S1x1536, .f32⟩
  | .hbm, ⟨46, _⟩ => ⟨S_, .f32⟩
  | .hbm, ⟨47, _⟩ => ⟨S1536, .f32⟩
  | .hbm, ⟨48, _⟩ => ⟨S_, .f32⟩
  | .hbm, ⟨49, _⟩ => ⟨S4099x1536, .f32⟩
  | .hbm, ⟨50, _⟩ => ⟨S1x1536, .f32⟩
  | .hbm, ⟨51, _⟩ => ⟨S_, .f32⟩
  | .hbm, ⟨52, _⟩ => ⟨S4x1536, .f32⟩
  | .hbm, ⟨53, _⟩ => ⟨S4096x1536, .f32⟩
  | .hbm, ⟨54, _⟩ => ⟨S4096x1536, .f32⟩
  | .hbm, ⟨55, _⟩ => ⟨S4096x1536, .f32⟩
  | .hbm, ⟨56, _⟩ => ⟨S_, .f32⟩
  | .hbm, ⟨57, _⟩ => ⟨S1536, .f32⟩
  | .hbm, ⟨58, _⟩ => ⟨S1x1536, .f32⟩
  | .hbm, ⟨59, _⟩ => ⟨S_, .f32⟩
  | .hbm, ⟨60, _⟩ => ⟨S1536, .f32⟩
  | .hbm, ⟨61, _⟩ => ⟨S_, .f32⟩
  | .hbm, ⟨62, _⟩ => ⟨S4099x1536, .f32⟩
  | .hbm, ⟨63, _⟩ => ⟨S4099x1536, .f32⟩
  | .hbm, ⟨64, _⟩ => ⟨S1x1536, .f32⟩
  | .hbm, ⟨65, _⟩ => ⟨S_, .f32⟩
  | .hbm, ⟨66, _⟩ => ⟨S4x1536, .f32⟩
  | .hbm, ⟨67, _⟩ => ⟨S4x1536, .f32⟩
  | .hbm, ⟨68, _⟩ => ⟨S4096x1536, .f32⟩
  | .hbm, ⟨69, _⟩ => ⟨S4096x1536, .f32⟩
  | .hbm, ⟨70, _⟩ => ⟨S4096x1536, .f32⟩
  | .hbm, ⟨71, _⟩ => ⟨S_, .f32⟩
  | .hbm, ⟨72, _⟩ => ⟨S1536, .f32⟩
  | .hbm, ⟨73, _⟩ => ⟨S1x1536, .f32⟩
  | .hbm, ⟨74, _⟩ => ⟨S_, .f32⟩
  | .hbm, ⟨75, _⟩ => ⟨S1536, .f32⟩
  | .hbm, ⟨76, _⟩ => ⟨S_, .f32⟩
  | .hbm, ⟨77, _⟩ => ⟨S4099x1536, .f32⟩
  | .hbm, ⟨78, _⟩ => ⟨S4099x1536, .f32⟩
  | .hbm, ⟨79, _⟩ => ⟨S1x1536, .f32⟩
  | .hbm, ⟨80, _⟩ => ⟨S_, .f32⟩
  | .hbm, ⟨81, _⟩ => ⟨S4x1536, .f32⟩
  | .hbm, ⟨82, _⟩ => ⟨S4x1536, .f32⟩
  | .hbm, ⟨83, _⟩ => ⟨S4096x1536, .f32⟩
  | .hbm, ⟨84, _⟩ => ⟨S4096x1536, .f32⟩
  | .hbm, ⟨85, _⟩ => ⟨S4096x1536, .f32⟩
  | .hbm, ⟨86, _⟩ => ⟨S_, .f32⟩
  | .hbm, ⟨87, _⟩ => ⟨S1536, .f32⟩
  | .hbm, ⟨88, _⟩ => ⟨S1x1536, .f32⟩
  | .hbm, ⟨89, _⟩ => ⟨S_, .f32⟩
  | .hbm, ⟨90, _⟩ => ⟨S1536, .f32⟩
  | .hbm, ⟨91, _⟩ => ⟨S_, .f32⟩
  | .hbm, ⟨92, _⟩ => ⟨S4099x1536, .f32⟩
  | .hbm, ⟨93, _⟩ => ⟨S4099x1536, .f32⟩
  | .hbm, ⟨94, _⟩ => ⟨S1x1536, .f32⟩
  | .hbm, ⟨95, _⟩ => ⟨S_, .f32⟩
  | .hbm, ⟨96, _⟩ => ⟨S4x1536, .f32⟩
  | .hbm, ⟨97, _⟩ => ⟨S4x1536, .f32⟩
  | .hbm, ⟨98, _⟩ => ⟨S3x1536, .f32⟩
  | .hbm, ⟨99, _⟩ => ⟨S4096x1536, .f32⟩
  | .hbm, ⟨100, _⟩ => ⟨S_, .i32⟩
  | .hbm, ⟨101, _⟩ => ⟨S_, .f32⟩
  | .hbm, ⟨102, _⟩ => ⟨S8x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_cst_15 : Ref sig .tc := ⟨.hbm, 89, rfl⟩
abbrev main_v70 : Ref sig .tc := ⟨.hbm, 90, rfl⟩
abbrev main_cst_16 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_17 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c : Ref sig .tc := ⟨.hbm, 100, rfl⟩
abbrev main_call0_v0 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S4x2112x1024 : Shape := ⟨3, ![4, 2112, 1024]⟩
abbrev S4x704x1024 : Shape := ⟨3, ![4, 704, 1024]⟩
abbrev S4x4096x1024 : Shape := ⟨3, ![4, 4096, 1024]⟩
abbrev S512x1024 : Shape := ⟨2, ![512, 1024]⟩
abbrev S1x704x1024 : Shape := ⟨3, ![1, 704, 1024]⟩
abbrev S1x512x1024 : Shape := ⟨3, ![1, 512, 1024]⟩
abbrev S704x1024 : Shape := ⟨2, ![704, 1024]⟩
abbrev S512 : Shape := ⟨1, ![512]⟩
abbrev S512x1 : Shape := ⟨2, ![512, 1]⟩
abbrev S512x704 : Shape := ⟨2, ![512, 704]⟩

abbrev nBuf : Space → Nat
  | .hbm => 8
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x2112x1024, .bf16⟩
  | .hbm, ⟨3, _⟩ => ⟨S4096x1024, .f32⟩
  | .hbm, ⟨4, _⟩ => ⟨S4x704x1024, .bf16⟩
  | .hbm, ⟨5, _⟩ => ⟨S4x704x1024, .bf16⟩
  | .hbm, ⟨6, _⟩ => ⟨S4x704x1024, .bf16⟩
  | .hbm, ⟨7, _⟩ => ⟨S4x4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S512x1024, .f32⟩
  | .local _ .vmem, ⟨10, _⟩ => ⟨S512x1024, .f32⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S704x1024, .f32⟩
  | .local _ .vmem, ⟨20, _⟩ => ⟨S704x1024, .f32⟩
  | .local _ .vmem, ⟨21, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v75 : BitVec 1 := Scalar.cmpi .eq arg1 c7_i32
  let v76 : BitVec 32 := Scalar.extui v75
  let c0_i32_49 : BitVec 32 := 0#32
  let v77 : BitVec 1 := Scalar.cmpi .ne v76 c0_i32_49
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S4096x1024 : Shape := ⟨2, ![4096, 1024]⟩
abbrev S1x1024 : Shape := ⟨2, ![1, 1024]⟩
abbrev S4x2112x1024 : Shape := ⟨3, ![4, 2112, 1024]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S4x4096x1024 : Shape := ⟨3, ![4, 4096, 1024]⟩
abbrev S4x4096x704 : Shape := ⟨3, ![4, 4096, 704]⟩
abbrev S1024x4x704 : Shape := ⟨3, ![1024, 4, 704]⟩
abbrev S4096x4x704 : Shape := ⟨3, ![4096, 4, 704]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x2112x1024, .bf16⟩
  | .hbm, ⟨3, _⟩ => ⟨S4096x1024, .f32⟩
  | .hbm, ⟨4, _⟩ => ⟨S4x704x1024, .bf16⟩
  | .hbm, ⟨5, _⟩ => ⟨S4x704x1024, .f32⟩
  | .hbm, ⟨6, _⟩ => ⟨S4x704x1024, .bf16⟩
  | .hbm, ⟨7, _⟩ => ⟨S4x704x1024, .f32⟩
  | .hbm, ⟨8, _⟩ => ⟨S4x704x1024, .bf16⟩
  | .hbm, ⟨9, _⟩ => ⟨S4x704x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4x4096x1024, .f32⟩
  | .hbm, ⟨26, _⟩ => ⟨S4x4096x704, .f32⟩
  | .hbm, ⟨27, _⟩ => ⟨S4x4096x704, .f32⟩
  | .hbm, ⟨28, _⟩ => ⟨S4x4096x704, .f32⟩
  | .hbm, ⟨29, _⟩ => ⟨S4x4096x704, .f32⟩
  | .hbm, ⟨30, _⟩ => ⟨S_, .f32⟩
  | .hbm, ⟨31, _⟩ => ⟨S4x4096x704, .f32⟩
  | .hbm, ⟨32, _⟩ => ⟨S4x4096x704, .f32⟩
  | .hbm, ⟨33, _⟩ => ⟨S_, .f32⟩
  | .hbm, ⟨34, _⟩ => ⟨S4x4096x704, .f32⟩
  | .hbm, ⟨35, _⟩ => ⟨S4x4096x704, .f32⟩
  | .hbm, ⟨36, _⟩ => ⟨S_, .f32⟩
  | .hbm, ⟨37, _⟩ => ⟨S4x4096x704, .f32⟩
  | .hbm, ⟨38, _⟩ => ⟨S4x4096x704, .f32⟩
  | .hbm, ⟨39, _⟩ => ⟨S4x4096x704, .f32⟩
  | .hbm, ⟨40, _⟩ => ⟨S4x4096x704, .f32⟩
  | .hbm, ⟨41, _⟩ => ⟨S4x4096x704, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S1024x4x704, .f32⟩
  | .hbm, ⟨50, _⟩ => ⟨S4x704x1024, .f32⟩
  | .hbm, ⟨51, _⟩ => ⟨S4096x4x704, .f32⟩
  | .hbm, ⟨52, _⟩ => ⟨S4x4096x704, .f32⟩
  | .hbm, ⟨53, _⟩ => ⟨S4x4096x704, .f32⟩
  | .hbm, ⟨54, _⟩ => ⟨S4x4096x704, .f32⟩
  | .hbm, ⟨55, _⟩ => ⟨S4x4096x704, .f32⟩
  | .hbm, ⟨56, _⟩ => ⟨S4x4096x704, .f32⟩
  | .hbm, ⟨57, _⟩ => ⟨S4x4096x704, .f32⟩
  | .hbm, ⟨58, _⟩ => ⟨S4x4096x704, .f32⟩
  | .hbm, ⟨59, _⟩ => ⟨S4x704x1024, .f32⟩
  | .hbm, ⟨60, _⟩ => ⟨S4x4096x1024, .f32⟩
  | .hbm, ⟨61, _⟩ => ⟨S4x704x1024, .f32⟩
  | .hbm, ⟨62, _⟩ => ⟨S4x4096x1024, .f32⟩
  | .hbm, ⟨63, _⟩ => ⟨S4x4096x1024, .f32⟩
  | .hbm, ⟨64, _⟩ => ⟨S4x704x1024, .bf16⟩
  | .hbm, ⟨65, _⟩ => ⟨S4x704x1024, .bf16⟩
  | .hbm, ⟨66, _⟩ => ⟨S4x704x1024, .bf16⟩
  | .hbm, ⟨67, _⟩ => ⟨S4x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v21_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v21_1 : Ref sig .tc := ⟨.hbm, 39, rfl⟩
abbrev main_v21_0 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== FfnF.lean ====
abbrev S4096x1024 : Shape := ⟨2, ![4096, 1024]⟩
abbrev S1x1024 : Shape := ⟨2, ![1, 1024]⟩
abbrev S4x2112x1024 : Shape := ⟨3, ![4, 2112, 1024]⟩
abbrev S512x1024 : Shape := ⟨2, ![512, 1024]⟩
abbrev S1x704x1024 : Shape := ⟨3, ![1, 704, 1024]⟩
abbrev S512 : Shape := ⟨1, ![512]⟩
abbrev S512x1 : Shape := ⟨2, ![512, 1]⟩
abbrev S704x1024 : Shape := ⟨2, ![704, 1024]⟩
abbrev S512x704 : Shape := ⟨2, ![512, 704]⟩

abbrev nBuf : Space → Nat
  | .hbm => 4
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x2112x1024, .bf16⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnFRefIdeal.lean ====
abbrev S4096x1024 : Shape := ⟨2, ![4096, 1024]⟩
abbrev S1x1024 : Shape := ⟨2, ![1, 1024]⟩
abbrev S4x2112x1024 : Shape := ⟨3, ![4, 2112, 1024]⟩
abbrev S4x704x1024 : Shape := ⟨3, ![4, 704, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x2112x1024, .bf16⟩
  | .hbm, ⟨3, _⟩ => ⟨S4x704x1024, .bf16⟩
  | .hbm, ⟨4, _⟩ => ⟨S4x704x1024, .f32⟩
  | .hbm, ⟨5, _⟩ => ⟨S2816x1024, .f32⟩
  | .hbm, ⟨6, _⟩ => ⟨S4x704x1024, .bf16⟩
  | .hbm, ⟨7, _⟩ => ⟨S4x704x1024, .f32⟩
  | .hbm, ⟨8, _⟩ => ⟨S2816x1024, .f32⟩
  | .hbm, ⟨9, _⟩ => ⟨S4x704x1024, .bf16⟩
  | .hbm, ⟨10, _⟩ => ⟨S4x704x1024, .f32⟩
  | .hbm, ⟨11, _⟩ => ⟨S2816x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x2816, .f32⟩
  | .hbm, ⟨28, _⟩ => ⟨S1024x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== OutF.lean ====
abbrev S4096x1024 : Shape := ⟨2, ![4096, 1024]⟩
abbrev S4096x256 : Shape := ⟨2, ![4096, 256]⟩
abbrev S4096x512 : Shape := ⟨2, ![4096, 512]⟩
abbrev S4x704x1024 : Shape := ⟨3, ![4, 704, 1024]⟩
abbrev S512x1024 : Shape := ⟨2, ![512, 1024]⟩
abbrev S512x256 : Shape := ⟨2, ![512, 256]⟩
abbrev S512x512 : Shape := ⟨2, ![512, 512]⟩
abbrev S4x256x1024 : Shape := ⟨3, ![4, 256, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x512, .f32⟩
  | .hbm, ⟨4, _⟩ => ⟨S4x704x1024, .bf16⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S4x704x1024, .bf16⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFRefIdeal.lean ====
abbrev S4096x1024 : Shape := ⟨2, ![4096, 1024]⟩
abbrev S4096x256 : Shape := ⟨2, ![4096, 256]⟩
abbrev S4096x512 : Shape := ⟨2, ![4096, 512]⟩
abbrev S4x704x1024 : Shape := ⟨3, ![4, 704, 1024]⟩
abbrev S4x256x1024 : Shape := ⟨3, ![4, 256, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x512, .f32⟩
  | .hbm, ⟨4, _⟩ => ⟨S4x704x1024, .bf16⟩
  | .hbm, ⟨5, _⟩ => ⟨S4096x1024, .f32⟩
  | .hbm, ⟨6, _⟩ => ⟨S4x256x1024, .bf16⟩
  | .hbm, ⟨7, _⟩ => ⟨S4x256x1024, .f32⟩
  | .hbm, ⟨8, _⟩ => ⟨S1024x1024, .f32⟩
  | .hbm, ⟨9, _⟩ => ⟨S4096x1024, .f32⟩
  | .hbm, ⟨10, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== OutB.lean ====
abbrev S4096x1024 : Shape := ⟨2, ![4096, 1024]⟩
abbrev S1x1024 : Shape := ⟨2, ![1, 1024]⟩
abbrev S4x4096x1024 : Shape := ⟨3, ![4, 4096, 1024]⟩
abbrev S4096x256 : Shape := ⟨2, ![4096, 256]⟩
abbrev S4096x512 : Shape := ⟨2, ![4096, 512]⟩
abbrev S4x704x1024 : Shape := ⟨3, ![4, 704, 1024]⟩
abbrev S1024x1024 : Shape := ⟨2, ![1024, 1024]⟩
abbrev S512x1024 : Shape := ⟨2, ![512, 1024]⟩
abbrev S4x512x1024 : Shape := ⟨3, ![4, 512, 1024]⟩
abbrev S512x256 : Shape := ⟨2, ![512, 256]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩
abbrev S1024 : Shape := ⟨1, ![1024]⟩
abbrev S4x256x1024 : Shape := ⟨3, ![4, 256, 1024]⟩

abbrev nBuf : Space → Nat
  | .hbm => 14
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4x4096x1024, .bf16⟩
  | .hbm, ⟨4, _⟩ => ⟨S4096x256, .f32⟩
  | .hbm, ⟨5, _⟩ => ⟨S4096x256, .f32⟩
  | .hbm, ⟨6, _⟩ => ⟨S4096x512, .f32⟩
  | .hbm, ⟨7, _⟩ => ⟨S4x704x1024, .bf16⟩
  | .hbm, ⟨8, _⟩ => ⟨S4096x1024, .f32⟩
  | .hbm, ⟨9, _⟩ => ⟨S1x1024, .f32⟩
  | .hbm, ⟨10, _⟩ => ⟨S4096x256, .f32⟩
  | .hbm, ⟨11, _⟩ => ⟨S4096x256, .f32⟩
  | .hbm, ⟨12, _⟩ => ⟨S4096x512, .f32⟩
  | .hbm, ⟨13, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S4x512x1024, .bf16⟩
  | .local _ .vmem, ⟨6, _⟩ => ⟨S4x512x1024, .bf16⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x512, .f32⟩
  | .local _ .vmem, ⟨12, _⟩ => ⟨S512x512, .f32⟩
  | .local _ .vmem, ⟨13, _⟩ => ⟨S4x704x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x512, .f32⟩
  | .local _ .vmem, ⟨22, _⟩ => ⟨S512x512, .f32⟩
  | .local _ .vmem, ⟨23, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutBRefIdeal.lean ====
abbrev S4096x1024 : Shape := ⟨2, ![4096, 1024]⟩
abbrev S1x1024 : Shape := ⟨2, ![1, 1024]⟩
abbrev S4x4096x1024 : Shape := ⟨3, ![4, 4096, 1024]⟩
abbrev S4096x256 : Shape := ⟨2, ![4096, 256]⟩
abbrev S4096x512 : Shape := ⟨2, ![4096, 512]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4x256x1024 : Shape := ⟨3, ![4, 256, 1024]⟩
abbrev S1024x1024 : Shape := ⟨2, ![1024, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4x4096x1024, .bf16⟩
  | .hbm, ⟨4, _⟩ => ⟨S4096x256, .f32⟩
  | .hbm, ⟨5, _⟩ => ⟨S4096x256, .f32⟩
  | .hbm, ⟨6, _⟩ => ⟨S4096x512, .f32⟩
  | .hbm, ⟨7, _⟩ => ⟨S4x704x1024, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4x4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4x256x1024, .bf16⟩
  | .hbm, ⟨55, _⟩ => ⟨S4x256x1024, .f32⟩
  | .hbm, ⟨56, _⟩ => ⟨S1024x1024, .f32⟩
  | .hbm, ⟨57, _⟩ => ⟨S4096x1024, .f32⟩
  | .hbm, ⟨58, _⟩ => ⟨S4096x1024, .f32⟩
  | .hbm, ⟨59, _⟩ => ⟨S1024x1024, .f32⟩
  | .hbm, ⟨60, _⟩ => ⟨S1024x1024, .f32⟩
  | .hbm, ⟨61, _⟩ => ⟨S4096x1024, .f32⟩
  | .hbm, ⟨62, _⟩ => ⟨S4096x256, .f32⟩
  | .hbm, ⟨63, _⟩ => ⟨S4096x256, .f32⟩
  | .hbm, ⟨64, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== InB.lean ====
abbrev S4096x1024 : Shape := ⟨2, ![4096, 1024]⟩
abbrev S1x1024 : Shape := ⟨2, ![1, 1024]⟩
abbrev S1024x3200 : Shape := ⟨2, ![1024, 3200]⟩
abbrev S4096x1 : Shape := ⟨2, ![4096, 1]⟩
abbrev S32 : Shape := ⟨1, ![32]⟩
abbrev S4096x768 : Shape := ⟨2, ![4096, 768]⟩
abbrev S4x1024x768 : Shape := ⟨3, ![4, 1024, 768]⟩
abbrev S16x256x768 : Shape := ⟨3, ![16, 256, 768]⟩
abbrev S4096x256 : Shape := ⟨2, ![4096, 256]⟩
abbrev S4096x1536 : Shape := ⟨2, ![4096, 1536]⟩
abbrev S4096x512 : Shape := ⟨2, ![4096, 512]⟩
abbrev S4096x128 : Shape := ⟨2, ![4096, 128]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S256x1024 : Shape := ⟨2, ![256, 1024]⟩
abbrev S256x1 : Shape := ⟨2, ![256, 1]⟩
abbrev S256x768 : Shape := ⟨2, ![256, 768]⟩
abbrev S4x64x768 : Shape := ⟨3, ![4, 64, 768]⟩
abbrev S16x16x768 : Shape := ⟨3, ![16, 16, 768]⟩
abbrev S256x256 : Shape := ⟨2, ![256, 256]⟩
abbrev S256x1536 : Shape := ⟨2, ![256, 1536]⟩
abbrev S256x512 : Shape := ⟨2, ![256, 512]⟩
abbrev S256x128 : Shape := ⟨2, ![256, 128]⟩
abbrev S6x256x128 : Shape := ⟨3, ![6, 256, 128]⟩
abbrev S_ : Shape := ⟨0, ![]⟩
abbrev S1x64x768 : Shape := ⟨3, ![1, 64, 768]⟩
abbrev S64x768 : Shape := ⟨2, ![64, 768]⟩
abbrev S64x128 : Shape := ⟨2, ![64, 128]⟩
abbrev S1x256x128 : Shape := ⟨3, ![1, 256, 128]⟩
abbrev S1x16x768 : Shape := ⟨3, ![1, 16, 768]⟩
abbrev S16x768 : Shape := ⟨2, ![16, 768]⟩
abbrev S16x128 : Shape := ⟨2, ![16, 128]⟩
abbrev S256x3200 : Shape := ⟨2, ![256, 3200]⟩
abbrev S1024 : Shape := ⟨1, ![1024]⟩

abbrev nBuf : Space → Nat
  | .hbm => 20
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3200, .bf16⟩
  | .hbm, ⟨3, _⟩ => ⟨S4096x1, .i32⟩
  | .hbm, ⟨4, _⟩ => ⟨S32, .f32⟩
  | .hbm, ⟨5, _⟩ => ⟨S4096x1024, .f32⟩
  | .hbm, ⟨6, _⟩ => ⟨S4096x768, .f32⟩
  | .hbm, ⟨7, _⟩ => ⟨S4x1024x768, .f32⟩
  | .hbm, ⟨8, _⟩ => ⟨S16x256x768, .f32⟩
  | .hbm, ⟨9, _⟩ => ⟨S4096x256, .f32⟩
  | .hbm, ⟨10, _⟩ => ⟨S4096x1536, .f32⟩
  | .hbm, ⟨11, _⟩ => ⟨S4096x512, .f32⟩
  | .hbm, ⟨12, _⟩ => ⟨S4096x128, .f32⟩
  | .hbm, ⟨13, _⟩ => ⟨S1x32, .f32⟩
  | .hbm, ⟨14, _⟩ => ⟨S8x32, .f32⟩
  | .hbm, ⟨15, _⟩ => ⟨S256, .f32⟩
  | .hbm, ⟨16, _⟩ => ⟨S1x256, .f32⟩
  | .hbm, ⟨17, _⟩ => ⟨S4096x1024, .f32⟩
  | .hbm, ⟨18, _⟩ => ⟨S1x1024, .f32⟩
  | .hbm, ⟨19, _⟩ => ⟨S1024x3200, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1, .i32⟩
  | .local _ .vmem, ⟨4, _⟩ => ⟨S256x1, .i32⟩
  | .local _ .vmem, ⟨5, _⟩ => ⟨S1x256, .f32⟩
  | .local _ .vmem, ⟨6, _⟩ => ⟨S256x1024, .f32⟩
  | .local _ .vmem, ⟨7, _⟩ => ⟨S256x1024, .f32⟩
  | .local _ .vmem, ⟨8, _⟩ => ⟨S256x768, .f32⟩
  | .local _ .vmem, ⟨9, _⟩ => ⟨S256x768, .f32⟩
  | .local _ .vmem, ⟨10, _⟩ => ⟨S4x64x768, .f32⟩
  | .local _ .vmem, ⟨11, _⟩ => ⟨S4x64x768, .f32⟩
  | .local _ .vmem, ⟨12, _⟩ => ⟨S16x16x768, .f32⟩
  | .local _ .vmem, ⟨13, _⟩ => ⟨S16x16x768, .f32⟩
  | .local _ .vmem, ⟨14, _⟩ => ⟨S256x256, .f32⟩
  | .local _ .vmem, ⟨15, _⟩ => ⟨S256x256, .f32⟩
  | .local _ .vmem, ⟨16, _⟩ => ⟨S256x1536, .f32⟩
  | .local _ .vmem, ⟨17, _⟩ => ⟨S256x1536, .f32⟩
  | .local _ .vmem, ⟨18, _⟩ => ⟨S256x512, .f32⟩
  | .local _ .vmem, ⟨19, _⟩ => ⟨S256x512, .f32⟩
  | .local _ .vmem, ⟨20, _⟩ => ⟨S256x128, .f32⟩
  | .local _ .vmem, ⟨21, _⟩ => ⟨S256x128, .f32⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S1024x3200, .bf16⟩
  | .local _ .vmem, ⟨26, _⟩ => ⟨S1024x3200, .f32⟩
  | .local _ .vmem, ⟨27, _⟩ => ⟨S6x256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x64x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x16x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InBRefIdeal.lean ====
abbrev S4096x1024 : Shape := ⟨2, ![4096, 1024]⟩
abbrev S1x1024 : Shape := ⟨2, ![1, 1024]⟩
abbrev S1024x3200 : Shape := ⟨2, ![1024, 3200]⟩
abbrev S4096x1 : Shape := ⟨2, ![4096, 1]⟩
abbrev S32 : Shape := ⟨1, ![32]⟩
abbrev S4096x768 : Shape := ⟨2, ![4096, 768]⟩
abbrev S4x1024x768 : Shape := ⟨3, ![4, 1024, 768]⟩
abbrev S16x256x768 : Shape := ⟨3, ![16, 256, 768]⟩
abbrev S4096x256 : Shape := ⟨2, ![4096, 256]⟩
abbrev S4096x1536 : Shape := ⟨2, ![4096, 1536]⟩
abbrev S4096x512 : Shape := ⟨2, ![4096, 512]⟩
abbrev S4096x128 : Shape := ⟨2, ![4096, 128]⟩
abbrev S_ : Shape := ⟨0, ![]⟩
abbrev S4096 : Shape := ⟨1, ![4096]⟩
abbrev S4096x3200 : Shape := ⟨2, ![4096, 3200]⟩
abbrev S1x32 : Shape := ⟨2, ![1, 32]⟩
abbrev S4096x32 : Shape := ⟨2, ![4096, 32]⟩
abbrev S4096x1x32 : Shape := ⟨3, ![4096, 1, 32]⟩
abbrev S4096x4x64 : Shape := ⟨3, ![4096, 4, 64]⟩
abbrev S4096x4x32 : Shape := ⟨3, ![4096, 4, 32]⟩
abbrev S1024x4x768 : Shape := ⟨3, ![1024, 4, 768]⟩
abbrev S256x16x768 : Shape := ⟨3, ![256, 16, 768]⟩
abbrev S3200x1024 : Shape := ⟨2, ![3200, 1024]⟩
abbrev S1024 : Shape := ⟨1, ![1024]⟩

abbrev nBuf : Space → Nat
  | .hbm => 154
  | .vmem => 0
  | .smem => 0
  | _ => 0

abbrev hbmTy0_0 (i : Nat) : BufTy := match i % 128 with
  | 0 => ⟨S4096x1024, .f32⟩
  | 1 => ⟨S1x1024, .f32⟩
  | 2 => ⟨S1024x3200, .bf16⟩
  | 3 => ⟨S4096x1, .i32⟩
  | 4 => ⟨S32, .f32⟩
  | 5 => ⟨S4096x1024, .f32⟩
  | 6 => ⟨S4096x768, .f32⟩
  | 7 => ⟨S4x1024x768, .f32⟩
  | 8 => ⟨S16x256x768, .f32⟩
  | 9 => ⟨S4096x256, .f32⟩
  | 10 => ⟨S4096x1536, .f32⟩
  | 11 => ⟨S4096x512, .f32⟩
  | 12 => ⟨S4096x128, .f32⟩
  | 13 => ⟨S1024x3200, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1024, .f32⟩
  | 30 => ⟨S4096x1024, .f32⟩
  | 31 => ⟨S4096x1024, .f32⟩
  | 32 => ⟨S4096x1024, .f32⟩
  | 33 => ⟨S4096x3200, .f32⟩
  | 34 => ⟨S4096x256, .f32⟩
  | 35 => ⟨S4096x256, .f32⟩
  | 36 => ⟨S4096x256, .f32⟩
  | 37 => ⟨S4096x256, .f32⟩
  | 38 => ⟨S4096x1536, .f32⟩
  | 39 => ⟨S4096x512, .f32⟩
  | 40 => ⟨S4096x128, .f32⟩
  | 41 => ⟨S4096x1, .f32⟩
  | 42 => ⟨S1x32, .f32⟩
  | 43 => ⟨S4096x32, .f32⟩
  | 44 => ⟨S4096x32, .f32⟩
  | 45 => ⟨S4096x32, .f32⟩
  | 46 => ⟨S4096x32, .f32⟩
  | 47 => ⟨S4096x1x32, .f32⟩
  | 48 => ⟨S4096x32, .f32⟩
  | 49 => ⟨S4096x1x32, .f32⟩
  | 50 => ⟨S4096x4x64, .f32⟩
  | 51 => ⟨S4096x4x32, .f32⟩
  | 52 => ⟨S4096x4x32, .f32⟩
  | 53 => ⟨S4096x4x32, .f32⟩
  | 54 => ⟨S4096x4x32, .f32⟩
  | 55 => ⟨S4096x4x32, .f32⟩
  | 56 => ⟨S4096x4x32, .f32⟩
  | 57 => ⟨S4096x4x32, .f32⟩
  | 58 => ⟨S4096x4x32, .f32⟩
  | 59 => ⟨S4096x4x32, .f32⟩
  | 60 => ⟨S4096x4x32, .f32⟩
  | 61 => ⟨S4096x4x32, .f32⟩
  | 62 => ⟨S4096x4x32, .f32⟩
  | 63 => ⟨S4096x4x64, .f32⟩
  | 64 => ⟨S4096x256, .f32⟩
  | 65 => ⟨S4096x4x64, .f32⟩
  | 66 => ⟨S4096x4x32, .f32⟩
  | 67 => ⟨S4096x4x32, .f32⟩
  | 68 => ⟨S4096x4x32, .f32⟩
  | 69 => ⟨S4096x4x32, .f32⟩
  | 70 => ⟨S4096x4x32, .f32⟩
  | 71 => ⟨S4096x4x32, .f32⟩
  | 72 => ⟨S4096x4x32, .f32⟩
  | 73 => ⟨S4096x4x32, .f32⟩
  | 74 => ⟨S4096x4x32, .f32⟩
  | 75 => ⟨S4096x4x32, .f32⟩
  | 76 => ⟨S4096x4x32, .f32⟩
  | 77 => ⟨S4096x4x32, .f32⟩
  | 78 => ⟨S4096x4x64, .f32⟩
  | 79 => ⟨S4096x256, .f32⟩
  | 80 => ⟨S4096x768, .f32⟩
  | 81 => ⟨S1024x4x768, .f32⟩
  | 82 => ⟨S4x1024x768, .f32⟩
  | 83 => ⟨S256x16x768, .f32⟩
  | 84 => ⟨S16x256x768, .f32⟩
  | 85 => ⟨S256x16x768, .f32⟩
  | 86 => ⟨S4096x768, .f32⟩
  | 87 => ⟨S4096x768, .f32⟩
  | 88 => ⟨S1024x4x768, .f32⟩
  | 89 => ⟨S4096x768, .f32⟩
  | 90 => ⟨S4096x768, .f32⟩
  | 91 => ⟨S4096x256, .f32⟩
  | 92 => ⟨S4096x256, .f32⟩
  | 93 => ⟨S4096x256, .f32⟩
  | 94 => ⟨S4096x4x64, .f32⟩
  | 95 => ⟨S4096x4x32, .f32⟩
  | 96 => ⟨S4096x4x32, .f32⟩
  | 97 => ⟨S4096x4x32, .f32⟩
  | 98 => ⟨S4096x4x32, .f32⟩
  | 99 => ⟨S4096x4x32, .f32⟩
  | 100 => ⟨S4096x4x32, .f32⟩
  | 101 => ⟨S4096x4x32, .f32⟩
  | 102 => ⟨S4096x4x32, .f32⟩
  | 103 => ⟨S4096x4x32, .f32⟩
  | 104 => ⟨S4096x4x32, .f32⟩
  | 105 => ⟨S4096x4x32, .f32⟩
  | 106 => ⟨S4096x4x32, .f32⟩
  | 107 => ⟨S4096x4x32, .f32⟩
  | 108 => ⟨S4096x4x64, .f32⟩
  | 109 => ⟨S4096x256, .f32⟩
  | 110 => ⟨S4096x4x64, .f32⟩
  | 111 => ⟨S4096x4x32, .f32⟩
  | 112 => ⟨S4096x4x32, .f32⟩
  | 113 => ⟨S4096x4x32, .f32⟩
  | 114 => ⟨S4096x4x32, .f32⟩
  | 115 => ⟨S4096x4x32, .f32⟩
  | 116 => ⟨S4096x4x32, .f32⟩
  | 117 => ⟨S4096x4x32, .f32⟩
  | 118 => ⟨S4096x4x32, .f32⟩
  | 119 => ⟨S4096x4x32, .f32⟩
  | 120 => ⟨S4096x4x32, .f32⟩
  | 121 => ⟨S4096x4x32, .f32⟩
  | 122 => ⟨S4096x4x32, .f32⟩
  | 123 => ⟨S4096x4x32, .f32⟩
  | 124 => ⟨S4096x4x64, .f32⟩
  | 125 => ⟨S4096x256, .f32⟩
  | 126 => ⟨S4096x3200, .f32⟩
  | 127 => ⟨S3200x1024, .f32⟩
  | _ => ⟨S4096x1024, .f32⟩

abbrev hbmTy0_1 (i : Nat) : BufTy := match i % 128 with
  | 0 => ⟨S1024x3200, .f32⟩
  | 1 => ⟨S4096x1024, .f32⟩
  | 2 => ⟨S4096x1024, .f32⟩
  | 3 => ⟨S_, .f32⟩
  | 4 => ⟨S1024, .f32⟩
  | 5 => ⟨S1x1024, .f32⟩
  | 6 => ⟨S4096x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S4096x1024, .f32⟩
  | 13 => ⟨S4096x1024, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_cst_3 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_cst_4 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_cst_5 : Ref sig .tc := ⟨.hbm, 143, rfl⟩
abbrev main_v124 : Ref sig .tc := ⟨.hbm, 144, rfl⟩
abbrev main_v125 : Ref sig .tc := ⟨.hbm, 145, rfl⟩
abbrev main_cst_6 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩

abbrev nD : Nat := 1
abbrev τ : Topo := Topo.v7x

variable {F : FTy → Type} [FloatOps F]
-- ==== Proof.Conv.Rows.lean ====
module

public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

/-! Rows of a long array read at a natural number, zero outside the array: the shifted reads of the convolution. -/

namespace Cert.ConvRows

/-- Row `n` of the array, zero past its end. -/
def row (a : FVec Ideal ⟨2, ![4096, 1536]⟩ .f32) (n : ℕ) (l : Fin 1536) : EReal :=
  if h : n < 4096 then a (ix2 ⟨n, h⟩ l) else 0

/-- Row `n` of the array behind three rows of zeros. -/
def late (a : FVec Ideal ⟨2, ![4096, 1536]⟩ .f32) (n : ℕ) (l : Fin 1536) : EReal :=
  if n < 3 then 0 else row a (n - 3) l

theorem row_of_lt (a : FVec Ideal ⟨2, ![4096, 1536]⟩ .f32) (n : ℕ) (l : Fin 1536) (h : n < 4096) :
    row a n l = a (ix2 ⟨n, h⟩ l) := dif_pos h

theorem row_of_ge (a : FVec Ideal ⟨2, ![4096, 1536]⟩ .f32) (n : ℕ) (l : Fin 1536) (h : ¬n < 4096) :
    row a n l = 0 := dif_neg h

/-- The gradient of the convolved rows at a row and a lane: the taps against the rows after it. -/
def du (w : FVec Ideal ⟨2, ![4, 1536]⟩ .f32) (dc : FVec Ideal ⟨2, ![4096, 1536]⟩ .f32) (n : ℕ) (l : Fin 1536) : EReal :=
  w (ix2 3 l) * row dc n l + w (ix2 2 l) * row dc (n + 1) l + w (ix2 1 l) * row dc (n + 2) l + w (ix2 0 l) * row dc (n + 3) l

/-- The gradient of a tap at a lane: the rows against the input's rows behind three zero rows; zero at the four padding rows. -/
def dw (u dc : FVec Ideal ⟨2, ![4096, 1536]⟩ .f32) (j : ℕ) (l : Fin 1536) : EReal :=
  if j < 4 then ∑ x : Fin 4096, dc (ix2 x l) * late u (x.val + j) l else 0

end Cert.ConvRows
end
-- ==== Proof.Conv.Pure.lean ====
module

public import proofs.«01_k».proof.Proof.Conv.Rows
public import proofs.«01_k».proof.Proof.Gen.ConvIdeal.Skeleton

@[expose] public section

set_option maxRecDepth 16384

noncomputable section

open Idealize.ShloMosaic Idealize.ShloMosaic.TcCoe Idealize.SL.Sem
open Idealize.ShloMosaic.Pipeline (Dat)
open scoped BigOperators

/-! What one block of the convolution's gradient computes, over blocks that are rows of the long arrays. -/

namespace Cert.ConvIdeal.Val

open Cert.ConvIdeal Cert.ConvIdeal.Gen Cert.ConvRows

/-- The switch that turns the next block off at the last block. -/
theorem not_last (n : ℕ) (hn : n < 16) :
    (Scalar.extui (Scalar.cmpi .slt (BitVec.ofNat 32 n) 15#32) : BitVec 32) = if n < 15 then 1#32 else 0#32 :=
  (by decide : ∀ n : Fin 16, (Scalar.extui (Scalar.cmpi .slt (BitVec.ofNat 32 n.val) 15#32) : BitVec 32)
    = if n.val < 15 then 1#32 else 0#32) ⟨n, hn⟩

/-- The switch that turns the block before off at the first block. -/
theorem not_first (n : ℕ) (hn : n < 16) :
    (Scalar.extui (Scalar.cmpi .sgt (BitVec.ofNat 32 n) 0#32) : BitVec 32) = if 0 < n then 1#32 else 0#32 :=
  (by decide : ∀ n : Fin 16, (Scalar.extui (Scalar.cmpi .sgt (BitVec.ofNat 32 n.val) 0#32) : BitVec 32)
    = if 0 < n.val then 1#32 else 0#32) ⟨n, hn⟩

theorem bit_one : (((1#32 : BitVec 32).toInt : ℝ) : EReal) = 1 := by norm_num
theorem bit_zero : (((0#32 : BitVec 32).toInt : ℝ) : EReal) = 0 := by norm_num

theorem du_block (i : grid0.Coords) (t : ℕ) (ht : t < 16) (hi : (i 0).val = t) (w : FVec Ideal ⟨2, ![4, 1536]⟩ .f32)
    (dc : FVec Ideal ⟨2, ![4096, 1536]⟩ .f32) (a : Vec Ideal S256x1536 .f32) (b : Vec Ideal S8x1536 .f32)
    (w3 w2 w1 w0 : Vec Ideal S1x1536 .f32)
    (ha : ∀ (r : Fin 256) l, a (ix2 r l) = row dc (256 * t + r.val) l)
    (hb : t < 15 → ∀ (r : Fin 8) l, b (ix2 r l) = row dc (256 * (t + 1) + r.val) l)
    (h3 : ∀ l, w3 (ix2 0 l) = w (ix2 3 l)) (h2 : ∀ l, w2 (ix2 0 l) = w (ix2 2 l))
    (h1 : ∀ l, w1 (ix2 0 l) = w (ix2 1 l)) (h0 : ∀ l, w0 (ix2 0 l) = w (ix2 0 l)) (r : Fin 256) (l : Fin 1536) :
    k0_pay4 (F := Ideal) i a b w3 w2 w1 w0 (ix2 r l) = du w dc (256 * t + r.val) l := by
  have hr := r.isLt
  have key : ∀ (k n : ℕ) (hn : n < 264), n = r.val + k →
      (if h : n < 256 then a (ix2 ⟨n, h⟩ l) else b (ix2 ⟨n - 256, by omega⟩ l) *
        (((if t < 15 then 1#32 else 0#32 : BitVec 32).toInt : ℝ) : EReal)) = row dc (256 * t + r.val + k) l := by
    intro k n hn e
    subst e
    by_cases h : r.val + k < 256
    · rw [dif_pos h, ha]; congr 1; simp only []; omega
    · rw [dif_neg h]
      by_cases hl : t < 15
      · rw [if_pos hl, bit_one, mul_one, hb hl]; congr 1; simp only []; omega
      · rw [if_neg hl, bit_zero, mul_zero, row_of_ge _ _ _ (by omega)]
  pointwise [k0_pay4]
  rw [not_last _ (by omega), hi, key 1 _ (Nat.mod_lt _ (by norm_num)) (by omega), key 2 _ (Nat.mod_lt _ (by norm_num)) (by omega), key 3 _ (Nat.mod_lt _ (by norm_num)) (by omega), h3, h2, h1, h0, ha]
  rfl

/-- One block's part of a tap's gradient. -/
def part (u dc : FVec Ideal ⟨2, ![4096, 1536]⟩ .f32) (t j : ℕ) (l : Fin 1536) : EReal :=
  ∑ x : Fin 256, row dc (256 * t + x.val) l * late u (256 * t + x.val + j) l

section
variable (t : ℕ) (ht : t < 16) (u dc : FVec Ideal ⟨2, ![4096, 1536]⟩ .f32) (a b : Vec Ideal S256x1536 .f32) (p : Vec Ideal S8x1536 .f32)
    (acc : Vec Ideal S1x1536 .f32)
    (ha : ∀ (r : Fin 256) l, a (ix2 r l) = row dc (256 * t + r.val) l)
    (hb : ∀ (r : Fin 256) l, b (ix2 r l) = row u (256 * t + r.val) l)
    (hp : 0 < t → ∀ (r : Fin 8) l, p (ix2 r l) = row u (256 * t + r.val - 8) l)
include ht hb hp

theorem shifted (l : Fin 1536) (j k : ℕ) (hk : k < 3) (hj : j + 3 - k = 3) (x : Fin 256) (n : ℕ) (hn : n < 264) (e : n + (3 - j) = x.val + 8) :
    (if h : n < 8 then p (ix2 ⟨n, h⟩ l) * (((if 0 < t then 1#32 else 0#32 : BitVec 32).toInt : ℝ) : EReal)
      else b (ix2 ⟨n - 8, by omega⟩ l)) = late u (256 * t + x.val + j) l := by
  rw [late]
  by_cases h : n < 8
  · rw [dif_pos h]
    by_cases h0 : 0 < t
    · rw [if_pos h0, bit_one, mul_one, hp h0, if_neg (by omega)]; congr 1; simp only []; omega
    · rw [if_neg h0, bit_zero, mul_zero, if_pos (by omega)]
  · rw [dif_neg h, hb, if_neg (by omega)]; congr 1; simp only []; omega

include ha

theorem dw_row0 (l : Fin 1536) : k0_pay6 (F := Ideal) (BitVec.ofNat 32 t) a p b acc (ix2 (0 : Fin 1) l)
    = acc (ix2 (0 : Fin 1) l) + part u dc t 0 l := by
  pointwise [k0_pay6, k0_pay5]
  rw [not_first t ht, part]
  refine congrArg _ (Finset.sum_congr rfl fun x _ => ?_)
  rw [ha, shifted t ht u b p hb hp l 0 0 (by omega) (by omega) x _ (Nat.mod_lt _ (by norm_num)) (by omega)]

theorem dw_row1 (l : Fin 1536) : k0_pay7 (F := Ideal) (BitVec.ofNat 32 t) a p b acc (ix2 (0 : Fin 1) l)
    = acc (ix2 (0 : Fin 1) l) + part u dc t 1 l := by
  pointwise [k0_pay7, k0_pay5]
  rw [not_first t ht, part]
  refine congrArg _ (Finset.sum_congr rfl fun x _ => ?_)
  rw [ha, shifted t ht u b p hb hp l 1 1 (by omega) (by omega) x _ (Nat.mod_lt _ (by norm_num)) (by omega)]

theorem dw_row2 (l : Fin 1536) : k0_pay1 (F := Ideal) (k0_pay8 (BitVec.ofNat 32 t) a p b acc) (ix2 (0 : Fin 1) l)
    = acc (ix2 (0 : Fin 1) l) + part u dc t 2 l := by
  pointwise [k0_pay1, k0_pay8, k0_pay5]
  rw [not_first t ht, part]
  refine congrArg _ (Finset.sum_congr rfl fun x _ => ?_)
  rw [ha, shifted t ht u b p hb hp l 2 2 (by omega) (by omega) x _ (Nat.mod_lt _ (by norm_num)) (by omega)]

theorem dw_row3 (l : Fin 1536) : k0_pay2 (F := Ideal) a (k0_pay5 (BitVec.ofNat 32 t) p b) acc (ix2 (0 : Fin 1) l)
    = acc (ix2 (0 : Fin 1) l) + part u dc t 3 l := by
  pointwise [k0_pay2, k0_pay5]
  rw [part]
  refine congrArg _ (Finset.sum_congr rfl fun x _ => ?_)
  rw [ha, hb, late, if_neg (by omega)]
  rfl
end
end Cert.ConvIdeal.Val
end
-- ==== Proof.Conv.Blocks.lean ====
module

public import proofs.«01_k».proof.Proof.Conv.Pure
public import proofs.«01_k».proof.Proof.Gen.ConvIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

/-! The blocks the convolution's gradient reads, as rows of its arguments. -/

namespace Cert.ConvIdeal.Val

open Cert.ConvIdeal Cert.ConvIdeal.Gen Cert.ConvRows

variable (m : (ℓ : Loc nD τ sig) → Buf (Elt Ideal) ℓ)

theorem idx : ∀ t : Fin cfg0.N, win0_0.index t = ![t.val, 0] ∧ win0_1.index t = ![32 * t.val - 1, 0]
    ∧ win0_2.index t = ![0, 0] ∧ win0_3.index t = ![t.val, 0] ∧ win0_4.index t = ![min (32 * (t.val + 1)) 511, 0]
    ∧ win0_5.index t = ![t.val, 0] ∧ win0_6.index t = ![0, 0] :=
  (by decide +kernel : ∀ t : Fin grid0.N, _)

theorem coord : ∀ t : Fin cfg0.N, (grid0.coords t 0).val = t.val ∧ t.val < 16 :=
  (by decide +kernel : ∀ t : Fin grid0.N, _)

/-- The input, the gradient of the output and the taps the launch begins from. -/
abbrev argU (c : Dev nD) : FVec Ideal ⟨2, ![4096, 1536]⟩ .f32 := m ((c : Thread nD τ).loc main_arg0)
abbrev argDC (c : Dev nD) : FVec Ideal ⟨2, ![4096, 1536]⟩ .f32 := m ((c : Thread nD τ).loc main_arg2)
abbrev argW (c : Dev nD) : FVec Ideal ⟨2, ![4, 1536]⟩ .f32 := m ((c : Thread nD τ).loc main_arg1)

theorem blk_u (c : Dev nD) (t : Fin cfg0.N) (r : Fin 256) (l : Fin 1536) :
    iblk m c 0 t (ix2 r l) = row (argU m c) (256 * t.val + r.val) l := by
  obtain ⟨e0, e1, e2, e3, e4, e5, e6⟩ := idx t
  have ht := (coord t).2
  rw [row_of_lt _ _ _ (by omega)]
  blk_ext [iblk, V, e0]

theorem blk_before (c : Dev nD) (t : Fin cfg0.N) (h : 0 < t.val) (r : Fin 8) (l : Fin 1536) :
    iblk m c 1 t (ix2 r l) = row (argU m c) (256 * t.val + r.val - 8) l := by
  obtain ⟨e0, e1, e2, e3, e4, e5, e6⟩ := idx t
  have ht := (coord t).2
  rw [row_of_lt _ _ _ (by omega)]
  blk_ext [iblk, V, e1]

theorem blk_dc (c : Dev nD) (t : Fin cfg0.N) (r : Fin 256) (l : Fin 1536) :
    iblk m c 3 t (ix2 r l) = row (argDC m c) (256 * t.val + r.val) l := by
  obtain ⟨e0, e1, e2, e3, e4, e5, e6⟩ := idx t
  have ht := (coord t).2
  rw [row_of_lt _ _ _ (by omega)]
  blk_ext [iblk, V, e3]

theorem blk_after (c : Dev nD) (t : Fin cfg0.N) (h : t.val < 15) (r : Fin 8) (l : Fin 1536) :
    iblk m c 4 t (ix2 r l) = row (argDC m c) (256 * (t.val + 1) + r.val) l := by
  obtain ⟨e0, e1, e2, e3, e4, e5, e6⟩ := idx t
  rw [row_of_lt _ _ _ (by omega)]
  have hm : min (32 * (t.val + 1)) 511 = 32 * (t.val + 1) := by omega
  blk_ext [iblk, V, e4, hm]

/-- The taps the launch reads: the four taps and four rows of zeros. -/
theorem V_taps (c : Dev nD) : V m c main_v0 = pad S8x1536 ![0, 0] ![4, 0] ![0, 0] (argW m c)
    (sitofp (F := Ideal) .f32 (constantI S_ 32 0#32)) pads_S4x1536_S8x1536_040_000 h_S_ := by
  unfold V
  simp only [hostOps0, hostOps0_1, StableHlo.TRef.binary, StableHlo.TRef.unary, StableHlo.TRef.toBuf, StableHlo.TRef.ofBuf, cast_eq, List.flatten_cons, List.flatten_nil, List.append_nil, List.cons_append, List.nil_append]
  after_results_simp <;> rfl

theorem blk_w (c : Dev nD) (t : Fin cfg0.N) (j : Fin 4) (l : Fin 1536) :
    iblk m c 2 t (ix2 ⟨j.val, by omega⟩ l) = argW m c (ix2 j l) := by
  obtain ⟨e0, e1, e2, e3, e4, e5, e6⟩ := idx t
  have he : (((View.whole main_v0).slice (win0_2.rect t)).emb (ix2 (⟨j.val, by omega⟩ : Fin 8) l))
      = ix2 (⟨j.val, by omega⟩ : Fin 8) l := by
    blk_ext [e2]
  blk_simp [iblk, e2]
  rw [show V m c main_v0 = _ from V_taps m c]
  erw [he]
  pointwise

end Cert.ConvIdeal.Val
end
-- ==== Proof.Conv.Ref.lean ====
module

public import proofs.«01_k».proof.Proof.Conv.Rows
public import proofs.«01_k».proof.Proof.Gen.ConvRefIdeal.Run

@[expose] public section

set_option maxRecDepth 16384

noncomputable section

open Idealize.ShloMosaic Idealize.ShloMosaic.TcCoe Idealize.SL.Sem
open Idealize.ShloMosaic.Pipeline (Dat)
open scoped BigOperators

/-! The two results of the convolution's reference, read at an index. -/

namespace Cert.ConvRefIdeal.Val

open Cert.ConvRefIdeal Cert.ConvRefIdeal.Gen Cert.ConvRows

/-- The reference's gradient of the convolved rows, as the host operations compose it. -/
def REFdu (w : FVec Ideal S4x1536 .f32) (dc : FVec Ideal S4096x1536 .f32) : FVec Ideal S4096x1536 .f32 :=
  extractStridedSlice S4096x1536 ![3, 0] (addf (addf (addf (pad S4099x1536 ![3, 0] ![0, 0] ![0, 0] (mulf (broadcastInDim S4096x1536 ![0, 1] bcast_S1x1536_S4096x1536_0_1 (broadcastInDim S1x1536 ![1] bcast_S1536_S1x1536_1 (shapeCast _ (extractStridedSlice S1x1536 ![3, 0] w slices_S4x1536_S1x1536_3_0) shapeCasts_S1x1536_S1536))) (shapeCast _ dc shapeCasts_S4096x1536_S4096x1536)) (constant S_ .f32 0x00000000#32) pads_S4096x1536_S4099x1536_300_000 h_S_) (pad S4099x1536 ![2, 0] ![1, 0] ![0, 0] (mulf (broadcastInDim S4096x1536 ![0, 1] bcast_S1x1536_S4096x1536_0_1 (broadcastInDim S1x1536 ![1] bcast_S1536_S1x1536_1 (shapeCast _ (extractStridedSlice S1x1536 ![2, 0] w slices_S4x1536_S1x1536_2_0) shapeCasts_S1x1536_S1536))) (shapeCast _ dc shapeCasts_S4096x1536_S4096x1536)) (constant S_ .f32 0x00000000#32) pads_S4096x1536_S4099x1536_210_000 h_S_)) (pad S4099x1536 ![1, 0] ![2, 0] ![0, 0] (mulf (broadcastInDim S4096x1536 ![0, 1] bcast_S1x1536_S4096x1536_0_1 (broadcastInDim S1x1536 ![1] bcast_S1536_S1x1536_1 (shapeCast _ (extractStridedSlice S1x1536 ![1, 0] w slices_S4x1536_S1x1536_1_0) shapeCasts_S1x1536_S1536))) (shapeCast _ dc shapeCasts_S4096x1536_S4096x1536)) (constant S_ .f32 0x00000000#32) pads_S4096x1536_S4099x1536_120_000 h_S_)) (pad S4099x1536 ![0, 0] ![3, 0] ![0, 0] (mulf (broadcastInDim S4096x1536 ![0, 1] bcast_S1x1536_S4096x1536_0_1 (broadcastInDim S1x1536 ![1] bcast_S1536_S1x1536_1 (shapeCast _ (extractStridedSlice S1x1536 ![0, 0] w slices_S4x1536_S1x1536_0_0) shapeCasts_S1x1536_S1536))) (shapeCast _ dc shapeCasts_S4096x1536_S4096x1536)) (constant S_ .f32 0x00000000#32) pads_S4096x1536_S4099x1536_030_000 h_S_)) slices_S4099x1536_S4096x1536_3_0

/-- The reference's gradient of the taps, as the host operations compose it. -/
def REFdw (u dc : FVec Ideal S4096x1536 .f32) : FVec Ideal S8x1536 .f32 :=
  pad S8x1536 ![0, 0] ![4, 0] ![0, 0] (addf (addf (addf (pad S4x1536 ![3, 0] ![0, 0] ![0, 0] (broadcastInDim S1x1536 ![1] bcast_S1536_S1x1536_1 (Host.reduceAdd (shapeCast _ (Host.reduceAdd (mulf (shapeCast _ dc shapeCasts_S4096x1536_S4096x1536) (extractStridedSlice S4096x1536 ![3, 0] (concatenate S4099x1536 0 [⟨S3x1536, (broadcastInDim S3x1536 ![] bcast_S_S3x1536 (constant S_ .f32 0x00000000#32))⟩, ⟨S4096x1536, u⟩] concatenates_S3x1536_S4096x1536_S4099x1536_d0) slices_S4099x1536_S4096x1536_3_0)) (constant S_ .f32 0x00000000#32) reducesTo_S4096x1536_S1536_d0 h_S_) shapeCasts_S1536_S1x1536) (constant S_ .f32 0x00000000#32) reducesTo_S1x1536_S1536_d0 h_S_)) (constant S_ .f32 0x00000000#32) pads_S1x1536_S4x1536_300_000 h_S_) (pad S4x1536 ![2, 0] ![1, 0] ![0, 0] (broadcastInDim S1x1536 ![1] bcast_S1536_S1x1536_1 (Host.reduceAdd (shapeCast _ (Host.reduceAdd (mulf (shapeCast _ dc shapeCasts_S4096x1536_S4096x1536) (extractStridedSlice S4096x1536 ![2, 0] (concatenate S4099x1536 0 [⟨S3x1536, (broadcastInDim S3x1536 ![] bcast_S_S3x1536 (constant S_ .f32 0x00000000#32))⟩, ⟨S4096x1536, u⟩] concatenates_S3x1536_S4096x1536_S4099x1536_d0) slices_S4099x1536_S4096x1536_2_0)) (constant S_ .f32 0x00000000#32) reducesTo_S4096x1536_S1536_d0 h_S_) shapeCasts_S1536_S1x1536) (constant S_ .f32 0x00000000#32) reducesTo_S1x1536_S1536_d0 h_S_)) (constant S_ .f32 0x00000000#32) pads_S1x1536_S4x1536_210_000 h_S_)) (pad S4x1536 ![1, 0] ![2, 0] ![0, 0] (broadcastInDim S1x1536 ![1] bcast_S1536_S1x1536_1 (Host.reduceAdd (shapeCast _ (Host.reduceAdd (mulf (shapeCast _ dc shapeCasts_S4096x1536_S4096x1536) (extractStridedSlice S4096x1536 ![1, 0] (concatenate S4099x1536 0 [⟨S3x1536, (broadcastInDim S3x1536 ![] bcast_S_S3x1536 (constant S_ .f32 0x00000000#32))⟩, ⟨S4096x1536, u⟩] concatenates_S3x1536_S4096x1536_S4099x1536_d0) slices_S4099x1536_S4096x1536_1_0)) (constant S_ .f32 0x00000000#32) reducesTo_S4096x1536_S1536_d0 h_S_) shapeCasts_S1536_S1x1536) (constant S_ .f32 0x00000000#32) reducesTo_S1x1536_S1536_d0 h_S_)) (constant S_ .f32 0x00000000#32) pads_S1x1536_S4x1536_120_000 h_S_)) (pad S4x1536 ![0, 0] ![3, 0] ![0, 0] (broadcastInDim S1x1536 ![1] bcast_S1536_S1x1536_1 (Host.reduceAdd (shapeCast _ (Host.reduceAdd (mulf (shapeCast _ dc shapeCasts_S4096x1536_S4096x1536) (extractStridedSlice S4096x1536 ![0, 0] (concatenate S4099x1536 0 [⟨S3x1536, (broadcastInDim S3x1536 ![] bcast_S_S3x1536 (constant S_ .f32 0x00000000#32))⟩, ⟨S4096x1536, u⟩] concatenates_S3x1536_S4096x1536_S4099x1536_d0) slices_S4099x1536_S4096x1536_0_0)) (constant S_ .f32 0x00000000#32) reducesTo_S4096x1536_S1536_d0 h_S_) shapeCasts_S1536_S1x1536) (constant S_ .f32 0x00000000#32) reducesTo_S1x1536_S1536_d0 h_S_)) (constant S_ .f32 0x00000000#32) pads_S1x1536_S4x1536_030_000 h_S_)) (sitofp .f32 (constantI S_ 32 0#32)) pads_S4x1536_S8x1536_040_000 h_S_

theorem REFdu_at (w : FVec Ideal S4x1536 .f32) (dc : FVec Ideal S4096x1536 .f32) (r : Fin 4096) (l : Fin 1536) :
    REFdu w dc (ix2 r l) = du w dc r.val l := by
  have e : ∀ (k : ℕ) (n : ℕ) (x : EReal), n = r.val + k → ∀ (p : Prop) [Decidable p] (hp : p ↔ n < 4096),
      (if h : p then x * dc (ix2 ⟨n, hp.mp h⟩ l) else 0) = x * row dc (r.val + k) l := by
    intro k n x hn p _ hp
    subst hn
    by_cases h : r.val + k < 4096
    · rw [dif_pos (hp.mpr h), row_of_lt dc _ l h]
    · rw [dif_neg (fun q => h (hp.mp q)), row_of_ge dc _ l h, mul_zero]
  have hr := r.isLt
  pointwise [REFdu]
  rw [e 1 (3 + r.val - 2) _ (by omega) _ (by omega), e 2 (3 + r.val - 1) _ (by omega) _ (by omega),
    e 3 (3 + r.val) _ (by omega) _ (by omega)]
  simp only [du, row_of_lt dc r.val l r.isLt, Fin.eta]

theorem late_of_slice (u : FVec Ideal S4096x1536 .f32) (l : Fin 1536) (j n : ℕ) (x : Fin 4096) (hn : n = x.val + j)
    (h : ¬n < 3 → n - 3 < 4096) :
    (if h' : n < 3 then (0 : EReal) else u (ix2 ⟨n - 3, h h'⟩ l)) = late u (x.val + j) l := by
  subst hn
  by_cases h3 : x.val + j < 3
  · rw [dif_pos h3, late, if_pos h3]
  · rw [dif_neg h3, late, if_neg h3, row_of_lt u _ l (h h3)]

theorem REFdw_at (u dc : FVec Ideal S4096x1536 .f32) (j : Fin 8) (l : Fin 1536) :
    REFdw u dc (ix2 j l) = dw u dc j.val l := by
  have s3 : ∑ x : Fin 4096, dc (ix2 x l) * u (ix2 x l) = ∑ x : Fin 4096, dc (ix2 x l) * late u (x.val + 3) l := by
    refine Finset.sum_congr rfl fun x _ => ?_
    rw [late, if_neg (by omega), Nat.add_sub_cancel, row_of_lt u _ l x.isLt]
  have s0 : ∑ x : Fin 3, dc (ix2 (⟨x.val, by omega⟩ : Fin 4096) l) * 0
      + ∑ x : Fin 4093, dc (ix2 (⟨3 + x.val, by omega⟩ : Fin 4096) l) * u (ix2 (⟨x.val, by omega⟩ : Fin 4096) l)
      = ∑ x : Fin 4096, dc (ix2 x l) * late u (x.val + 0) l := by
    rw [Fin.sum_univ_add (a := 3) (b := 4093) (fun x : Fin 4096 => dc (ix2 x l) * late u (x.val + 0) l)]
    refine congr (congrArg _ (Finset.sum_congr rfl fun x _ => ?_)) (Finset.sum_congr rfl fun x _ => ?_)
    · rw [late, if_pos (by simp)]; rfl
    · rw [late, if_neg (by simp), row_of_lt u _ l (by simp; omega)]
      congr 3
      simp
  pointwise [REFdw]
  simp only [late_of_slice u l 1 (1 + _) _ (Nat.add_comm _ _), late_of_slice u l 2 (2 + _) _ (Nat.add_comm _ _), s3, s0]
  rw [dw]
  have hz : (FloatOps.sitofp FTy.f32 0#32 : Ideal .f32) = (0 : EReal) := by
    show (((0#32 : BitVec 32).toInt : ℝ) : EReal) = 0
    norm_num
  have hj := j.isLt
  obtain ⟨j, hj'⟩ := j
  interval_cases j <;> simp [hz]

end Cert.ConvRefIdeal.Val
end
-- ==== Proof.Conv.Stores.lean ====
module

public import Idealize.ShloMosaic.Lib.WritesUnit
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

/-! Four single rows stored over an eight-row block: what the block then holds. -/

namespace Cert.ConvStores

variable {sig : RefSig} {κ : Kind} {sp : Space} {Val : EltTy → Type}

/-- The eight rows of a tap gradient and one of its rows. -/
abbrev B8 : Shape := ⟨2, ![8, 1536]⟩
abbrev R1 : Shape := ⟨2, ![1, 1536]⟩

theorem read_row (v : View sig κ sp B8 .f32) (f) (o : ℕ) (inb) (w : R1.Idx → Val .f32) (L : List (View.Piece Val B8 .f32))
    (j : Fin 8) (l : Fin 1536) :
    v.read Val (v.writes Val f ((⟨Rect.unit (s := B8) ![o, 0] ![1, 1536] inb, w⟩ : View.Piece Val B8 .f32) :: L)) (ix2 j l)
      = if j.val = o then w (ix2 0 l) else v.read Val (v.writes Val f L) (ix2 j l) := by
  by_cases h : j.val = o
  · rw [if_pos h]
    exact View.read_writes_cons_rows_of_mem v f inb w L (ix2 j l) (ix2 (0 : Fin 1) l) (o := o) rfl h rfl
  · rw [if_neg h]
    exact View.read_writes_cons_rows_of_not_mem v f inb w L (ix2 j l) (o := o) (W := 1) rfl rfl
      (by have : j.val < o ∨ o + 1 ≤ j.val := by omega
          exact this)

theorem canon_row [∀ e, Nonempty (Val e)] (o : ℕ) (inb) (w : R1.Idx → Val .f32) (L : List (View.Piece Val B8 .f32))
    (j : Fin 8) (l : Fin 1536) :
    View.canon ((⟨Rect.unit (s := B8) ![o, 0] ![1, 1536] inb, w⟩ : View.Piece Val B8 .f32) :: L) (ix2 j l)
      = if j.val = o then w (ix2 0 l) else View.canon L (ix2 j l) := by
  by_cases h : j.val = o
  · rw [if_pos h]
    have e : (Rect.unit (s := B8) ![o, 0] ![1, 1536] inb).emb (ix2 (0 : Fin 1) l) = ix2 j l :=
      funext (Fin.forall_fin_two.mpr ⟨Fin.ext (by show o + 1 * 0 = j.val; omega), Fin.ext (by show 0 + 1 * l.val = l.val; omega)⟩)
    exact (congrArg _ e.symm).trans (View.canon_cons_emb (Rect.unit (s := B8) ![o, 0] ![1, 1536] inb) w L (ix2 (0 : Fin 1) l))
  · rw [if_neg h]
    refine View.canon_cons_of_not_mem _ L ?_
    rw [Rect.mem_set_unit]
    intro hall
    obtain ⟨h1, h2⟩ := hall (0 : Fin 2)
    have h1' : o ≤ j.val := h1
    have h2' : j.val < o + 1 := h2
    omega

theorem emb_row (o : ℕ) (ho : o < 8) (inb) (l : Fin 1536) :
    (Rect.unit (s := B8) ![o, 0] ![1, 1536] inb).emb (ix2 (0 : Fin 1) l) = ix2 (⟨o, ho⟩ : Fin 8) l :=
  funext (Fin.forall_fin_two.mpr ⟨Fin.ext (by show o + 1 * 0 = o; omega), Fin.ext (by show 0 + 1 * l.val = l.val; omega)⟩)

/-- A row loaded from a whole block. -/
theorem ld_row (X : B8.Idx → Val .f32) (o : ℕ) (ho : o < 8) (inb) (l : Fin 1536) :
    View.ld X (Rect.unit (s := B8) ![o, 0] ![1, 1536] inb) (ix2 (0 : Fin 1) l) = X (ix2 (⟨o, ho⟩ : Fin 8) l) :=
  congrArg X (emb_row o ho inb l)

/-- A row loaded after stores. -/
theorem readCov_row [∀ e, Nonempty (Val e)] (v : View sig κ sp B8 .f32) (L : List (View.Piece Val B8 .f32)) (o : ℕ) (ho : o < 8) (inb)
    (l : Fin 1536) :
    v.readCov L (Rect.unit (s := B8) ![o, 0] ![1, 1536] inb).toLoadRect (ix2 (0 : Fin 1) l) = View.canon L (ix2 (⟨o, ho⟩ : Fin 8) l) := by
  rw [View.readCov_eq_canon']
  exact congrArg (View.canon L) (emb_row o ho inb l)

/-- The whole block stored. -/
theorem canon_fill [∀ e, Nonempty (Val e)] (inb) (Z : B8.Idx → Val .f32) (L : List (View.Piece Val B8 .f32)) (j : Fin 8) (l : Fin 1536) :
    View.canon ((⟨Rect.unit (s := B8) ![0, 0] ![8, 1536] inb, Z⟩ : View.Piece Val B8 .f32) :: L) (ix2 j l) = Z (ix2 j l) := by
  have e : (Rect.unit (s := B8) ![0, 0] ![8, 1536] inb).emb (ix2 j l) = ix2 j l :=
    funext (Fin.forall_fin_two.mpr ⟨Fin.ext (by show 0 + 1 * j.val = j.val; omega), Fin.ext (by show 0 + 1 * l.val = l.val; omega)⟩)
  exact (congrArg _ e.symm).trans (View.canon_cons_emb (Rect.unit (s := B8) ![0, 0] ![8, 1536] inb) Z L (ix2 j l))

end Cert.ConvStores
end
-- ==== Proof.Conv.Final.lean ====
module

public import proofs.«01_k».proof.Proof.Conv.Blocks
public import proofs.«01_k».proof.Proof.Conv.Ref
public import proofs.«01_k».proof.Proof.Conv.Stores

@[expose] public section

set_option maxRecDepth 16384

noncomputable section

open Idealize.ShloMosaic Idealize.ShloMosaic.TcCoe Idealize.SL.Sem
open Idealize.ShloMosaic.Pipeline (Dat)
open scoped BigOperators

/-! The two results of the convolution's gradient are the reference's. -/

namespace Cert.ConvIdeal.Val

open Cert.ConvIdeal Cert.ConvIdeal.Gen Cert.ConvRows Cert.ConvStores

variable (m : (ℓ : Loc nD τ sig) → Buf (Elt Ideal) ℓ)

theorem tap (c : Dev nD) (t : Fin cfg0.N) (j : Fin 4) (inb) (l : Fin 1536) :
    View.ld (iblk m c 2 t) (Rect.unit (s := B8) ![j.val, 0] ![1, 1536] inb) (ix2 (0 : Fin 1) l) = argW m c (ix2 j l) :=
  (ld_row (iblk m c 2 t) j.val (by omega) inb l).trans (blk_w m c t j l)

/-- One point's block of the gradient of the convolved rows. -/
theorem point_du (c : Dev nD) (t : Fin cfg0.N) (r : Fin 256) (l : Fin 1536) :
    (dats m 0 c).after 5 t (ix2 r l) = (show EReal from du (argW m c) (argDC m c) (256 * t.val + r.val) l) := by
  have hp := du_block (grid0.coords t) t.val (coord t).2 (coord t).1 (argW m c) (argDC m c) (iblk m c 3 t) (iblk m c 4 t)
  by_cases h : t.val % 16 = 0
  · rw [after0_5, outsAt0_A m c t h]; frame_out
    exact hp _ _ _ _ (blk_dc m c t) (blk_after m c t) (tap m c t 3 _) (tap m c t 2 _) (tap m c t 1 _) (tap m c t 0 _) r l
  · rw [after0_5, outsAt0_B m c t h]; frame_out
    exact hp _ _ _ _ (blk_dc m c t) (blk_after m c t) (tap m c t 3 _) (tap m c t 2 _) (tap m c t 1 _) (tap m c t 0 _) r l

theorem final_du (c : Dev nD) : (dats m 0 c).arrAt 5 (cfgs 0).N
    = Cert.ConvRefIdeal.Val.REFdu (argW m c) (argDC m c) := by
  refine (dats m 0 c).arrAt_eq_of_covers 5 _ (by decide +kernel) fun t hf y => ?_
  obtain ⟨e0, e1, e2, e3, e4, e5, e6⟩ := idx t
  have ht := (coord t).2
  idx_vars y
  have he : ((View.whole main_v1_0).slice (win0_5.rect t)).emb (ix2 y0 y1) = ix2 (⟨256 * t.val + y0.val, by omega⟩ : Fin 4096) y1 := by
    blk_ext [e5]
  refine (point_du m c t y0 y1).trans ?_
  refine ((Cert.ConvRefIdeal.Val.REFdu_at (argW m c) (argDC m c) ⟨256 * t.val + y0.val, by omega⟩ y1).symm).trans ?_
  exact congrArg _ he.symm

/-- One point's part of the taps' gradient, zero at the four padding rows. -/
def term (c : Dev nD) (t : Fin cfg0.N) (y : B8.Idx) : EReal :=
  if (y 0).val < 4 then part (argU m c) (argDC m c) t.val (y 0).val (y 1) else 0

theorem step (c : Dev nD) (t : Fin cfg0.N) (h : ¬ t.val % 16 = 0) (y : B8.Idx) :
    (outsAt0 m c t.val t.isLt).2 y
      = (show EReal from (outsAt0 m c (t.val - 1) (Nat.lt_of_le_of_lt (Nat.sub_le _ _) t.isLt)).2 y) + term m c t y := by
  rw [outsAt0_B m c t h]; frame_out
  idx_vars y
  refine (read_row _ _ 3 _ _ _ y0 y1).trans ?_
  rw [term]
  have ht := (coord t).2
  have hc := (coord t).1
  have hy := y0.isLt
  by_cases h3 : y0.val = 3
  · rw [if_pos h3, if_pos (by show y0.val < 4; omega), hc]
    refine (dw_row3 t.val ht (argU m c) (argDC m c) _ _ _ _ (blk_dc m c t) (blk_u m c t) (blk_before m c t) y1).trans ?_
    obtain rfl : y0 = 3 := Fin.ext h3
    exact congrArg (· + _) (ld_row _ 3 (by omega) _ y1)
  · rw [if_neg h3]
    refine (read_row _ _ 2 _ _ _ y0 y1).trans ?_
    by_cases h2 : y0.val = 2
    · rw [if_pos h2, if_pos (by show y0.val < 4; omega), hc]
      refine (dw_row2 t.val ht (argU m c) (argDC m c) _ _ _ _ (blk_dc m c t) (blk_u m c t) (blk_before m c t) y1).trans ?_
      obtain rfl : y0 = 2 := Fin.ext h2
      exact congrArg (· + _) (ld_row _ 2 (by omega) _ y1)
    · rw [if_neg h2]
      refine (read_row _ _ 1 _ _ _ y0 y1).trans ?_
      by_cases h1 : y0.val = 1
      · rw [if_pos h1, if_pos (by show y0.val < 4; omega), hc]
        refine (dw_row1 t.val ht (argU m c) (argDC m c) _ _ _ _ (blk_dc m c t) (blk_u m c t) (blk_before m c t) y1).trans ?_
        obtain rfl : y0 = 1 := Fin.ext h1
        exact congrArg (· + _) (ld_row _ 1 (by omega) _ y1)
      · rw [if_neg h1]
        refine (read_row _ _ 0 _ _ _ y0 y1).trans ?_
        by_cases h0 : y0.val = 0
        · rw [if_pos h0, if_pos (by show y0.val < 4; omega), hc]
          refine (dw_row0 t.val ht (argU m c) (argDC m c) _ _ _ _ (blk_dc m c t) (blk_u m c t) (blk_before m c t) y1).trans ?_
          obtain rfl : y0 = 0 := Fin.ext h0
          exact congrArg (· + _) (ld_row _ 0 (by omega) _ y1)
        · rw [if_neg h0, if_neg (by show ¬ y0.val < 4; omega), add_zero]
          exact congrFun (Memref.IsWhole.read_unread _ _) (ix2 y0 y1)

theorem zero_block (j : Fin 8) (l : Fin 1536) : k0_pay3 (F := Ideal) (ix2 j l) = (0 : EReal) := by
  pointwise [k0_pay3]

theorem reset (c : Dev nD) (t : Fin cfg0.N) (h : t.val % 16 = 0) (y : B8.Idx) :
    (outsAt0 m c t.val t.isLt).2 y = (0 : EReal) + term m c t y := by
  rw [outsAt0_A m c t h]; frame_out
  idx_vars y
  refine (canon_row 3 _ _ _ y0 y1).trans ?_
  rw [term]
  have ht := (coord t).2
  have hc := (coord t).1
  have hy := y0.isLt
  by_cases h3 : y0.val = 3
  · rw [if_pos h3, if_pos (by show y0.val < 4; omega), hc]
    refine (dw_row3 t.val ht (argU m c) (argDC m c) _ _ _ _ (blk_dc m c t) (blk_u m c t) (blk_before m c t) y1).trans ?_
    obtain rfl : y0 = 3 := Fin.ext h3
    refine congrArg (· + _) ((readCov_row _ _ 3 (by omega) _ y1).trans ?_)
    refine (canon_row 2 _ _ _ _ y1).trans ((if_neg (by simp)).trans ?_)
    refine (canon_row 1 _ _ _ _ y1).trans ((if_neg (by simp)).trans ?_)
    refine (canon_row 0 _ _ _ _ y1).trans ((if_neg (by simp)).trans ?_)
    exact (canon_fill _ _ _ _ y1).trans (zero_block _ y1)
  · rw [if_neg h3]
    refine (canon_row 2 _ _ _ y0 y1).trans ?_
    by_cases h2 : y0.val = 2
    · rw [if_pos h2, if_pos (by show y0.val < 4; omega), hc]
      refine (dw_row2 t.val ht (argU m c) (argDC m c) _ _ _ _ (blk_dc m c t) (blk_u m c t) (blk_before m c t) y1).trans ?_
      obtain rfl : y0 = 2 := Fin.ext h2
      refine congrArg (· + _) ((readCov_row _ _ 2 (by omega) _ y1).trans ?_)
      refine (canon_row 1 _ _ _ _ y1).trans ((if_neg (by simp)).trans ?_)
      refine (canon_row 0 _ _ _ _ y1).trans ((if_neg (by simp)).trans ?_)
      exact (canon_fill _ _ _ _ y1).trans (zero_block _ y1)
    · rw [if_neg h2]
      refine (canon_row 1 _ _ _ y0 y1).trans ?_
      by_cases h1 : y0.val = 1
      · rw [if_pos h1, if_pos (by show y0.val < 4; omega), hc]
        refine (dw_row1 t.val ht (argU m c) (argDC m c) _ _ _ _ (blk_dc m c t) (blk_u m c t) (blk_before m c t) y1).trans ?_
        obtain rfl : y0 = 1 := Fin.ext h1
        refine congrArg (· + _) ((readCov_row _ _ 1 (by omega) _ y1).trans ?_)
        refine (canon_row 0 _ _ _ _ y1).trans ((if_neg (by simp)).trans ?_)
        exact (canon_fill _ _ _ _ y1).trans (zero_block _ y1)
      · rw [if_neg h1]
        refine (canon_row 0 _ _ _ y0 y1).trans ?_
        by_cases h0 : y0.val = 0
        · rw [if_pos h0, if_pos (by show y0.val < 4; omega), hc]
          refine (dw_row0 t.val ht (argU m c) (argDC m c) _ _ _ _ (blk_dc m c t) (blk_u m c t) (blk_before m c t) y1).trans ?_
          obtain rfl : y0 = 0 := Fin.ext h0
          refine congrArg (· + _) ((readCov_row _ _ 0 (by omega) _ y1).trans ?_)
          exact (canon_fill _ _ _ _ y1).trans (zero_block _ y1)
        · rw [if_neg h0, if_neg (by show ¬ y0.val < 4; omega), add_zero]
          exact (canon_fill _ _ _ _ y1).trans (zero_block _ y1)

/-- The sixteen parts of a tap's gradient are its one sum over all rows. -/
theorem parts (u dc : FVec Ideal ⟨2, ![4096, 1536]⟩ .f32) (j : ℕ) (l : Fin 1536) :
    ∑ t : Fin 16, part u dc t.val j l = ∑ x : Fin 4096, dc (ix2 x l) * late u (x.val + j) l := by
  refine Fin.sum_mul_add_congr (F := fun (t : Fin 16) (x : Fin 256) => row dc (256 * t.val + x.val) l * late u (256 * t.val + x.val + j) l)
    (f := fun x : Fin 4096 => dc (ix2 x l) * late u (x.val + j) l) (fun t x hl => ?_)
  dsimp only
  rw [Nat.mul_comm 256 t.val, row_of_lt dc _ l hl]

theorem final_dw (c : Dev nD) : (dats m 0 c).arrAt 6 (cfgs 0).N
    = Cert.ConvRefIdeal.Val.REFdw (argU m c) (argDC m c) := by
  refine (dats m 0 c).arrAt_eq_of_after_last 6 t0_15 (by decide +kernel) _ fun y => ?_
  idx_vars y
  have he : ((View.whole main_v1_1).slice (win0_6.rect t0_15)).emb (ix2 y0 y1) = ix2 y0 y1 := by
    blk_ext [(idx t0_15).2.2.2.2.2.2]
  blk_simp
  rw [after0_6, Pipeline.eq_sum_fin_of_reset_step_apply_last (fun n h => (outsAt0 m c n h).2) 16 (fun _ => (0 : EReal)) (term m c)
    (fun t h j => reset m c t h j) (fun t h j => step m c t h j) (le_of_eq N_0) t0_15 rfl _, zero_add]
  have hs : (∑ p : Fin cfg0.N, term m c p (ix2 y0 y1)) = dw (argU m c) (argDC m c) y0.val y1 := by
    rw [dw]
    by_cases h : y0.val < 4
    · rw [if_pos h, ← parts]
      exact Finset.sum_congr rfl fun t _ => if_pos h
    · rw [if_neg h]
      exact Finset.sum_eq_zero fun t _ => if_neg h
  exact hs.trans (Cert.ConvRefIdeal.Val.REFdw_at (argU m c) (argDC m c) y0 y1).symm

end Cert.ConvIdeal.Val
end
-- ==== Proof.Conv.Claim.lean ====
module

public import proofs.«01_k».proof.Defs
public import proofs.«01_k».proof.Proof.Conv.Final
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

/-! The convolution's gradient equals its reference, both results. -/

namespace Cert.Proof

theorem conv : Cert.algebraic_ConvIdeal_ConvRefIdeal (hConvIdeal := Cert.ConvIdeal.Gen.facts)
    (hConvRefIdeal := Cert.ConvRefIdeal.Gen.facts) := by
  pair_intro
  · run_from Cert.ConvIdeal.Gen.run_main m g
    simp only [Cert.ConvIdeal.Gen.hostOps0, Cert.ConvIdeal.Gen.hostOps0_1, StableHlo.TRef.binary, StableHlo.TRef.unary,
      StableHlo.TRef.toBuf, StableHlo.TRef.ofBuf, cast_eq, List.flatten_cons, List.flatten_nil, List.append_nil,
      List.cons_append, List.nil_append]
    after_results_simp
  · hlo_run
    · exact (Cert.ConvIdeal.Val.final_du m c).symm
    · exact (Cert.ConvIdeal.Val.final_dw m c).symm

end Cert.Proof
end
-- ==== Proof.Ffn.Rows.lean ====
module

public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

/-! The feed-forward gradient over the whole arrays, entry by entry. Row `r` is a token, `j` a part of the blob. -/

namespace Cert.FfnRows

variable (x : FVec Ideal ⟨2, ![4096, 1024]⟩ .f32) (nw : FVec Ideal ⟨2, ![1, 1024]⟩ .f32)
  (b : FVec Ideal ⟨3, ![4, 2112, 1024]⟩ .bf16) (dy : FVec Ideal ⟨2, ![4096, 1024]⟩ .f32)

/-- The normalised row. -/
def h (r : Fin 4096) (d : Fin 1024) : EReal :=
  x (ix2 r d) * Ideal.rsqrt (Ideal.div (∑ k : Fin 1024, x (ix2 r k) * x (ix2 r k)) (Ideal.ofBits FTy.f32 1149239296#32)
    + Ideal.ofBits FTy.f32 897988541#32) * nw (ix2 0 d)

/-- The three weights of a part. -/
def wg (j : Fin 4) (f : Fin 704) (d : Fin 1024) : EReal := b (ix3 j (⟨f.val, by omega⟩ : Fin 2112) d)
def wu (j : Fin 4) (f : Fin 704) (d : Fin 1024) : EReal := b (ix3 j (⟨704 + f.val, by omega⟩ : Fin 2112) d)
def wd (j : Fin 4) (f : Fin 704) (d : Fin 1024) : EReal := b (ix3 j (⟨1408 + f.val, by omega⟩ : Fin 2112) d)

/-- The gate before its nonlinearity, and the other factor. -/
def g (j : Fin 4) (r : Fin 4096) (f : Fin 704) : EReal := ∑ d : Fin 1024, h x nw r d * wg b j f d
def u (j : Fin 4) (r : Fin 4096) (f : Fin 704) : EReal := ∑ d : Fin 1024, h x nw r d * wu b j f d

/-- The sigmoid. -/
def sgm (t : EReal) : EReal := Ideal.div 1 (1 + Ideal.exp (-t))

/-- Half the incoming gradient, and its product with the last weight. -/
def dh (r : Fin 4096) (d : Fin 1024) : EReal := Ideal.ofBits FTy.f32 1056964608#32 * dy (ix2 r d)
def da (j : Fin 4) (r : Fin 4096) (f : Fin 704) : EReal := ∑ k : Fin 1024, dh dy r k * wd b j f k

/-- The gradient of the gate at one entry, in the product form. -/
def gate (a v t : EReal) : EReal := a * v * (sgm t * (1 + t * (1 - sgm t)))

/-- The gate after its nonlinearity. -/
def s (j : Fin 4) (r : Fin 4096) (f : Fin 704) : EReal := g x nw b j r f * sgm (g x nw b j r f)

/-- The gradients of the two factors. -/
def dg (j : Fin 4) (r : Fin 4096) (f : Fin 704) : EReal := gate (da b dy j r f) (u x nw b j r f) (g x nw b j r f)
def du (j : Fin 4) (r : Fin 4096) (f : Fin 704) : EReal := da b dy j r f * s x nw b j r f

/-- The four results. -/
def dwg (j : Fin 4) (f : Fin 704) (k : Fin 1024) : EReal := ∑ r : Fin 4096, dg x nw b dy j r f * h x nw r k
def dwu (j : Fin 4) (f : Fin 704) (k : Fin 1024) : EReal := ∑ r : Fin 4096, du x nw b dy j r f * h x nw r k
def dwd (j : Fin 4) (f : Fin 704) (k : Fin 1024) : EReal := ∑ r : Fin 4096, (s x nw b j r f * u x nw b j r f) * dh dy r k
def dhn (j : Fin 4) (r : Fin 4096) (k : Fin 1024) : EReal :=
  (∑ f : Fin 704, dg x nw b dy j r f * wg b j f k) + ∑ f : Fin 704, du x nw b dy j r f * wu b j f k

end Cert.FfnRows
end
-- ==== Proof.Ffn.Pure.lean ====
module

public import proofs.«01_k».proof.Proof.Ffn.Rows
public import proofs.«01_k».proof.Proof.Gen.FfnIdeal.Skeleton

@[expose] public section

set_option maxRecDepth 16384

noncomputable section

open Idealize.ShloMosaic Idealize.ShloMosaic.TcCoe Idealize.SL.Sem
open Idealize.ShloMosaic.Pipeline (Dat)
open scoped BigOperators

/-! What one point of the grid computes, over blocks that are rows `R` of the long arrays and part `j` of the blob. -/

namespace Cert.FfnIdeal.Val

open Cert.FfnIdeal Cert.FfnIdeal.Gen
open Cert.FfnRows (h wg wu wd g u sgm dh da gate s dg du)

variable (x : FVec Ideal ⟨2, ![4096, 1024]⟩ .f32) (nw : FVec Ideal ⟨2, ![1, 1024]⟩ .f32)
  (b : FVec Ideal ⟨3, ![4, 2112, 1024]⟩ .bf16) (dy : FVec Ideal ⟨2, ![4096, 1024]⟩ .f32)

/-- The blocks at one point. -/
structure Blks (R : Fin 512 → Fin 4096) (j : Fin 4) (bx : Vec Ideal S512x1024 .f32) (bn : Vec Ideal S1x1024 .f32)
    (bg bu bd : Vec Ideal S1x704x1024 .bf16) (by_ : Vec Ideal S512x1024 .f32) : Prop where
  hx : ∀ r d, bx (ix2 r d) = x (ix2 (R r) d)
  hn : ∀ d, bn (ix2 0 d) = nw (ix2 0 d)
  hg : ∀ f d, bg (ix3 0 f d) = wg b j f d
  hu : ∀ f d, bu (ix3 0 f d) = wu b j f d
  hd : ∀ f d, bd (ix3 0 f d) = wd b j f d
  hy : ∀ r d, by_ (ix2 r d) = dy (ix2 (R r) d)

variable {x nw b dy} {R : Fin 512 → Fin 4096} {j : Fin 4} {bx : Vec Ideal S512x1024 .f32} {bn : Vec Ideal S1x1024 .f32}
  {bg bu bd : Vec Ideal S1x704x1024 .bf16} {by_ : Vec Ideal S512x1024 .f32} (B : Blks x nw b dy R j bx bn bg bu bd by_)

include B

theorem pay8_at (r : Fin 512) (d : Fin 1024) : k0_pay8 (F := Ideal) bx bn (ix2 r d) = h x nw (R r) d := by
  have e : ∀ k, (show EReal from x (ix2 (R r) k)) = bx (ix2 r k) := fun k => (B.hx r k).symm
  rw [h, ← B.hn d]
  simp only [e]
  pointwise [k0_pay8]

theorem pay9_at (r : Fin 512) (f : Fin 704) : k0_pay9 (F := Ideal) bx bn bg (ix2 r f) = g x nw b j (R r) f := by
  have e : k0_pay9 (F := Ideal) bx bn bg (ix2 r f) = ∑ d : Fin 1024, (show EReal from k0_pay8 (F := Ideal) bx bn (ix2 r d)) * bg (ix3 0 f d) := by
    pointwise [k0_pay9]
  refine e.trans (Finset.sum_congr rfl fun d _ => ?_)
  exact congrArg₂ (fun a c : EReal => a * c) (pay8_at B r d) (B.hg f d)

theorem pay10_at (r : Fin 512) (f : Fin 704) : k0_pay10 (F := Ideal) bx bn bu (ix2 r f) = u x nw b j (R r) f := by
  have e : k0_pay10 (F := Ideal) bx bn bu (ix2 r f) = ∑ d : Fin 1024, (show EReal from k0_pay8 (F := Ideal) bx bn (ix2 r d)) * bu (ix3 0 f d) := by
    pointwise [k0_pay10]
  refine e.trans (Finset.sum_congr rfl fun d _ => ?_)
  exact congrArg₂ (fun a c : EReal => a * c) (pay8_at B r d) (B.hu f d)

theorem pay11_at (r : Fin 512) (f : Fin 704) : k0_pay11 (F := Ideal) bx bn bg (ix2 r f) = sgm (g x nw b j (R r) f) := by
  have e : k0_pay11 (F := Ideal) bx bn bg (ix2 r f) = sgm (k0_pay9 (F := Ideal) bx bn bg (ix2 r f)) := by
    pointwise [k0_pay11, sgm, Ideal.logistic]
  exact e.trans (congrArg sgm (pay9_at B r f))

theorem pay12_at (r : Fin 512) (f : Fin 704) : k0_pay12 (F := Ideal) bx bn bg (ix2 r f) = s x nw b j (R r) f := by
  have e : k0_pay12 (F := Ideal) bx bn bg (ix2 r f) = (show EReal from k0_pay9 (F := Ideal) bx bn bg (ix2 r f)) * k0_pay11 (F := Ideal) bx bn bg (ix2 r f) := by
    pointwise [k0_pay12]
  exact e.trans (congrArg₂ (fun a c : EReal => a * c) (pay9_at B r f) (pay11_at B r f))

theorem pay13_at (r : Fin 512) (f : Fin 704) : k0_pay13 (F := Ideal) bx bn bg bu (ix2 r f) = s x nw b j (R r) f * u x nw b j (R r) f := by
  have e : k0_pay13 (F := Ideal) bx bn bg bu (ix2 r f) = (show EReal from k0_pay12 (F := Ideal) bx bn bg (ix2 r f)) * k0_pay10 (F := Ideal) bx bn bu (ix2 r f) := by
    pointwise [k0_pay13]
  exact e.trans (congrArg₂ (fun a c : EReal => a * c) (pay12_at B r f) (pay10_at B r f))

theorem pay14_at (r : Fin 512) (d : Fin 1024) : k0_pay14 (F := Ideal) by_ (ix2 r d) = dh dy (R r) d := by
  have e : k0_pay14 (F := Ideal) by_ (ix2 r d) = Ideal.ofBits FTy.f32 1056964608#32 * (show EReal from by_ (ix2 r d)) := by
    pointwise [k0_pay14]
  exact e.trans (congrArg (fun a : EReal => Ideal.ofBits FTy.f32 1056964608#32 * a) (B.hy r d))

theorem pay16_at (r : Fin 512) (f : Fin 704) : k0_pay16 (F := Ideal) (k0_pay14 by_) (k0_pay15 bd) (ix2 r f) = da b dy j (R r) f := by
  have e : k0_pay16 (F := Ideal) (k0_pay14 by_) (k0_pay15 bd) (ix2 r f) = ∑ d : Fin 1024, (show EReal from k0_pay14 (F := Ideal) by_ (ix2 r d)) * bd (ix3 0 f d) := by
    pointwise [k0_pay16, k0_pay15]
  refine e.trans (Finset.sum_congr rfl fun d _ => ?_)
  exact congrArg₂ (fun a c : EReal => a * c) (pay14_at B r d) (B.hd f d)

theorem pay18_at (r : Fin 512) (f : Fin 704) : k0_pay18 (F := Ideal) (k0_pay12 bx bn bg) (k0_pay14 by_) (k0_pay15 bd) (ix2 r f)
    = du x nw b dy j (R r) f := by
  have e : k0_pay18 (F := Ideal) (k0_pay12 bx bn bg) (k0_pay14 by_) (k0_pay15 bd) (ix2 r f)
      = (show EReal from k0_pay16 (F := Ideal) (k0_pay14 by_) (k0_pay15 bd) (ix2 r f)) * k0_pay12 (F := Ideal) bx bn bg (ix2 r f) := by
    pointwise [k0_pay18]
  exact e.trans (congrArg₂ (fun a c : EReal => a * c) (pay16_at B r f) (pay12_at B r f))

theorem pay19_at (r : Fin 512) (f : Fin 704) :
    k0_pay19 (F := Ideal) (k0_pay9 bx bn bg) (k0_pay10 bx bn bu) (k0_pay11 bx bn bg) (k0_pay14 by_) (k0_pay15 bd) (ix2 r f)
    = dg x nw b dy j (R r) f := by
  rw [dg, gate, ← pay16_at B r f, ← pay10_at B r f, ← pay11_at B r f, ← pay9_at B r f]
  pointwise [k0_pay19]

theorem pay17_at (v : Vec Ideal S704x1024 .f32) (f : Fin 704) (k : Fin 1024) :
    k0_pay17 (F := Ideal) (k0_pay13 bx bn bg bu) (k0_pay14 by_) v (ix2 f k)
    = (show EReal from v (ix2 f k)) + ∑ r : Fin 512, (s x nw b j (R r) f * u x nw b j (R r) f) * dh dy (R r) k := by
  have e : k0_pay17 (F := Ideal) (k0_pay13 bx bn bg bu) (k0_pay14 by_) v (ix2 f k) = (show EReal from v (ix2 f k))
      + ∑ r : Fin 512, (show EReal from k0_pay13 (F := Ideal) bx bn bg bu (ix2 r f)) * k0_pay14 (F := Ideal) by_ (ix2 r k) := by
    pointwise [k0_pay17]
  refine e.trans (congrArg _ (Finset.sum_congr rfl fun r _ => ?_))
  exact congrArg₂ (fun a c : EReal => a * c) (pay13_at B r f) (pay14_at B r k)

theorem pay20_at (v : Vec Ideal S704x1024 .f32) (f : Fin 704) (k : Fin 1024) :
    k0_pay20 (F := Ideal) (k0_pay8 bx bn) (k0_pay9 bx bn bg) (k0_pay10 bx bn bu) (k0_pay11 bx bn bg) (k0_pay14 by_) (k0_pay15 bd) v (ix2 f k)
    = (show EReal from v (ix2 f k)) + ∑ r : Fin 512, dg x nw b dy j (R r) f * h x nw (R r) k := by
  have e : k0_pay20 (F := Ideal) (k0_pay8 bx bn) (k0_pay9 bx bn bg) (k0_pay10 bx bn bu) (k0_pay11 bx bn bg) (k0_pay14 by_) (k0_pay15 bd) v (ix2 f k)
      = (show EReal from v (ix2 f k)) + ∑ r : Fin 512, (show EReal from k0_pay19 (F := Ideal) (k0_pay9 bx bn bg) (k0_pay10 bx bn bu) (k0_pay11 bx bn bg) (k0_pay14 by_) (k0_pay15 bd) (ix2 r f))
        * k0_pay8 (F := Ideal) bx bn (ix2 r k) := by
    pointwise [k0_pay20]
  refine e.trans (congrArg _ (Finset.sum_congr rfl fun r _ => ?_))
  exact congrArg₂ (fun a c : EReal => a * c) (pay19_at B r f) (pay8_at B r k)

theorem pay21_at (v : Vec Ideal S704x1024 .f32) (f : Fin 704) (k : Fin 1024) :
    k0_pay21 (F := Ideal) (k0_pay8 bx bn) (k0_pay12 bx bn bg) (k0_pay14 by_) (k0_pay15 bd) v (ix2 f k)
    = (show EReal from v (ix2 f k)) + ∑ r : Fin 512, du x nw b dy j (R r) f * h x nw (R r) k := by
  have e : k0_pay21 (F := Ideal) (k0_pay8 bx bn) (k0_pay12 bx bn bg) (k0_pay14 by_) (k0_pay15 bd) v (ix2 f k)
      = (show EReal from v (ix2 f k)) + ∑ r : Fin 512, (show EReal from k0_pay18 (F := Ideal) (k0_pay12 bx bn bg) (k0_pay14 by_) (k0_pay15 bd) (ix2 r f))
        * k0_pay8 (F := Ideal) bx bn (ix2 r k) := by
    pointwise [k0_pay21]
  refine e.trans (congrArg _ (Finset.sum_congr rfl fun r _ => ?_))
  exact congrArg₂ (fun a c : EReal => a * c) (pay18_at B r f) (pay8_at B r k)

theorem pay22_at (r : Fin 512) (k : Fin 1024) :
    k0_pay22 (F := Ideal) (k0_pay9 bx bn bg) (k0_pay10 bx bn bu) (k0_pay11 bx bn bg) (k0_pay14 by_) (k0_pay15 bd) bg (ix2 r k)
    = ∑ f : Fin 704, dg x nw b dy j (R r) f * wg b j f k := by
  have e : k0_pay22 (F := Ideal) (k0_pay9 bx bn bg) (k0_pay10 bx bn bu) (k0_pay11 bx bn bg) (k0_pay14 by_) (k0_pay15 bd) bg (ix2 r k)
      = ∑ f : Fin 704, (show EReal from k0_pay19 (F := Ideal) (k0_pay9 bx bn bg) (k0_pay10 bx bn bu) (k0_pay11 bx bn bg) (k0_pay14 by_) (k0_pay15 bd) (ix2 r f))
        * bg (ix3 0 f k) := by
    pointwise [k0_pay22]
  refine e.trans (Finset.sum_congr rfl fun f _ => ?_)
  exact congrArg₂ (fun a c : EReal => a * c) (pay19_at B r f) (B.hg f k)

/-- The block of the normalised rows' gradient. -/
theorem pay1_at (r : Fin 512) (k : Fin 1024) :
    k0_pay1 (F := Ideal) (k0_pay18 (k0_pay12 bx bn bg) (k0_pay14 by_) (k0_pay15 bd))
      (k0_pay22 (k0_pay9 bx bn bg) (k0_pay10 bx bn bu) (k0_pay11 bx bn bg) (k0_pay14 by_) (k0_pay15 bd) bg) bu (ix3 0 r k)
    = Cert.FfnRows.dhn x nw b dy j (R r) k := by
  have e : ∀ (v42 : FVec Ideal S512x704 .bf16) (v66 : FVec Ideal S512x1024 .f32), k0_pay1 (F := Ideal) v42 v66 bu (ix3 0 r k)
      = (show EReal from v66 (ix2 r k)) + ∑ f : Fin 704, (show EReal from v42 (ix2 r f)) * bu (ix3 0 f k) := by
    intro v42 v66
    pointwise [k0_pay1]
  refine (e _ _).trans (congrArg₂ (fun a c : EReal => a + c) (pay22_at B r k) (Finset.sum_congr rfl fun f _ => ?_))
  exact congrArg₂ (fun a c : EReal => a * c) (pay18_at B r f) (B.hu f k)

omit B in
theorem pay2_at (v : Vec Ideal S704x1024 .f32) (f : Fin 704) (k : Fin 1024) : k0_pay2 (F := Ideal) v (ix3 0 f k) = v (ix2 f k) := by
  pointwise [k0_pay2]
omit B in
theorem pay3_at (v : Vec Ideal S704x1024 .f32) (f : Fin 704) (k : Fin 1024) : k0_pay3 (F := Ideal) v (ix3 0 f k) = v (ix2 f k) := by
  pointwise [k0_pay3]
omit B in
theorem pay4_at (v : Vec Ideal S704x1024 .f32) (f : Fin 704) (k : Fin 1024) : k0_pay4 (F := Ideal) v (ix3 0 f k) = v (ix2 f k) := by
  pointwise [k0_pay4]
omit B in
theorem pay5_at (f : Fin 704) (k : Fin 1024) : k0_pay5 (F := Ideal) (ix2 f k) = (0 : EReal) := by
  pointwise [k0_pay5]
omit B in
theorem pay6_at (f : Fin 704) (k : Fin 1024) : k0_pay6 (F := Ideal) (ix2 f k) = (0 : EReal) := by
  pointwise [k0_pay6]
omit B in
theorem pay7_at (f : Fin 704) (k : Fin 1024) : k0_pay7 (F := Ideal) (ix2 f k) = (0 : EReal) := by
  pointwise [k0_pay7]

end Cert.FfnIdeal.Val
end
-- ==== Proof.Ffn.Blocks.lean ====
module

public import proofs.«01_k».proof.Proof.Ffn.Pure
public import proofs.«01_k».proof.Proof.Gen.FfnIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

/-! The blocks the feed-forward gradient reads: 512 tokens of the rows, one part of the blob. -/

namespace Cert.FfnIdeal.Val

open Cert.FfnIdeal Cert.FfnIdeal.Gen

variable (m : (ℓ : Loc nD τ sig) → Buf (Elt Ideal) ℓ)

theorem idx : ∀ t : Fin cfg0.N, win0_0.index t = ![t.val % 8, 0] ∧ win0_1.index t = ![0, 0]
    ∧ win0_2.index t = ![t.val / 8, 0, 0] ∧ win0_3.index t = ![t.val / 8, 1, 0] ∧ win0_4.index t = ![t.val / 8, 2, 0]
    ∧ win0_5.index t = ![t.val % 8, 0] ∧ win0_6.index t = ![t.val / 8, 0, 0] ∧ win0_7.index t = ![t.val / 8, 0, 0]
    ∧ win0_8.index t = ![t.val / 8, 0, 0] ∧ win0_9.index t = ![t.val / 8, t.val % 8, 0] :=
  (by decide +kernel : ∀ t : Fin grid0.N, _)

theorem lt_points (t : Fin cfg0.N) : t.val < 32 := lt_of_lt_of_le t.isLt (le_of_eq N_0)

/-- The token of a block's row, and the part of the blob, at a point. -/
def tok (t : ℕ) (r : Fin 512) : Fin 4096 := ⟨512 * (t % 8) + r.val, by omega⟩
def part (t : Fin cfg0.N) : Fin 4 := ⟨t.val / 8, by have := lt_points t; omega⟩

/-- The rows, their scale, the blob and the incoming gradient the launch begins from. -/
abbrev argX (c : Dev nD) : FVec Ideal ⟨2, ![4096, 1024]⟩ .f32 := m ((c : Thread nD τ).loc main_arg0)
abbrev argN (c : Dev nD) : FVec Ideal ⟨2, ![1, 1024]⟩ .f32 := m ((c : Thread nD τ).loc main_arg1)
abbrev argB (c : Dev nD) : FVec Ideal ⟨3, ![4, 2112, 1024]⟩ .bf16 := m ((c : Thread nD τ).loc main_arg2)
abbrev argY (c : Dev nD) : FVec Ideal ⟨2, ![4096, 1024]⟩ .f32 := m ((c : Thread nD τ).loc main_arg3)

theorem blks (c : Dev nD) (t : Fin cfg0.N) : Blks (argX m c) (argN m c) (argB m c) (argY m c) (tok t.val) (part t)
    (iblk m c 0 t) (iblk m c 1 t) (iblk m c 2 t) (iblk m c 3 t) (iblk m c 4 t) (iblk m c 5 t) := by
  obtain ⟨e0, e1, e2, e3, e4, e5, e6, e7, e8, e9⟩ := idx t
  have ht := lt_points t
  refine ⟨fun r d => ?_, fun d => ?_, fun f d => ?_, fun f d => ?_, fun f d => ?_, fun r d => ?_⟩
  · unfold tok; blk_ext [iblk, V, e0]
  · blk_ext [iblk, V, e1]
  · unfold part Cert.FfnRows.wg; blk_ext [iblk, V, e2]
  · unfold part Cert.FfnRows.wu; blk_ext [iblk, V, e3]
  · unfold part Cert.FfnRows.wd; blk_ext [iblk, V, e4]
  · unfold tok; blk_ext [iblk, V, e5]

end Cert.FfnIdeal.Val
end
-- ==== Proof.Ffn.Points.lean ====
module

public import proofs.«01_k».proof.Proof.Ffn.Blocks

@[expose] public section

set_option maxRecDepth 16384

noncomputable section

open Idealize.ShloMosaic Idealize.ShloMosaic.TcCoe Idealize.SL.Sem
open Idealize.ShloMosaic.Pipeline (Dat)
open scoped BigOperators

/-! What each point of the grid leaves: its block of the rows' gradient, and the running sums of the weights' gradients. -/

namespace Cert.FfnIdeal.Val

open Cert.FfnIdeal Cert.FfnIdeal.Gen
open Cert.FfnRows (h wg wu wd g u sgm dh da gate dg du)

variable (m : (ℓ : Loc nD τ sig) → Buf (Elt Ideal) ℓ)

theorem point_dh (c : Dev nD) (t : Fin cfg0.N) (r : Fin 512) (k : Fin 1024) :
    (dats m 0 c).after 9 t (ix3 0 r k) = (show EReal from Cert.FfnRows.dhn (argX m c) (argN m c) (argB m c) (argY m c) (part t) (tok t.val r) k) := by
  have hp := pay1_at (blks m c t) r k
  by_cases h0 : t.val % 8 = 0
  · rw [after0_9, outsAt0_A m c t h0 (by omega)]; frame_out
    exact hp
  · by_cases h1 : t.val % 8 = 7
    · rw [after0_9, outsAt0_C m c t h0 h1]; frame_out
      exact hp
    · rw [after0_9, outsAt0_B m c t h0 h1]; frame_out
      exact hp

/-- One point's part of the gate weight's gradient. -/
def termG (c : Dev nD) (t : Fin cfg0.N) (y : S704x1024.Idx) : EReal :=
  ∑ r : Fin 512, dg (argX m c) (argN m c) (argB m c) (argY m c) (part t) (tok t.val r) (y 0) * h (argX m c) (argN m c) (tok t.val r) (y 1)

theorem resetG (c : Dev nD) (t : Fin cfg0.N) (h0 : t.val % 8 = 0) (y : S704x1024.Idx) :
    (outsAt0 m c t.val t.isLt).2.2.2.2.1 y = (0 : EReal) + termG m c t y := by
  rw [outsAt0_A m c t h0 (by omega)]; frame_out
  idx_vars y
  refine (pay20_at (blks m c t) _ y0 y1).trans ?_
  exact congrArg (· + _) (pay5_at y0 y1)

theorem stepG (c : Dev nD) (t : Fin cfg0.N) (h0 : ¬ t.val % 8 = 0) (y : S704x1024.Idx) :
    (outsAt0 m c t.val t.isLt).2.2.2.2.1 y
      = (show EReal from (outsAt0 m c (t.val - 1) (Nat.lt_of_le_of_lt (Nat.sub_le _ _) t.isLt)).2.2.2.2.1 y) + termG m c t y := by
  by_cases h1 : t.val % 8 = 7
  · rw [outsAt0_C m c t h0 h1]; frame_out
    idx_vars y
    refine (pay20_at (blks m c t) _ y0 y1).trans ?_
    exact congrArg (· + _) (congrFun (Memref.IsWhole.read_unread _ _) (ix2 y0 y1))
  · rw [outsAt0_B m c t h0 h1]; frame_out
    idx_vars y
    refine (pay20_at (blks m c t) _ y0 y1).trans ?_
    exact congrArg (· + _) (congrFun (Memref.IsWhole.read_unread _ _) (ix2 y0 y1))

theorem lastG (c : Dev nD) (t : Fin cfg0.N) (h1 : t.val % 8 = 7) (f : Fin 704) (k : Fin 1024) :
    (dats m 0 c).after 6 t (ix3 0 f k) = (outsAt0 m c t.val t.isLt).2.2.2.2.1 (ix2 f k) := by
  rw [after0_6, outsAt0_C m c t (by omega) h1]; frame_out
  exact pay2_at _ f k

/-- The eight parts are the one sum over all tokens. -/
theorem runG (c : Dev nD) (t : Fin cfg0.N) (h1 : t.val % 8 = 7) (f : Fin 704) (k : Fin 1024) :
    (outsAt0 m c t.val t.isLt).2.2.2.2.1 (ix2 f k)
      = (show EReal from FfnRows.dwg (argX m c) (argN m c) (argB m c) (argY m c) (part t) f k) := by
  rw [Pipeline.eq_sum_fin_of_reset_step_apply_of_flush (fun n h => (outsAt0 m c n h).2.2.2.2.1) 8 (fun _ => (0 : EReal)) (termG m c)
    (fun t h j => resetG m c t h j) (fun t h j => stepG m c t h j) t h1 (ix2 f k), zero_add]
  refine Fin.sum_mul_add_congr (F := fun (s : Fin 8) (r : Fin 512) => dg (argX m c) (argN m c) (argB m c) (argY m c) (⟨(8 * (t.val / 8) + s.val) / 8, by have := lt_points t; omega⟩ : Fin 4) (tok (8 * (t.val / 8) + s.val) r) f * h (argX m c) (argN m c) (tok (8 * (t.val / 8) + s.val) r) k)
    (f := fun r : Fin 4096 => dg (argX m c) (argN m c) (argB m c) (argY m c) (part t) r f * h (argX m c) (argN m c) r k) (fun s r hl => ?_)
  have hs := s.isLt
  have e1 : tok (8 * (t.val / 8) + s.val) r = ⟨s.val * 512 + r.val, hl⟩ := Fin.ext (by unfold tok; dsimp only; omega)
  have e2 : (⟨(8 * (t.val / 8) + s.val) / 8, by have := lt_points t; omega⟩ : Fin 4) = part t := Fin.ext (by unfold part; dsimp only; omega)
  rw [e1, e2]

/-- One point's part of the second weight's gradient. -/
def termU (c : Dev nD) (t : Fin cfg0.N) (y : S704x1024.Idx) : EReal :=
  ∑ r : Fin 512, du (argX m c) (argN m c) (argB m c) (argY m c) (part t) (tok t.val r) (y 0) * h (argX m c) (argN m c) (tok t.val r) (y 1)

theorem resetU (c : Dev nD) (t : Fin cfg0.N) (h0 : t.val % 8 = 0) (y : S704x1024.Idx) :
    (outsAt0 m c t.val t.isLt).2.2.2.2.2.1 y = (0 : EReal) + termU m c t y := by
  rw [outsAt0_A m c t h0 (by omega)]; frame_out
  idx_vars y
  refine (pay21_at (blks m c t) _ y0 y1).trans ?_
  exact congrArg (· + _) (pay6_at y0 y1)

theorem stepU (c : Dev nD) (t : Fin cfg0.N) (h0 : ¬ t.val % 8 = 0) (y : S704x1024.Idx) :
    (outsAt0 m c t.val t.isLt).2.2.2.2.2.1 y
      = (show EReal from (outsAt0 m c (t.val - 1) (Nat.lt_of_le_of_lt (Nat.sub_le _ _) t.isLt)).2.2.2.2.2.1 y) + termU m c t y := by
  by_cases h1 : t.val % 8 = 7
  · rw [outsAt0_C m c t h0 h1]; frame_out
    idx_vars y
    refine (pay21_at (blks m c t) _ y0 y1).trans ?_
    exact congrArg (· + _) (congrFun (Memref.IsWhole.read_unread _ _) (ix2 y0 y1))
  · rw [outsAt0_B m c t h0 h1]; frame_out
    idx_vars y
    refine (pay21_at (blks m c t) _ y0 y1).trans ?_
    exact congrArg (· + _) (congrFun (Memref.IsWhole.read_unread _ _) (ix2 y0 y1))

theorem lastU (c : Dev nD) (t : Fin cfg0.N) (h1 : t.val % 8 = 7) (f : Fin 704) (k : Fin 1024) :
    (dats m 0 c).after 7 t (ix3 0 f k) = (outsAt0 m c t.val t.isLt).2.2.2.2.2.1 (ix2 f k) := by
  rw [after0_7, outsAt0_C m c t (by omega) h1]; frame_out
  exact pay3_at _ f k

/-- The eight parts are the one sum over all tokens. -/
theorem runU (c : Dev nD) (t : Fin cfg0.N) (h1 : t.val % 8 = 7) (f : Fin 704) (k : Fin 1024) :
    (outsAt0 m c t.val t.isLt).2.2.2.2.2.1 (ix2 f k)
      = (show EReal from FfnRows.dwu (argX m c) (argN m c) (argB m c) (argY m c) (part t) f k) := by
  rw [Pipeline.eq_sum_fin_of_reset_step_apply_of_flush (fun n h => (outsAt0 m c n h).2.2.2.2.2.1) 8 (fun _ => (0 : EReal)) (termU m c)
    (fun t h j => resetU m c t h j) (fun t h j => stepU m c t h j) t h1 (ix2 f k), zero_add]
  refine Fin.sum_mul_add_congr (F := fun (s : Fin 8) (r : Fin 512) => du (argX m c) (argN m c) (argB m c) (argY m c) (⟨(8 * (t.val / 8) + s.val) / 8, by have := lt_points t; omega⟩ : Fin 4) (tok (8 * (t.val / 8) + s.val) r) f * h (argX m c) (argN m c) (tok (8 * (t.val / 8) + s.val) r) k)
    (f := fun r : Fin 4096 => du (argX m c) (argN m c) (argB m c) (argY m c) (part t) r f * h (argX m c) (argN m c) r k) (fun s r hl => ?_)
  have hs := s.isLt
  have e1 : tok (8 * (t.val / 8) + s.val) r = ⟨s.val * 512 + r.val, hl⟩ := Fin.ext (by unfold tok; dsimp only; omega)
  have e2 : (⟨(8 * (t.val / 8) + s.val) / 8, by have := lt_points t; omega⟩ : Fin 4) = part t := Fin.ext (by unfold part; dsimp only; omega)
  rw [e1, e2]

/-- One point's part of the last weight's gradient. -/
def termD (c : Dev nD) (t : Fin cfg0.N) (y : S704x1024.Idx) : EReal :=
  ∑ r : Fin 512, (FfnRows.s (argX m c) (argN m c) (argB m c) (part t) (tok t.val r) (y 0) * u (argX m c) (argN m c) (argB m c) (part t) (tok t.val r) (y 0)) * dh (argY m c) (tok t.val r) (y 1)

theorem resetD (c : Dev nD) (t : Fin cfg0.N) (h0 : t.val % 8 = 0) (y : S704x1024.Idx) :
    (outsAt0 m c t.val t.isLt).2.2.2.2.2.2 y = (0 : EReal) + termD m c t y := by
  rw [outsAt0_A m c t h0 (by omega)]; frame_out
  idx_vars y
  refine (pay17_at (blks m c t) _ y0 y1).trans ?_
  exact congrArg (· + _) (pay7_at y0 y1)

theorem stepD (c : Dev nD) (t : Fin cfg0.N) (h0 : ¬ t.val % 8 = 0) (y : S704x1024.Idx) :
    (outsAt0 m c t.val t.isLt).2.2.2.2.2.2 y
      = (show EReal from (outsAt0 m c (t.val - 1) (Nat.lt_of_le_of_lt (Nat.sub_le _ _) t.isLt)).2.2.2.2.2.2 y) + termD m c t y := by
  by_cases h1 : t.val % 8 = 7
  · rw [outsAt0_C m c t h0 h1]; frame_out
    idx_vars y
    refine (pay17_at (blks m c t) _ y0 y1).trans ?_
    exact congrArg (· + _) (congrFun (Memref.IsWhole.read_unread _ _) (ix2 y0 y1))
  · rw [outsAt0_B m c t h0 h1]; frame_out
    idx_vars y
    refine (pay17_at (blks m c t) _ y0 y1).trans ?_
    exact congrArg (· + _) (congrFun (Memref.IsWhole.read_unread _ _) (ix2 y0 y1))

theorem lastD (c : Dev nD) (t : Fin cfg0.N) (h1 : t.val % 8 = 7) (f : Fin 704) (k : Fin 1024) :
    (dats m 0 c).after 8 t (ix3 0 f k) = (outsAt0 m c t.val t.isLt).2.2.2.2.2.2 (ix2 f k) := by
  rw [after0_8, outsAt0_C m c t (by omega) h1]; frame_out
  exact pay4_at _ f k

/-- The eight parts are the one sum over all tokens. -/
theorem runD (c : Dev nD) (t : Fin cfg0.N) (h1 : t.val % 8 = 7) (f : Fin 704) (k : Fin 1024) :
    (outsAt0 m c t.val t.isLt).2.2.2.2.2.2 (ix2 f k)
      = (show EReal from FfnRows.dwd (argX m c) (argN m c) (argB m c) (argY m c) (part t) f k) := by
  rw [Pipeline.eq_sum_fin_of_reset_step_apply_of_flush (fun n h => (outsAt0 m c n h).2.2.2.2.2.2) 8 (fun _ => (0 : EReal)) (termD m c)
    (fun t h j => resetD m c t h j) (fun t h j => stepD m c t h j) t h1 (ix2 f k), zero_add]
  refine Fin.sum_mul_add_congr (F := fun (s : Fin 8) (r : Fin 512) => (FfnRows.s (argX m c) (argN m c) (argB m c) (⟨(8 * (t.val / 8) + s.val) / 8, by have := lt_points t; omega⟩ : Fin 4) (tok (8 * (t.val / 8) + s.val) r) f * u (argX m c) (argN m c) (argB m c) (⟨(8 * (t.val / 8) + s.val) / 8, by have := lt_points t; omega⟩ : Fin 4) (tok (8 * (t.val / 8) + s.val) r) f) * dh (argY m c) (tok (8 * (t.val / 8) + s.val) r) k)
    (f := fun r : Fin 4096 => (FfnRows.s (argX m c) (argN m c) (argB m c) (part t) r f * u (argX m c) (argN m c) (argB m c) (part t) r f) * dh (argY m c) r k) (fun s r hl => ?_)
  have hs := s.isLt
  have e1 : tok (8 * (t.val / 8) + s.val) r = ⟨s.val * 512 + r.val, hl⟩ := Fin.ext (by unfold tok; dsimp only; omega)
  have e2 : (⟨(8 * (t.val / 8) + s.val) / 8, by have := lt_points t; omega⟩ : Fin 4) = part t := Fin.ext (by unfold part; dsimp only; omega)
  rw [e1, e2]

end Cert.FfnIdeal.Val
end
-- ==== Proof.Ffn.Final.lean ====
module

public import proofs.«01_k».proof.Proof.Ffn.Points

@[expose] public section

set_option maxRecDepth 16384

noncomputable section

open Idealize.ShloMosaic Idealize.ShloMosaic.TcCoe Idealize.SL.Sem
open Idealize.ShloMosaic.Pipeline (Dat)
open scoped BigOperators

/-! The four arrays the feed-forward gradient leaves, entry by entry. -/

namespace Cert.FfnIdeal.Val

open Cert.FfnIdeal Cert.FfnIdeal.Gen

variable (m : (ℓ : Loc nD τ sig) → Buf (Elt Ideal) ℓ)

theorem final_6 (c : Dev nD) : (dats m 0 c).arrAt 6 (cfgs 0).N
    = (fun i => (show EReal from FfnRows.dwg (argX m c) (argN m c) (argB m c) (argY m c) (i 0) (i 1) (i 2))
        : FVec Ideal ⟨3, ![4, 704, 1024]⟩ .bf16) := by
  refine (dats m 0 c).arrAt_eq_of_covers 6 _ (by decide +kernel) fun t hf y => ?_
  obtain ⟨e0, e1, e2, e3, e4, e5, e6, e7, e8, e9⟩ := idx t
  have ht := lt_points t
  have h7 : t.val % 8 = 7 := (flush0_6 t).mp hf
  idx_vars y
  obtain rfl : y0 = 0 := Subsingleton.elim _ _
  have he : ((View.whole main_v0_0).slice (win0_6.rect t)).emb (ix3 0 y1 y2) = ix3 (part t) y1 y2 := by
    unfold part; blk_ext [e6]
  refine (lastG m c t h7 y1 y2).trans ((runG m c t h7 y1 y2).trans ?_)
  exact (congrArg (fun i : Shape.Idx ⟨3, ![4, 704, 1024]⟩ => FfnRows.dwg (argX m c) (argN m c) (argB m c) (argY m c) (i 0) (i 1) (i 2)) he).symm

theorem final_7 (c : Dev nD) : (dats m 0 c).arrAt 7 (cfgs 0).N
    = (fun i => (show EReal from FfnRows.dwu (argX m c) (argN m c) (argB m c) (argY m c) (i 0) (i 1) (i 2))
        : FVec Ideal ⟨3, ![4, 704, 1024]⟩ .bf16) := by
  refine (dats m 0 c).arrAt_eq_of_covers 7 _ (by decide +kernel) fun t hf y => ?_
  obtain ⟨e0, e1, e2, e3, e4, e5, e6, e7, e8, e9⟩ := idx t
  have ht := lt_points t
  have h7 : t.val % 8 = 7 := (flush0_7 t).mp hf
  idx_vars y
  obtain rfl : y0 = 0 := Subsingleton.elim _ _
  have he : ((View.whole main_v0_1).slice (win0_7.rect t)).emb (ix3 0 y1 y2) = ix3 (part t) y1 y2 := by
    unfold part; blk_ext [e7]
  refine (lastU m c t h7 y1 y2).trans ((runU m c t h7 y1 y2).trans ?_)
  exact (congrArg (fun i : Shape.Idx ⟨3, ![4, 704, 1024]⟩ => FfnRows.dwu (argX m c) (argN m c) (argB m c) (argY m c) (i 0) (i 1) (i 2)) he).symm

theorem final_8 (c : Dev nD) : (dats m 0 c).arrAt 8 (cfgs 0).N
    = (fun i => (show EReal from FfnRows.dwd (argX m c) (argN m c) (argB m c) (argY m c) (i 0) (i 1) (i 2))
        : FVec Ideal ⟨3, ![4, 704, 1024]⟩ .bf16) := by
  refine (dats m 0 c).arrAt_eq_of_covers 8 _ (by decide +kernel) fun t hf y => ?_
  obtain ⟨e0, e1, e2, e3, e4, e5, e6, e7, e8, e9⟩ := idx t
  have ht := lt_points t
  have h7 : t.val % 8 = 7 := (flush0_8 t).mp hf
  idx_vars y
  obtain rfl : y0 = 0 := Subsingleton.elim _ _
  have he : ((View.whole main_v0_2).slice (win0_8.rect t)).emb (ix3 0 y1 y2) = ix3 (part t) y1 y2 := by
    unfold part; blk_ext [e8]
  refine (lastD m c t h7 y1 y2).trans ((runD m c t h7 y1 y2).trans ?_)
  exact (congrArg (fun i : Shape.Idx ⟨3, ![4, 704, 1024]⟩ => FfnRows.dwd (argX m c) (argN m c) (argB m c) (argY m c) (i 0) (i 1) (i 2)) he).symm

theorem final_9 (c : Dev nD) : (dats m 0 c).arrAt 9 (cfgs 0).N
    = (fun i => (show EReal from FfnRows.dhn (argX m c) (argN m c) (argB m c) (argY m c) (i 0) (i 1) (i 2))
        : FVec Ideal ⟨3, ![4, 4096, 1024]⟩ .bf16) := by
  refine (dats m 0 c).arrAt_eq_of_covers 9 _ (by decide +kernel) fun t hf y => ?_
  obtain ⟨e0, e1, e2, e3, e4, e5, e6, e7, e8, e9⟩ := idx t
  have ht := lt_points t
  idx_vars y
  obtain rfl : y0 = 0 := Subsingleton.elim _ _
  have he : ((View.whole main_v0_3).slice (win0_9.rect t)).emb (ix3 0 y1 y2) = ix3 (part t) (tok t.val y1) y2 := by
    unfold part tok; blk_ext [e9]
  refine (point_dh m c t y1 y2).trans ?_
  exact (congrArg (fun i : Shape.Idx ⟨3, ![4, 4096, 1024]⟩ => FfnRows.dhn (argX m c) (argN m c) (argB m c) (argY m c) (i 0) (i 1) (i 2)) he).symm

end Cert.FfnIdeal.Val
end
-- ==== Proof.Reals.Basic.lean ====
module

public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)
open scoped BigOperators

/-! Extended reals that are real, and the operations that keep them so. -/

namespace Cert.Reals

/-- A value that is neither infinity. -/
def IsReal (x : EReal) : Prop := ∃ r : ℝ, x = (r : EReal)

theorem fin_of_abs {x : EReal} (h : max x (-x) < ⊤) : IsReal x := by
  induction x with
  | bot => simp at h
  | top => simp at h
  | coe r => exact ⟨r, rfl⟩

theorem fin_coe (r : ℝ) : IsReal (r : EReal) := ⟨r, rfl⟩
theorem fin_zero : IsReal 0 := ⟨0, rfl⟩
theorem fin_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.neg {x : EReal} (hx : IsReal x) : IsReal (-x) := by
  obtain ⟨a, rfl⟩ := hx; exact ⟨-a, (EReal.coe_neg a).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

theorem fin_sum {ι : Type} (s : Finset ι) (f : ι → EReal) (hf : ∀ i ∈ s, IsReal (f i)) : IsReal (∑ i ∈ s, f i) :=
  Finset.sum_induction f IsReal (fun _ _ => IsReal.add) fin_zero hf

theorem fin_sum_univ {ι : Type} [Fintype ι] (f : ι → EReal) (hf : ∀ i, IsReal (f i)) : IsReal (∑ i, f i) :=
  fin_sum _ _ fun i _ => hf i

/-- A quotient by a real that is not zero. -/
theorem IsReal.div {x : EReal} (hx : IsReal x) {r : ℝ} (hr : r ≠ 0) : IsReal (Ideal.div x (r : EReal)) := by
  obtain ⟨a, rfl⟩ := hx
  refine ⟨a * r⁻¹, ?_⟩
  rw [Ideal.div, if_neg (by exact_mod_cast hr), EReal.coe_mul, EReal.coe_inv]

/-- The sigmoid of a real is real. -/
theorem IsReal.sigmoid {x : EReal} (hx : IsReal x) : IsReal (Ideal.div 1 (1 + Ideal.exp (-x))) := by
  obtain ⟨a, rfl⟩ := hx
  have e : (1 : EReal) + Ideal.exp (-(a : EReal)) = ((1 + Real.exp (-a) : ℝ) : EReal) := by
    rw [← EReal.coe_neg, show Ideal.exp ((-a : ℝ) : EReal) = ((Real.exp (-a) : ℝ) : EReal) from rfl, EReal.coe_add]; rfl
  rw [e]
  exact fin_one.div (ne_of_gt (by positivity))

/-- The reciprocal root of a mean square moved up by a positive real. -/
theorem fin_rsqrt_mean {ι : Type} [Fintype ι] (f : ι → EReal) (hf : ∀ i, IsReal (f i)) {n e : ℝ} (hn : 0 < n) (he : 0 < e) :
    IsReal (Ideal.rsqrt (Ideal.div (∑ i, f i * f i) (n : EReal) + (e : EReal))) := by
  have hs : ∃ r : ℝ, 0 ≤ r ∧ (∑ i, f i * f i) = (r : EReal) :=
    Finset.sum_induction (fun i => f i * f i) (fun x => ∃ r : ℝ, 0 ≤ r ∧ x = (r : EReal))
      (fun _ _ ⟨a, ha, ea⟩ ⟨b, hb, eb⟩ => ⟨a + b, add_nonneg ha hb, by rw [ea, eb, EReal.coe_add]⟩) ⟨0, le_rfl, rfl⟩
      (fun i _ => by obtain ⟨a, ea⟩ := hf i; exact ⟨a * a, mul_self_nonneg a, by show f i * f i = _; rw [ea, EReal.coe_mul]⟩)
  obtain ⟨r, hr, er⟩ := hs
  have hp : 0 < r * n⁻¹ + e := add_pos_of_nonneg_of_pos (mul_nonneg hr (inv_nonneg.mpr hn.le)) he
  rw [er, Ideal.div, if_neg (by exact_mod_cast hn.ne'), ← EReal.coe_inv, ← EReal.coe_mul, ← EReal.coe_add]
  refine ⟨(√(r * n⁻¹ + e))⁻¹, ?_⟩
  show (if r * n⁻¹ + e < 0 then _ else if r * n⁻¹ + e = 0 then _ else _) = _
  rw [if_neg (not_lt.mpr hp.le), if_neg hp.ne']

/-- The product rule of a gate and its sigmoid, both ways of writing it. -/
theorem gate_rule {a u g s : EReal} (ha : IsReal a) (hu : IsReal u) (hg : IsReal g) (hs : IsReal s) :
    a * u * s + g * (a * u) * (s * (1 - s)) = a * u * (s * (1 + g * (1 - s))) := by
  obtain ⟨a, rfl⟩ := ha; obtain ⟨u, rfl⟩ := hu; obtain ⟨g, rfl⟩ := hg; obtain ⟨s, rfl⟩ := hs
  rw [← EReal.coe_one]
  simp only [← EReal.coe_mul, ← EReal.coe_add, ← EReal.coe_sub]
  exact congrArg _ (by ring)

/-! The constants. -/

theorem c1024 : Ideal.ofBits .f32 0x44800000#32 = ((1024 : ℝ) : EReal) := by
  simp [Ideal.ofBits, Ideal.ieee, -EReal.coe_mul]; norm_num
theorem chalf : Ideal.ofBits .f32 0x3F000000#32 = ((2⁻¹ : ℝ) : EReal) := by
  simp [Ideal.ofBits, Ideal.ieee, -EReal.coe_mul]; norm_num
theorem ceps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]
theorem ctop : Ideal.ofBits .f32 0x7F800000#32 = ⊤ := by
  simp [Ideal.ofBits, Ideal.ieee]

end Cert.Reals
end
-- ==== Proof.Ffn.Ref.lean ====
module

public import proofs.«01_k».proof.Proof.Ffn.Rows
public import proofs.«01_k».proof.Proof.Reals.Basic
public import proofs.«01_k».proof.Proof.Gen.FfnRefIdeal.Run
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

/-! The reference's feed-forward gradient in layers, each read at an index. -/

namespace Cert.FfnRefIdeal.Val

open Cert.FfnRefIdeal Cert.FfnRefIdeal.Gen Cert.FfnRefIdeal.Value

variable (x : FVec Ideal S4096x1024 .f32) (nw : FVec Ideal S1x1024 .f32) (b : FVec Ideal S4x2112x1024 .bf16)
  (dy : FVec Ideal S4096x1024 .f32)

/-- The normalised rows. -/
def tH : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 nw)

/-- Each part's copy of the normalised rows. -/
def tHB (h : FVec Ideal S4096x1024 .f32) : FVec Ideal S4x4096x1024 .f32 :=
  broadcastInDim S4x4096x1024 ![1, 2] bcast_S4096x1024_S4x4096x1024_1_2 h

/-- The three weights in the blob. -/
def tWG : FVec Ideal S4x704x1024 .f32 := extf .f32 (extractStridedSlice S4x704x1024 ![0, 0, 0] b slices_S4x2112x1024_S4x704x1024_0_0_0) bitsLt_bf16_f32
def tWU : FVec Ideal S4x704x1024 .f32 := extf .f32 (extractStridedSlice S4x704x1024 ![0, 704, 0] b slices_S4x2112x1024_S4x704x1024_0_704_0) bitsLt_bf16_f32
def tWD : FVec Ideal S4x704x1024 .f32 := extf .f32 (extractStridedSlice S4x704x1024 ![0, 1408, 0] b slices_S4x2112x1024_S4x704x1024_0_1408_0) bitsLt_bf16_f32

/-- Rows times a weight. -/
def tProd (hb : FVec Ideal S4x4096x1024 .f32) (w : FVec Ideal S4x704x1024 .f32) : FVec Ideal S4x4096x704 .f32 :=
  Host.dotGeneral dot_S4x4096x1024_S4x704x1024_S4x4096x704_2_2_1_1_0_0 none hb w

/-- The sigmoid of the gate. -/
def tSG (g : FVec Ideal S4x4096x704 .f32) : FVec Ideal S4x4096x704 .f32 :=
  Host.divf (broadcastInDim S4x4096x704 ![] bcast_S_S4x4096x704 (constant S_ .f32 0x3F800000#32)) (addf (broadcastInDim S4x4096x704 ![] bcast_S_S4x4096x704 (constant S_ .f32 0x3F800000#32)) (Host.exp (Host.negf g)))

/-- Half the incoming gradient. -/
def tDY : FVec Ideal S4096x1024 .f32 := mulf (broadcastInDim S4096x1024 ![] bcast_S_S4096x1024 (constant S_ .f32 0x3F000000#32)) dy

/-- The gradient of the gated product. -/
def tDA (d : FVec Ideal S4096x1024 .f32) (w : FVec Ideal S4x704x1024 .f32) : FVec Ideal S4x4096x704 .f32 :=
  transpose S4x4096x704 [1, 0, 2] (Host.dotGeneral dot_S4096x1024_S4x704x1024_S4096x4x704_1_2_0_01_n_n none d w) transposes_S4096x4x704_S4x4096x704_1_0_2

/-- The gradient of the gate. -/
def tDG (g u sg da : FVec Ideal S4x4096x704 .f32) : FVec Ideal S4x4096x704 .f32 :=
  addf (mulf (mulf da u) sg) (mulf (mulf g (mulf da u)) (mulf sg (subf (broadcastInDim S4x4096x704 ![] bcast_S_S4x4096x704 (constant S_ .f32 0x3F800000#32)) sg)))

/-- A weight's gradient. -/
def tGrad (d : FVec Ideal S4x4096x704 .f32) (hb : FVec Ideal S4x4096x1024 .f32) : FVec Ideal S4x704x1024 .bf16 :=
  truncf .bf16 (Host.dotGeneral dot_S4x4096x704_S4x4096x1024_S4x704x1024_1_1_2_2_0_0 none d hb) bitsLt_bf16_f32

/-- The last weight's gradient. -/
def tGradD (d : FVec Ideal S4096x1024 .f32) (a : FVec Ideal S4x4096x704 .f32) : FVec Ideal S4x704x1024 .bf16 :=
  truncf .bf16 (transpose S4x704x1024 [1, 2, 0] (Host.dotGeneral dot_S4096x1024_S4x4096x704_S1024x4x704_0_1_1_02_n_n none d a) transposes_S1024x4x704_S4x704x1024_1_2_0) bitsLt_bf16_f32

/-- The gradient of the normalised rows. -/
def tGradH (du dg : FVec Ideal S4x4096x704 .f32) (wu wg : FVec Ideal S4x704x1024 .f32) : FVec Ideal S4x4096x1024 .bf16 :=
  truncf .bf16 (addf (Host.dotGeneral dot_S4x4096x704_S4x704x1024_S4x4096x1024_2_1_1_2_0_0 none du wu) (Host.dotGeneral dot_S4x4096x704_S4x704x1024_S4x4096x1024_2_1_1_2_0_0 none dg wg)) bitsLt_bf16_f32

def lG := tProd (tHB (tH x nw)) (tWG b)
def lU := tProd (tHB (tH x nw)) (tWU b)
def lDA := tDA (tDY dy) (tWD b)
def lDG := tDG (lG x nw b) (lU x nw b) (tSG (lG x nw b)) (lDA b dy)
def lS := mulf (lG x nw b) (tSG (lG x nw b))
def REFdwg := tGrad (lDG x nw b dy) (tHB (tH x nw))
def REFdwu := tGrad (mulf (lS x nw b) (lDA b dy)) (tHB (tH x nw))
def REFdwd := tGradD (tDY dy) (mulf (lS x nw b) (lU x nw b))
def REFdh := tGradH (mulf (lS x nw b) (lDA b dy)) (lDG x nw b dy) (tWU b) (tWG b)

variable (m : (ℓ : Loc nD τ sig) → Buf (Elt Ideal) ℓ) (c : Dev nD)

theorem res0 : res_main_v40 m c = REFdwg (m ((c.tc : Thread nD τ).loc main_arg0)) (m ((c.tc : Thread nD τ).loc main_arg1)) (m ((c.tc : Thread nD τ).loc main_arg2)) (m ((c.tc : Thread nD τ).loc main_arg3)) := rfl
theorem res3 : res_main_v43 m c = REFdh (m ((c.tc : Thread nD τ).loc main_arg0)) (m ((c.tc : Thread nD τ).loc main_arg1)) (m ((c.tc : Thread nD τ).loc main_arg2)) (m ((c.tc : Thread nD τ).loc main_arg3)) := rfl

theorem tH_at (r : Fin 4096) (d : Fin 1024) : tH x nw (ix2 r d) = FfnRows.h x nw r d := by
  rw [FfnRows.h]
  pointwise [tH]
theorem tHB_at (h : FVec Ideal S4096x1024 .f32) (j : Fin 4) (r : Fin 4096) (d : Fin 1024) : tHB h (ix3 j r d) = h (ix2 r d) := by
  pointwise [tHB]
theorem tWG_at (j : Fin 4) (f : Fin 704) (d : Fin 1024) : tWG b (ix3 j f d) = b (ix3 j (⟨f.val, by omega⟩ : Fin 2112) d) := by
  pointwise [tWG]
theorem tWU_at (j : Fin 4) (f : Fin 704) (d : Fin 1024) : tWU b (ix3 j f d) = b (ix3 j (⟨704 + f.val, by omega⟩ : Fin 2112) d) := by
  pointwise [tWU]
theorem tWD_at (j : Fin 4) (f : Fin 704) (d : Fin 1024) : tWD b (ix3 j f d) = b (ix3 j (⟨1408 + f.val, by omega⟩ : Fin 2112) d) := by
  pointwise [tWD]
theorem tProd_at (hb : FVec Ideal S4x4096x1024 .f32) (w : FVec Ideal S4x704x1024 .f32) (j : Fin 4) (r : Fin 4096) (f : Fin 704) :
    tProd hb w (ix3 j r f) = ∑ d : Fin 1024, (show EReal from hb (ix3 j r d)) * w (ix3 j f d) := by
  pointwise [tProd]
theorem tSG_at (g : FVec Ideal S4x4096x704 .f32) (j : Fin 4) (r : Fin 4096) (f : Fin 704) :
    tSG g (ix3 j r f) = Ideal.div 1 (1 + Ideal.exp (-(show EReal from g (ix3 j r f)))) := by
  pointwise [tSG]
theorem tDA_at (d : FVec Ideal S4096x1024 .f32) (w : FVec Ideal S4x704x1024 .f32) (j : Fin 4) (r : Fin 4096) (f : Fin 704) :
    tDA d w (ix3 j r f) = ∑ k : Fin 1024, (show EReal from d (ix2 r k)) * w (ix3 j f k) := by
  pointwise [tDA]
theorem tDY_at (r : Fin 4096) (d : Fin 1024) : tDY dy (ix2 r d) = FfnRows.dh dy r d := by
  rw [FfnRows.dh]
  pointwise [tDY]
theorem tDG_at (g u sg da : FVec Ideal S4x4096x704 .f32) (i0 : Fin 4) (i1 : Fin 4096) (i2 : Fin 704) :
    tDG g u sg da (ix3 i0 i1 i2) = (show EReal from da (ix3 i0 i1 i2)) * u (ix3 i0 i1 i2) * sg (ix3 i0 i1 i2)
      + (show EReal from g (ix3 i0 i1 i2)) * ((show EReal from da (ix3 i0 i1 i2)) * u (ix3 i0 i1 i2)) * ((show EReal from sg (ix3 i0 i1 i2)) * (1 - (show EReal from sg (ix3 i0 i1 i2)))) := by
  pointwise [tDG]
theorem mul_at (a b : FVec Ideal S4x4096x704 .f32) (i : S4x4096x704.Idx) : mulf a b i = (show EReal from a i) * (show EReal from b i) := rfl
theorem tGrad_at (d : FVec Ideal S4x4096x704 .f32) (hb : FVec Ideal S4x4096x1024 .f32) (j : Fin 4) (f : Fin 704) (k : Fin 1024) :
    tGrad d hb (ix3 j f k) = ∑ r : Fin 4096, (show EReal from d (ix3 j r f)) * hb (ix3 j r k) := by
  pointwise [tGrad]
theorem tGradD_at (d : FVec Ideal S4096x1024 .f32) (a : FVec Ideal S4x4096x704 .f32) (j : Fin 4) (f : Fin 704) (k : Fin 1024) :
    tGradD d a (ix3 j f k) = ∑ r : Fin 4096, (show EReal from d (ix2 r k)) * a (ix3 j r f) := by
  pointwise [tGradD]
theorem tGradH_at (du dg : FVec Ideal S4x4096x704 .f32) (wu wg : FVec Ideal S4x704x1024 .f32) (j : Fin 4) (r : Fin 4096) (k : Fin 1024) :
    tGradH du dg wu wg (ix3 j r k) = (∑ f : Fin 704, (show EReal from du (ix3 j r f)) * wu (ix3 j f k)) + ∑ f : Fin 704, (show EReal from dg (ix3 j r f)) * wg (ix3 j f k) := by
  pointwise [tGradH]

/-! The layers over the arguments. -/

theorem hb_at (j : Fin 4) (r : Fin 4096) (d : Fin 1024) : tHB (tH x nw) (ix3 j r d) = FfnRows.h x nw r d :=
  (tHB_at _ j r d).trans (tH_at x nw r d)

theorem lG_at (j : Fin 4) (r : Fin 4096) (f : Fin 704) : lG x nw b (ix3 j r f) = FfnRows.g x nw b j r f := by
  refine (tProd_at _ _ j r f).trans (Finset.sum_congr rfl fun d _ => ?_)
  exact congrArg₂ (fun a c : EReal => a * c) (hb_at x nw j r d) (tWG_at b j f d)

theorem lU_at (j : Fin 4) (r : Fin 4096) (f : Fin 704) : lU x nw b (ix3 j r f) = FfnRows.u x nw b j r f := by
  refine (tProd_at _ _ j r f).trans (Finset.sum_congr rfl fun d _ => ?_)
  exact congrArg₂ (fun a c : EReal => a * c) (hb_at x nw j r d) (tWU_at b j f d)

theorem lDA_at (j : Fin 4) (r : Fin 4096) (f : Fin 704) : lDA b dy (ix3 j r f) = FfnRows.da b dy j r f := by
  refine (tDA_at _ _ j r f).trans (Finset.sum_congr rfl fun k _ => ?_)
  exact congrArg₂ (fun a c : EReal => a * c) (tDY_at dy r k) (tWD_at b j f k)

theorem lSG_at (j : Fin 4) (r : Fin 4096) (f : Fin 704) : tSG (lG x nw b) (ix3 j r f) = FfnRows.sgm (FfnRows.g x nw b j r f) :=
  (tSG_at _ j r f).trans (congrArg FfnRows.sgm (lG_at x nw b j r f))

theorem lS_at (j : Fin 4) (r : Fin 4096) (f : Fin 704) : lS x nw b (ix3 j r f) = FfnRows.s x nw b j r f :=
  (mul_at _ _ _).trans (congrArg₂ (fun a c : EReal => a * c) (lG_at x nw b j r f) (lSG_at x nw b j r f))

theorem lDU_at (j : Fin 4) (r : Fin 4096) (f : Fin 704) : mulf (lS x nw b) (lDA b dy) (ix3 j r f) = FfnRows.du x nw b dy j r f :=
  ((mul_at _ _ _).trans (congrArg₂ (fun a c : EReal => a * c) (lS_at x nw b j r f) (lDA_at b dy j r f))).trans (mul_comm _ _)

theorem lA_at (j : Fin 4) (r : Fin 4096) (f : Fin 704) : mulf (lS x nw b) (lU x nw b) (ix3 j r f)
    = FfnRows.s x nw b j r f * FfnRows.u x nw b j r f :=
  (mul_at _ _ _).trans (congrArg₂ (fun a c : EReal => a * c) (lS_at x nw b j r f) (lU_at x nw b j r f))

/-! Over real arguments every layer is real. -/

open Cert.Reals

/-- Every entry of the four arguments is real. -/
structure Real4 : Prop where
  x : ∀ r d, IsReal (x (ix2 r d))
  n : ∀ d, IsReal (nw (ix2 0 d))
  b : ∀ j f d, IsReal (b (ix3 j f d))
  y : ∀ r d, IsReal (dy (ix2 r d))

variable {x nw b dy} (H : Real4 x nw b dy)
include H

theorem real_h (r : Fin 4096) (d : Fin 1024) : IsReal (FfnRows.h x nw r d) := by
  obtain ⟨e, he, hc⟩ := ceps
  refine IsReal.mul (IsReal.mul (H.x r d) ?_) (H.n d)
  have := fin_rsqrt_mean (fun k : Fin 1024 => (show EReal from x (ix2 r k))) (H.x r) (by norm_num : (0 : ℝ) < 1024) he
  rw [← c1024, ← hc] at this
  exact this

theorem real_g (j : Fin 4) (r : Fin 4096) (f : Fin 704) : IsReal (FfnRows.g x nw b j r f) :=
  fin_sum_univ _ fun d => (real_h H r d).mul (H.b _ _ _)

theorem real_u (j : Fin 4) (r : Fin 4096) (f : Fin 704) : IsReal (FfnRows.u x nw b j r f) :=
  fin_sum_univ _ fun d => (real_h H r d).mul (H.b _ _ _)

theorem real_da (j : Fin 4) (r : Fin 4096) (f : Fin 704) : IsReal (FfnRows.da b dy j r f) :=
  fin_sum_univ _ fun d => IsReal.mul (IsReal.mul (chalf ▸ fin_coe _) (H.y r d)) (H.b _ _ _)

theorem lDG_at (j : Fin 4) (r : Fin 4096) (f : Fin 704) : lDG x nw b dy (ix3 j r f) = FfnRows.dg x nw b dy j r f := by
  have e := gate_rule (real_da H j r f) (real_u H j r f) (real_g H j r f) (real_g H j r f).sigmoid
  refine (tDG_at _ _ _ _ j r f).trans (Eq.trans ?_ e)
  (
    erw [show lDA b dy (ix3 j r f) = _ from lDA_at b dy j r f, show lU x nw b (ix3 j r f) = _ from lU_at x nw b j r f,
      show tSG (lG x nw b) (ix3 j r f) = _ from lSG_at x nw b j r f, show lG x nw b (ix3 j r f) = _ from lG_at x nw b j r f]
    rfl)

/-! The four results, entry by entry. -/

theorem dwg_eq : REFdwg x nw b dy = (fun i => (show EReal from FfnRows.dwg x nw b dy (i 0) (i 1) (i 2)) : FVec Ideal S4x704x1024 .bf16) := by
  funext i
  idx_vars i
  refine (tGrad_at _ _ i0 i1 i2).trans (Finset.sum_congr rfl fun r _ => ?_)
  exact congrArg₂ (fun a c : EReal => a * c) (lDG_at H i0 r i1) (hb_at x nw i0 r i2)

omit H in
theorem dwu_eq : REFdwu x nw b dy = (fun i => (show EReal from FfnRows.dwu x nw b dy (i 0) (i 1) (i 2)) : FVec Ideal S4x704x1024 .bf16) := by
  funext i
  idx_vars i
  refine (tGrad_at _ _ i0 i1 i2).trans (Finset.sum_congr rfl fun r _ => ?_)
  exact congrArg₂ (fun a c : EReal => a * c) (lDU_at x nw b dy i0 r i1) (hb_at x nw i0 r i2)

omit H in
theorem dwd_eq : REFdwd x nw b dy = (fun i => (show EReal from FfnRows.dwd x nw b dy (i 0) (i 1) (i 2)) : FVec Ideal S4x704x1024 .bf16) := by
  funext i
  idx_vars i
  refine (tGradD_at _ _ i0 i1 i2).trans (Finset.sum_congr rfl fun r _ => ?_)
  refine (mul_comm (show EReal from tDY dy (ix2 r i2)) _).trans ?_
  exact congrArg₂ (fun a c : EReal => a * c) (lA_at x nw b i0 r i1) (tDY_at dy r i2)

theorem dh_eq : REFdh x nw b dy = (fun i => (show EReal from FfnRows.dhn x nw b dy (i 0) (i 1) (i 2)) : FVec Ideal S4x4096x1024 .bf16) := by
  funext i
  idx_vars i
  refine (tGradH_at _ _ _ _ i0 i1 i2).trans ((add_comm (G := EReal) _ _).trans ?_)
  refine congrArg₂ (fun a c : EReal => a + c) (Finset.sum_congr rfl fun f _ => ?_) (Finset.sum_congr rfl fun f _ => ?_)
  · exact congrArg₂ (fun a c : EReal => a * c) (lDG_at H i0 i1 f) (tWG_at b i0 f i2)
  · exact congrArg₂ (fun a c : EReal => a * c) (lDU_at x nw b dy i0 i1 f) (tWU_at b i0 f i2)

end Cert.FfnRefIdeal.Val
end
-- ==== Proof.Ffn.Claim.lean ====
module

public import proofs.«01_k».proof.Defs
public import proofs.«01_k».proof.Proof.Ffn.Final
public import proofs.«01_k».proof.Proof.Ffn.Ref
public import Idealize.ShloMosaic.Lib.Claim
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open scoped BigOperators

/-! The feed-forward gradient equals its reference, all four results, where the arguments are real. -/

namespace Cert.FfnPre

open Cert.Pre_ffn_finite

theorem facts : Cert.Pre_ffn_finite.Facts where
  bcast_S_S4096x1024 := by decide
  reducesTo_S4096x1024_S_d0_1 := by decide
  h_S_ := by decide
  bcast_S_S1x1024 := by decide
  reducesTo_S1x1024_S_d0_1 := by decide
  bitsLt_bf16_f32 := by decide
  bcast_S_S4x2112x1024 := by decide
  reducesTo_S4x2112x1024_S_d0_1_2 := by decide

attribute [local instance] facts

/-- An entry that compares less than infinity is real. -/
theorem real_of_lt {s : Shape} (x : FVec Ideal s .f32) (dims : Fin S_.rank → Fin s.rank) (hb) (i : s.Idx)
    (h : cmpf .olt (Host.absf x) (broadcastInDim s dims hb (constant (F := Ideal) S_ .f32 0x7F800000#32)) i = 1#1) :
    Cert.Reals.IsReal (x i) := by
  have h' : BitVec.ofBool (decide (max (show EReal from x i) (-(show EReal from x i)) < Ideal.ofBits .f32 0x7F800000#32)) = 1#1 := h
  rw [Cert.Reals.ctop] at h'
  refine Cert.Reals.fin_of_abs ?_
  by_contra hn
  rw [decide_eq_false hn] at h'
  exact absurd h' (by decide)

theorem real4 (x : FVec Ideal S4096x1024 .f32) (nw : FVec Ideal S1x1024 .f32) (b : FVec Ideal S4x2112x1024 .bf16)
    (dy : FVec Ideal S4096x1024 .f32) (h : fn (F := Ideal) x nw b dy = fun _ => 1#1) : Cert.FfnRefIdeal.Val.Real4 x nw b dy := by
  have h0 : IntOp.andi (IntOp.andi (IntOp.andi _ _) _) _ = 1#1 := congrFun h (Shape.Idx.first facts.h_S_)
  obtain ⟨h1, hy⟩ := IntOp.andi_eq_one.1 h0
  obtain ⟨h2, hb⟩ := IntOp.andi_eq_one.1 h1
  obtain ⟨hx, hn⟩ := IntOp.andi_eq_one.1 h2
  exact ⟨fun r d => real_of_lt x _ _ _ (Host.reduce_andi_all _ _ _ _ _ hx (ix2 r d)),
    fun d => real_of_lt nw _ _ _ (Host.reduce_andi_all _ _ _ _ _ hn (ix2 0 d)),
    fun j f d => real_of_lt (extf .f32 b facts.bitsLt_bf16_f32) _ _ _ (Host.reduce_andi_all _ _ _ _ _ hb (ix3 j f d)),
    fun r d => real_of_lt dy _ _ _ (Host.reduce_andi_all _ _ _ _ _ hy (ix2 r d))⟩

end Cert.FfnPre

namespace Cert.Proof

theorem ffn : Cert.algebraic_FfnIdeal_FfnRefIdeal_pre_ffn_finite (hFfnIdeal := Cert.FfnIdeal.Gen.facts)
    (hFfnRefIdeal := Cert.FfnRefIdeal.Gen.facts) (hPre_ffn_finite := Cert.FfnPre.facts) := by
  pair_intro
  · run_from Cert.FfnIdeal.Gen.run_main m g
  · hlo_run
    · exact Eq.trans (b := Cert.FfnRefIdeal.Val.REFdwg (Cert.FfnIdeal.Val.argX m c) (Cert.FfnIdeal.Val.argN m c) (Cert.FfnIdeal.Val.argB m c) (Cert.FfnIdeal.Val.argY m c)) rfl
        ((Cert.FfnRefIdeal.Val.dwg_eq (Cert.FfnPre.real4 _ _ _ _ (hpre c))).trans (Cert.FfnIdeal.Val.final_6 m c).symm)
    · exact Eq.trans (b := Cert.FfnRefIdeal.Val.REFdwu (Cert.FfnIdeal.Val.argX m c) (Cert.FfnIdeal.Val.argN m c) (Cert.FfnIdeal.Val.argB m c) (Cert.FfnIdeal.Val.argY m c)) rfl
        (Cert.FfnRefIdeal.Val.dwu_eq.trans (Cert.FfnIdeal.Val.final_7 m c).symm)
    · exact Eq.trans (b := Cert.FfnRefIdeal.Val.REFdwd (Cert.FfnIdeal.Val.argX m c) (Cert.FfnIdeal.Val.argN m c) (Cert.FfnIdeal.Val.argB m c) (Cert.FfnIdeal.Val.argY m c)) rfl
        (Cert.FfnRefIdeal.Val.dwd_eq.trans (Cert.FfnIdeal.Val.final_8 m c).symm)
    · exact Eq.trans (b := Cert.FfnRefIdeal.Val.REFdh (Cert.FfnIdeal.Val.argX m c) (Cert.FfnIdeal.Val.argN m c) (Cert.FfnIdeal.Val.argB m c) (Cert.FfnIdeal.Val.argY m c)) rfl
        ((Cert.FfnRefIdeal.Val.dh_eq (Cert.FfnPre.real4 _ _ _ _ (hpre c))).trans (Cert.FfnIdeal.Val.final_9 m c).symm)

end Cert.Proof
end
-- ==== Proof.FfnF.Pure.lean ====
module

public import proofs.«01_k».proof.Proof.Ffn.Rows
public import proofs.«01_k».proof.Proof.Gen.FfnFIdeal.Skeleton

@[expose] public section

set_option maxRecDepth 16384

noncomputable section

open Idealize.ShloMosaic Idealize.ShloMosaic.TcCoe Idealize.SL.Sem
open Idealize.ShloMosaic.Pipeline (Dat)
open scoped BigOperators

/-! The feed-forward half step over the whole arrays, and what one point of its grid computes. -/

namespace Cert.FfnRows

variable (x : FVec Ideal ⟨2, ![4096, 1024]⟩ .f32) (nw : FVec Ideal ⟨2, ![1, 1024]⟩ .f32)
  (b : FVec Ideal ⟨3, ![4, 2112, 1024]⟩ .bf16)

/-- What part `j` of the inner width adds to entry `(r, k)` of the product with the last weight. -/
def part (j : Fin 4) (r : Fin 4096) (k : Fin 1024) : EReal := ∑ f : Fin 704, (s x nw b j r f * u x nw b j r f) * wd b j f k

/-- The half step: the row, and half of what the four parts add up to. -/
def out (r : Fin 4096) (k : Fin 1024) : EReal :=
  x (ix2 r k) + Ideal.ofBits FTy.f32 1056964608#32 * ∑ j : Fin 4, part x nw b j r k

end Cert.FfnRows

namespace Cert.FfnFIdeal.Val

open Cert.FfnFIdeal Cert.FfnFIdeal.Gen
open Cert.FfnRows (h wg wu wd g u sgm s)

variable (x : FVec Ideal ⟨2, ![4096, 1024]⟩ .f32) (nw : FVec Ideal ⟨2, ![1, 1024]⟩ .f32)
  (b : FVec Ideal ⟨3, ![4, 2112, 1024]⟩ .bf16)

/-- The blocks at one point: rows `R` of the long arrays and part `j` of the blob. -/
structure Blks (R : Fin 512 → Fin 4096) (j : Fin 4) (bx : Vec Ideal S512x1024 .f32) (bn : Vec Ideal S1x1024 .f32)
    (bg bu bd : Vec Ideal S1x704x1024 .bf16) : Prop where
  hx : ∀ r d, bx (ix2 r d) = x (ix2 (R r) d)
  hn : ∀ d, bn (ix2 0 d) = nw (ix2 0 d)
  hg : ∀ f d, bg (ix3 0 f d) = wg b j f d
  hu : ∀ f d, bu (ix3 0 f d) = wu b j f d
  hd : ∀ f d, bd (ix3 0 f d) = wd b j f d

variable {x nw b} {R : Fin 512 → Fin 4096} {j : Fin 4} {bx : Vec Ideal S512x1024 .f32} {bn : Vec Ideal S1x1024 .f32}
  {bg bu bd : Vec Ideal S1x704x1024 .bf16} (B : Blks x nw b R j bx bn bg bu bd)

include B

/-- The normalised rows that the first point of a run keeps. -/
theorem norm_at (r : Fin 512) (d : Fin 1024) : k0_pay1 (F := Ideal) bx bn (ix2 r d) = h x nw (R r) d := by
  have e : ∀ k, (show EReal from x (ix2 (R r) k)) = bx (ix2 r k) := fun k => (B.hx r k).symm
  rw [h, ← B.hn d]
  simp only [e]
  pointwise [k0_pay1]

/-- One point adds its part to the accumulator. -/
theorem acc_at (H : Vec Ideal S512x1024 .bf16) (hH : ∀ r d, H (ix2 r d) = h x nw (R r) d) (v : Vec Ideal S512x1024 .f32)
    (r : Fin 512) (k : Fin 1024) : k0_pay3 (F := Ideal) H bg bu v bd (ix2 r k)
      = (show EReal from v (ix2 r k)) + Cert.FfnRows.part x nw b j (R r) k := by
  have e : k0_pay3 (F := Ideal) H bg bu v bd (ix2 r k) = (show EReal from v (ix2 r k))
      + ∑ f : Fin 704, ((∑ d : Fin 1024, (show EReal from H (ix2 r d)) * bg (ix3 0 f d))
          * sgm (∑ d : Fin 1024, (show EReal from H (ix2 r d)) * bg (ix3 0 f d))
          * (∑ d : Fin 1024, (show EReal from H (ix2 r d)) * bu (ix3 0 f d))) * (show EReal from bd (ix3 0 f k)) := by
    pointwise [k0_pay3, sgm, Ideal.logistic]
  have eg : ∀ f, (∑ d : Fin 1024, (show EReal from H (ix2 r d)) * bg (ix3 0 f d)) = g x nw b j (R r) f := fun f =>
    Finset.sum_congr rfl fun d _ => congrArg₂ (fun a c : EReal => a * c) (hH r d) (B.hg f d)
  have eu : ∀ f, (∑ d : Fin 1024, (show EReal from H (ix2 r d)) * bu (ix3 0 f d)) = u x nw b j (R r) f := fun f =>
    Finset.sum_congr rfl fun d _ => congrArg₂ (fun a c : EReal => a * c) (hH r d) (B.hu f d)
  refine e.trans (congrArg _ (Finset.sum_congr rfl fun f _ => ?_))
  rw [eg f, eu f]
  exact congrArg (fun a : EReal => _ * a) (B.hd f k)

omit B in
theorem zero_at (r : Fin 512) (k : Fin 1024) : k0_pay2 (F := Ideal) (ix2 r k) = (0 : EReal) := by
  pointwise [k0_pay2]

omit B in
/-- The last point of a run: the row and half the accumulator. -/
theorem half_at (bx v : Vec Ideal S512x1024 .f32) (r : Fin 512) (k : Fin 1024) : k0_pay4 (F := Ideal) bx v (ix2 r k)
    = (show EReal from bx (ix2 r k)) + Ideal.ofBits FTy.f32 1056964608#32 * (show EReal from v (ix2 r k)) := by
  pointwise [k0_pay4]

end Cert.FfnFIdeal.Val

end
-- ==== Proof.FfnF.Blocks.lean ====
module

public import proofs.«01_k».proof.Proof.FfnF.Pure
public import proofs.«01_k».proof.Proof.Gen.FfnFIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

/-! The blocks the feed-forward half step reads: 512 tokens, one part of the blob; what each point leaves. -/

namespace Cert.FfnFIdeal.Val

open Cert.FfnFIdeal Cert.FfnFIdeal.Gen

variable (m : (ℓ : Loc nD τ sig) → Buf (Elt Ideal) ℓ)

theorem idx : ∀ t : Fin cfg0.N, win0_0.index t = ![t.val / 4, 0] ∧ win0_1.index t = ![0, 0]
    ∧ win0_2.index t = ![t.val % 4, 0, 0] ∧ win0_3.index t = ![t.val % 4, 1, 0] ∧ win0_4.index t = ![t.val % 4, 2, 0]
    ∧ win0_5.index t = ![t.val / 4, 0] :=
  (by decide +kernel : ∀ t : Fin grid0.N, _)

theorem lt_points (t : Fin cfg0.N) : t.val < 32 := lt_of_lt_of_le t.isLt (le_of_eq N_0)

/-- The token of a block's row (the point's number is reduced, so that every number has one), and the part of the blob. -/
def tok (t : ℕ) (r : Fin 512) : Fin 4096 := ⟨512 * (t / 4 % 8) + r.val, by omega⟩
def sec (t : ℕ) : Fin 4 := ⟨t % 4, by omega⟩

/-- The rows, their scale and the blob the launch begins from. -/
abbrev argX (c : Dev nD) : FVec Ideal ⟨2, ![4096, 1024]⟩ .f32 := m ((c : Thread nD τ).loc main_arg0)
abbrev argN (c : Dev nD) : FVec Ideal ⟨2, ![1, 1024]⟩ .f32 := m ((c : Thread nD τ).loc main_arg1)
abbrev argB (c : Dev nD) : FVec Ideal ⟨3, ![4, 2112, 1024]⟩ .bf16 := m ((c : Thread nD τ).loc main_arg2)

theorem blks (c : Dev nD) (t : Fin cfg0.N) : Blks (argX m c) (argN m c) (argB m c) (tok t.val) (sec t.val)
    (iblk m c 0 t) (iblk m c 1 t) (iblk m c 2 t) (iblk m c 3 t) (iblk m c 4 t) := by
  obtain ⟨e0, e1, e2, e3, e4, e5⟩ := idx t
  have ht := lt_points t
  have h8 : t.val / 4 % 8 = t.val / 4 := by omega
  refine ⟨fun r d => ?_, fun d => ?_, fun f d => ?_, fun f d => ?_, fun f d => ?_⟩
  · unfold tok; simp only [h8]; blk_ext [iblk, V, e0]
  · blk_ext [iblk, V, e1]
  · unfold sec Cert.FfnRows.wg; blk_ext [iblk, V, e2]
  · unfold sec Cert.FfnRows.wu; blk_ext [iblk, V, e3]
  · unfold sec Cert.FfnRows.wd; blk_ext [iblk, V, e4]

/-- The kept rows: at every point of a run they are that run's normalised rows. -/
theorem kept (c : Dev nD) (n : ℕ) (hn : n < cfg0.N) (r : Fin 512) (d : Fin 1024) :
    (outsAt0 m c n hn).2.1 (ix2 r d) = (show EReal from FfnRows.h (argX m c) (argN m c) (tok n r) d) := by
  induction n with
  | zero =>
    have h := outsAt0_A m c ⟨0, hn⟩ (by simp) (by simp)
    rw [show outsAt0 m c 0 hn = _ from h]; frame_out
    exact norm_at (blks m c ⟨0, hn⟩) r d
  | succ n ih =>
    by_cases h0 : (n + 1) % 4 = 0
    · have h := outsAt0_A m c ⟨n + 1, hn⟩ h0 (by show ¬ (n + 1) % 4 = 3; omega)
      rw [show outsAt0 m c (n + 1) hn = _ from h]; frame_out
      exact norm_at (blks m c ⟨n + 1, hn⟩) r d
    · have e : tok (n + 1) r = tok n r := Fin.ext (by unfold tok; dsimp only; omega)
      rw [e, ← ih (Nat.lt_of_succ_lt hn)]
      by_cases h1 : (n + 1) % 4 = 3
      · have h := outsAt0_C m c ⟨n + 1, hn⟩ h0 h1
        rw [show outsAt0 m c (n + 1) hn = _ from h]; frame_out
        rfl
      · have h := outsAt0_B m c ⟨n + 1, hn⟩ h0 h1
        rw [show outsAt0 m c (n + 1) hn = _ from h]; frame_out
        rfl

end Cert.FfnFIdeal.Val

end
-- ==== Proof.FfnF.Final.lean ====
module

public import proofs.«01_k».proof.Proof.FfnF.Blocks

@[expose] public section

set_option maxRecDepth 16384

noncomputable section

open Idealize.ShloMosaic Idealize.ShloMosaic.TcCoe Idealize.SL.Sem
open Idealize.ShloMosaic.Pipeline (Dat)
open scoped BigOperators

/-! The accumulator over a run of four points, and the array the half step leaves. -/

namespace Cert.FfnFIdeal.Val

open Cert.FfnFIdeal Cert.FfnFIdeal.Gen

variable (m : (ℓ : Loc nD τ sig) → Buf (Elt Ideal) ℓ)

/-- What one point adds. -/
def term (c : Dev nD) (t : Fin cfg0.N) (y : S512x1024.Idx) : EReal :=
  FfnRows.part (argX m c) (argN m c) (argB m c) (sec t.val) (tok t.val (y 0)) (y 1)

theorem reset (c : Dev nD) (t : Fin cfg0.N) (h0 : t.val % 4 = 0) (y : S512x1024.Idx) :
    (outsAt0 m c t.val t.isLt).2.2 y = (0 : EReal) + term m c t y := by
  rw [outsAt0_A m c t h0 (by omega)]; frame_out
  idx_vars y
  refine (acc_at (blks m c t) _ (norm_at (blks m c t)) _ y0 y1).trans ?_
  exact congrArg (· + _) (zero_at y0 y1)

theorem step (c : Dev nD) (t : Fin cfg0.N) (h0 : ¬ t.val % 4 = 0) (y : S512x1024.Idx) :
    (outsAt0 m c t.val t.isLt).2.2 y
      = (show EReal from (outsAt0 m c (t.val - 1) (Nat.lt_of_le_of_lt (Nat.sub_le _ _) t.isLt)).2.2 y) + term m c t y := by
  have hk : ∀ r d, (outsAt0 m c (t.val - 1) (Nat.lt_of_le_of_lt (Nat.sub_le _ _) t.isLt)).2.1 (ix2 r d)
      = (show EReal from FfnRows.h (argX m c) (argN m c) (tok t.val r) d) := fun r d => by
    have e : tok t.val r = tok (t.val - 1) r := Fin.ext (by unfold tok; dsimp only; omega)
    rw [e]; exact kept m c _ _ r d
  by_cases h1 : t.val % 4 = 3
  · rw [outsAt0_C m c t h0 h1]; frame_out
    idx_vars y
    refine (acc_at (blks m c t) _ (fun r d => (congrFun (Memref.IsWhole.read_unread _ _) (ix2 r d)).trans (hk r d)) _ y0 y1).trans ?_
    exact congrArg (· + _) (congrFun (Memref.IsWhole.read_unread _ _) (ix2 y0 y1))
  · rw [outsAt0_B m c t h0 h1]; frame_out
    idx_vars y
    refine (acc_at (blks m c t) _ (fun r d => (congrFun (Memref.IsWhole.read_unread _ _) (ix2 r d)).trans (hk r d)) _ y0 y1).trans ?_
    exact congrArg (· + _) (congrFun (Memref.IsWhole.read_unread _ _) (ix2 y0 y1))

theorem last (c : Dev nD) (t : Fin cfg0.N) (h1 : t.val % 4 = 3) (r : Fin 512) (k : Fin 1024) :
    (dats m 0 c).after 5 t (ix2 r k) = (show EReal from iblk m c 0 t (ix2 r k))
      + Ideal.ofBits FTy.f32 1056964608#32 * (show EReal from (outsAt0 m c t.val t.isLt).2.2 (ix2 r k)) := by
  rw [after0_5, outsAt0_C m c t (by omega) h1]; frame_out
  exact half_at _ _ r k

/-- A run of four points adds the four parts. -/
theorem run (c : Dev nD) (t : Fin cfg0.N) (h1 : t.val % 4 = 3) (r : Fin 512) (k : Fin 1024) :
    (outsAt0 m c t.val t.isLt).2.2 (ix2 r k)
      = (show EReal from ∑ j : Fin 4, FfnRows.part (argX m c) (argN m c) (argB m c) j (tok t.val r) k) := by
  rw [Pipeline.eq_sum_fin_of_reset_step_apply_of_flush (fun n h => (outsAt0 m c n h).2.2) 4 (fun _ => (0 : EReal)) (term m c)
    (fun t h j => reset m c t h j) (fun t h j => step m c t h j) t h1 (ix2 r k), zero_add]
  refine Finset.sum_congr rfl fun j _ => ?_
  have hj := j.isLt
  have e1 : tok (4 * (t.val / 4) + j.val) r = tok t.val r := Fin.ext (by unfold tok; dsimp only; omega)
  have e2 : sec (4 * (t.val / 4) + j.val) = j := Fin.ext (by unfold sec; dsimp only; omega)
  show FfnRows.part _ _ _ (sec (4 * (t.val / 4) + j.val)) (tok (4 * (t.val / 4) + j.val) r) k = _
  rw [e1, e2]

theorem final_5 (c : Dev nD) : (dats m 0 c).arrAt 5 (cfgs 0).N
    = (fun i => (show EReal from FfnRows.out (argX m c) (argN m c) (argB m c) (i 0) (i 1))
        : FVec Ideal ⟨2, ![4096, 1024]⟩ .f32) := by
  refine (dats m 0 c).arrAt_eq_of_covers 5 _ (by decide +kernel) fun t hf y => ?_
  obtain ⟨e0, e1, e2, e3, e4, e5⟩ := idx t
  have ht := lt_points t
  have h8 : t.val / 4 % 8 = t.val / 4 := by omega
  have h7 : t.val % 4 = 3 := (flush0_5 t).mp hf
  idx_vars y
  have he : ((View.whole main_v0).slice (win0_5.rect t)).emb (ix2 y0 y1) = ix2 (tok t.val y0) y1 := by
    unfold tok; simp only [h8]; blk_ext [e5]
  refine (last m c t h7 y0 y1).trans (Eq.trans ?_ (congrArg (fun i : Shape.Idx ⟨2, ![4096, 1024]⟩ => FfnRows.out (argX m c) (argN m c) (argB m c) (i 0) (i 1)) he).symm)
  exact congrArg₂ (fun a c : EReal => a + Ideal.ofBits FTy.f32 1056964608#32 * c) ((blks m c t).hx y0 y1) (run m c t h7 y0 y1)

end Cert.FfnFIdeal.Val

end
-- ==== Proof.FfnF.Ref.lean ====
module

public import proofs.«01_k».proof.Proof.FfnF.Pure
public import proofs.«01_k».proof.Proof.Gen.FfnFRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

/-! The reference's half step in layers, each read at an index. -/

namespace Cert.FfnFRefIdeal.Val

open Cert.FfnFRefIdeal Cert.FfnFRefIdeal.Gen Cert.FfnFRefIdeal.Value

variable (x : FVec Ideal S4096x1024 .f32) (nw : FVec Ideal S1x1024 .f32) (b : FVec Ideal S4x2112x1024 .bf16)

/-- The normalised rows. -/
def tH : FVec Ideal S4096x1024 .f32 := mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 nw)

/-- The three weights: the blob's rows one after the other. -/
def tWG : FVec Ideal S2816x1024 .f32 := shapeCast _ (extf .f32 (extractStridedSlice S4x704x1024 ![0, 0, 0] b slices_S4x2112x1024_S4x704x1024_0_0_0) bitsLt_bf16_f32) shapeCasts_S4x704x1024_S2816x1024
def tWU : FVec Ideal S2816x1024 .f32 := shapeCast _ (extf .f32 (extractStridedSlice S4x704x1024 ![0, 704, 0] b slices_S4x2112x1024_S4x704x1024_0_704_0) bitsLt_bf16_f32) shapeCasts_S4x704x1024_S2816x1024
def tWD : FVec Ideal S2816x1024 .f32 := shapeCast _ (extf .f32 (extractStridedSlice S4x704x1024 ![0, 1408, 0] b slices_S4x2112x1024_S4x704x1024_0_1408_0) bitsLt_bf16_f32) shapeCasts_S4x704x1024_S2816x1024

/-- Rows times a weight. -/
def tProd (h : FVec Ideal S4096x1024 .f32) (w : FVec Ideal S2816x1024 .f32) : FVec Ideal S4096x2816 .f32 :=
  Host.dotGeneral dot_S4096x1024_S1024x2816_S4096x2816_1_0_0_1_n_n none h (transpose S1024x2816 [1, 0] w transposes_S2816x1024_S1024x2816_1_0)

/-- The gated product. -/
def tA (g u : FVec Ideal S4096x2816 .f32) : FVec Ideal S4096x2816 .f32 :=
  mulf (mulf g (Host.divf (broadcastInDim S4096x2816 ![] bcast_S_S4096x2816 (constant S_ .f32 0x3F800000#32)) (addf (broadcastInDim S4096x2816 ![] bcast_S_S4096x2816 (constant S_ .f32 0x3F800000#32)) (Host.exp (Host.negf g))))) u

/-- The row and half the product with the last weight. -/
def tOut (a : FVec Ideal S4096x2816 .f32) (w : FVec Ideal S2816x1024 .f32) : FVec Ideal S4096x1024 .f32 :=
  addf x (mulf (broadcastInDim S4096x1024 ![] bcast_S_S4096x1024 (constant S_ .f32 0x3F000000#32)) (Host.dotGeneral dot_S4096x2816_S2816x1024_S4096x1024_1_0_0_1_n_n none a w))

def lG := tProd (tH x nw) (tWG b)
def lU := tProd (tH x nw) (tWU b)
def REF := tOut x (tA (lG x nw b) (lU x nw b)) (tWD b)

/-- Row `f` of part `j` among all rows of a weight. -/
def row (j : Fin 4) (f : Fin 704) : Fin 2816 := ⟨j.val * 704 + f.val, by omega⟩

theorem tH_at (r : Fin 4096) (d : Fin 1024) : tH x nw (ix2 r d) = FfnRows.h x nw r d := by
  rw [FfnRows.h]
  pointwise [tH]
theorem tWG_at (j : Fin 4) (f : Fin 704) (d : Fin 1024) : tWG b (ix2 (row j f) d) = FfnRows.wg b j f d := by
  unfold row FfnRows.wg
  pointwise [tWG]
theorem tWU_at (j : Fin 4) (f : Fin 704) (d : Fin 1024) : tWU b (ix2 (row j f) d) = FfnRows.wu b j f d := by
  unfold row FfnRows.wu
  pointwise [tWU]
theorem tWD_at (j : Fin 4) (f : Fin 704) (d : Fin 1024) : tWD b (ix2 (row j f) d) = FfnRows.wd b j f d := by
  unfold row FfnRows.wd
  pointwise [tWD]
theorem tProd_at (h : FVec Ideal S4096x1024 .f32) (w : FVec Ideal S2816x1024 .f32) (r : Fin 4096) (l : Fin 2816) :
    tProd h w (ix2 r l) = ∑ d : Fin 1024, (show EReal from h (ix2 r d)) * w (ix2 l d) := by
  pointwise [tProd]
theorem tA_at (g u : FVec Ideal S4096x2816 .f32) (r : Fin 4096) (l : Fin 2816) :
    tA g u (ix2 r l) = (show EReal from g (ix2 r l)) * FfnRows.sgm (g (ix2 r l)) * (show EReal from u (ix2 r l)) := by
  pointwise [tA, FfnRows.sgm]
theorem tOut_at (a : FVec Ideal S4096x2816 .f32) (w : FVec Ideal S2816x1024 .f32) (r : Fin 4096) (k : Fin 1024) :
    tOut x a w (ix2 r k) = (show EReal from x (ix2 r k)) + Ideal.ofBits FTy.f32 1056964608#32
      * ∑ l : Fin 2816, (show EReal from a (ix2 r l)) * w (ix2 l k) := by
  pointwise [tOut]

theorem lG_at (r : Fin 4096) (j : Fin 4) (f : Fin 704) : lG x nw b (ix2 r (row j f)) = FfnRows.g x nw b j r f := by
  refine (tProd_at _ _ r _).trans (Finset.sum_congr rfl fun d _ => ?_)
  exact congrArg₂ (fun a c : EReal => a * c) (tH_at x nw r d) (tWG_at b j f d)

theorem lU_at (r : Fin 4096) (j : Fin 4) (f : Fin 704) : lU x nw b (ix2 r (row j f)) = FfnRows.u x nw b j r f := by
  refine (tProd_at _ _ r _).trans (Finset.sum_congr rfl fun d _ => ?_)
  exact congrArg₂ (fun a c : EReal => a * c) (tH_at x nw r d) (tWU_at b j f d)

theorem lA_at (r : Fin 4096) (j : Fin 4) (f : Fin 704) : tA (lG x nw b) (lU x nw b) (ix2 r (row j f))
    = FfnRows.s x nw b j r f * FfnRows.u x nw b j r f := by
  refine (tA_at _ _ r _).trans ?_
  exact congrArg₂ (fun a c : EReal => a * FfnRows.sgm a * c) (lG_at x nw b r j f) (lU_at x nw b r j f)

/-- The whole half step, entry by entry: the long sum in its four parts. -/
theorem ref_eq : REF x nw b = (fun i => (show EReal from FfnRows.out x nw b (i 0) (i 1)) : FVec Ideal S4096x1024 .f32) := by
  funext i
  idx_vars i
  refine (tOut_at x _ _ i0 i1).trans (congrArg (fun a : EReal => (show EReal from x (ix2 i0 i1)) + Ideal.ofBits FTy.f32 1056964608#32 * a) ?_)
  refine (Fin.sum_mul_add_congr (F := fun (j : Fin 4) (f : Fin 704) => (FfnRows.s x nw b j i0 f * FfnRows.u x nw b j i0 f) * FfnRows.wd b j f i1)
    (f := fun l : Fin 2816 => (show EReal from tA (lG x nw b) (lU x nw b) (ix2 i0 l)) * tWD b (ix2 l i1)) (fun j f hl => ?_)).symm
  exact (congrArg₂ (fun a c : EReal => a * c) (lA_at x nw b i0 j f) (tWD_at b j f i1)).symm

end Cert.FfnFRefIdeal.Val

end
-- ==== Proof.FfnF.Claim.lean ====
module

public import proofs.«01_k».proof.Defs
public import proofs.«01_k».proof.Proof.FfnF.Final
public import proofs.«01_k».proof.Proof.FfnF.Ref
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

/-! The feed-forward half step equals its reference. -/

namespace Cert.Proof

theorem ffnf : Cert.algebraic_FfnFIdeal_FfnFRefIdeal (hFfnFIdeal := Cert.FfnFIdeal.Gen.facts)
    (hFfnFRefIdeal := Cert.FfnFRefIdeal.Gen.facts) := by
  pair_intro
  · run_from Cert.FfnFIdeal.Gen.run_main m g
  · hlo_run
    exact Eq.trans (b := Cert.FfnFRefIdeal.Val.REF (Cert.FfnFIdeal.Val.argX m c) (Cert.FfnFIdeal.Val.argN m c) (Cert.FfnFIdeal.Val.argB m c)) rfl
        ((Cert.FfnFRefIdeal.Val.ref_eq _ _ _).trans (Cert.FfnFIdeal.Val.final_5 m c).symm)

end Cert.Proof

end
-- ==== Proof.OutF.Rows.lean ====
module

public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

/-! The output projection over the whole arrays, entry by entry: three mixers' outputs side by side, times a weight. -/

namespace Cert.OutRows

variable (x : FVec Ideal ⟨2, ![4096, 1024]⟩ .f32) (ya yb : FVec Ideal ⟨2, ![4096, 256]⟩ .f32)
  (yc : FVec Ideal ⟨2, ![4096, 512]⟩ .f32) (b : FVec Ideal ⟨3, ![4, 704, 1024]⟩ .bf16)

/-- Column `l` of three row blocks laid side by side. -/
def beside (p q : Fin 256 → EReal) (s : Fin 512 → EReal) (l : Fin 1024) : EReal :=
  if h : l.val < 256 then p ⟨l.val, h⟩ else if h' : l.val - 256 < 256 then q ⟨l.val - 256, h'⟩ else s ⟨l.val - 256 - 256, by omega⟩

/-- The mixers' outputs side by side. -/
def y (r : Fin 4096) (l : Fin 1024) : EReal := beside (fun k => ya (ix2 r k)) (fun k => yb (ix2 r k)) (fun k => yc (ix2 r k)) l

/-- The weight: the first 256 rows of each part of the blob, one part after the other. -/
def w (l d : Fin 1024) : EReal := b (ix3 (⟨l.val / 256, by omega⟩ : Fin 4) (⟨l.val % 256, by omega⟩ : Fin 704) d)

/-- The stream and the projection added to it. -/
def out (r : Fin 4096) (d : Fin 1024) : EReal := x (ix2 r d) + ∑ l : Fin 1024, y ya yb yc r l * w b l d

end Cert.OutRows

end
-- ==== Proof.OutF.Pure.lean ====
module

public import proofs.«01_k».proof.Proof.OutF.Rows
public import proofs.«01_k».proof.Proof.Gen.OutFIdeal.Skeleton

@[expose] public section

set_option maxRecDepth 16384

noncomputable section

open Idealize.ShloMosaic Idealize.ShloMosaic.TcCoe Idealize.SL.Sem
open Idealize.ShloMosaic.Pipeline (Dat)
open scoped BigOperators

/-! What one point of the output projection's grid computes. -/

namespace Cert.OutFIdeal.Val

open Cert.OutFIdeal Cert.OutFIdeal.Gen
open Cert.OutRows (beside)

theorem cat_at (p q : Vec Ideal S512x256 .f32) (s : Vec Ideal S512x512 .f32) (r : Fin 512) (l : Fin 1024) :
    (truncf .bf16 (concatenate S512x1024 1 [⟨S512x256, p⟩, ⟨S512x256, q⟩, ⟨S512x512, s⟩] concatenates_S512x256_S512x256_S512x512_S512x1024_d1 : FVec Ideal S512x1024 .f32) bitsLt_bf16_f32) (ix2 r l)
      = beside (fun k => p (ix2 r k)) (fun k => q (ix2 r k)) (fun k => s (ix2 r k)) l := by
  unfold beside
  pointwise

theorem wt_at (v : Vec Ideal S4x256x1024 .bf16) (l d : Fin 1024) :
    (shapeCast S1024x1024 v shapeCasts_S4x256x1024_S1024x1024 : FVec Ideal S1024x1024 .bf16) (ix2 l d)
      = v (ix3 (⟨l.val / 256, by omega⟩ : Fin 4) (⟨l.val % 256, by omega⟩ : Fin 256) d) := by
  pointwise

theorem mm_at (x : Vec Ideal S512x1024 .f32) (a : FVec Ideal S512x1024 .bf16) (v : FVec Ideal S1024x1024 .bf16) (r : Fin 512) (d : Fin 1024) :
    (addf x (matmul dot_S512x1024_S1024x1024_S512x1024_1_0_0_1_n_n none a v (constant S512x1024 .f32 0x00000000#32))) (ix2 r d)
      = (show EReal from x (ix2 r d)) + ∑ l : Fin 1024, (show EReal from a (ix2 r l)) * v (ix2 l d) := by
  pointwise

theorem pay_at (p q : Vec Ideal S512x256 .f32) (s : Vec Ideal S512x512 .f32) (x : Vec Ideal S512x1024 .f32) (v : Vec Ideal S4x256x1024 .bf16)
    (r : Fin 512) (d : Fin 1024) : k0_pay1 (F := Ideal) p q s x v (ix2 r d)
      = (show EReal from x (ix2 r d)) + ∑ l : Fin 1024, beside (fun k => p (ix2 r k)) (fun k => q (ix2 r k)) (fun k => s (ix2 r k)) l
          * (show EReal from v (ix3 (⟨l.val / 256, by omega⟩ : Fin 4) (⟨l.val % 256, by omega⟩ : Fin 256) d)) := by
  have e : k0_pay1 (F := Ideal) p q s x v (ix2 r d) = _ :=
    (congrFun (shapeCast_self _ _) (ix2 r d)).trans (mm_at x _ _ r d)
  refine e.trans (congrArg _ (Finset.sum_congr rfl fun l _ => ?_))
  exact congrArg₂ (fun a c : EReal => a * c) (cat_at p q s r l) (wt_at v l d)

end Cert.OutFIdeal.Val

end
-- ==== Proof.OutF.Final.lean ====
module

public import proofs.«01_k».proof.Proof.OutF.Pure
public import proofs.«01_k».proof.Proof.Gen.OutFIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

/-! The blocks the output projection reads, 512 tokens each, and the array it leaves. -/

namespace Cert.OutFIdeal.Val

open Cert.OutFIdeal Cert.OutFIdeal.Gen

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0] ∧ win0_4.index t = ![0, 0, 0]
    ∧ win0_5.index t = ![t.val, 0] :=
  (by decide +kernel : ∀ t : Fin grid0.N, _)

theorem lt_points (t : Fin cfg0.N) : t.val < 8 := lt_of_lt_of_le t.isLt (le_of_eq N_0)

/-- The token of a block's row. -/
def tok (t : Fin cfg0.N) (r : Fin 512) : Fin 4096 := ⟨512 * t.val + r.val, by have := lt_points t; omega⟩

/-- The stream, the three mixers' outputs and the blob the launch begins from. -/
abbrev argX (c : Dev nD) : FVec Ideal ⟨2, ![4096, 1024]⟩ .f32 := m ((c : Thread nD τ).loc main_arg0)
abbrev argP (c : Dev nD) : FVec Ideal ⟨2, ![4096, 256]⟩ .f32 := m ((c : Thread nD τ).loc main_arg1)
abbrev argQ (c : Dev nD) : FVec Ideal ⟨2, ![4096, 256]⟩ .f32 := m ((c : Thread nD τ).loc main_arg2)
abbrev argS (c : Dev nD) : FVec Ideal ⟨2, ![4096, 512]⟩ .f32 := m ((c : Thread nD τ).loc main_arg3)
abbrev argB (c : Dev nD) : FVec Ideal ⟨3, ![4, 704, 1024]⟩ .bf16 := m ((c : Thread nD τ).loc main_arg4)

section
variable (c : Dev nD) (t : Fin cfg0.N)

theorem blkX (r : Fin 512) (d : Fin 1024) : iblk m c 0 t (ix2 r d) = argX m c (ix2 (tok t r) d) := by
  obtain ⟨e0, e1, e2, e3, e4, e5⟩ := idx t
  unfold tok; blk_ext [iblk, V, e0]
theorem blkP (r : Fin 512) (d : Fin 256) : iblk m c 1 t (ix2 r d) = argP m c (ix2 (tok t r) d) := by
  obtain ⟨e0, e1, e2, e3, e4, e5⟩ := idx t
  unfold tok; blk_ext [iblk, V, e1]
theorem blkQ (r : Fin 512) (d : Fin 256) : iblk m c 2 t (ix2 r d) = argQ m c (ix2 (tok t r) d) := by
  obtain ⟨e0, e1, e2, e3, e4, e5⟩ := idx t
  unfold tok; blk_ext [iblk, V, e2]
theorem blkS (r : Fin 512) (d : Fin 512) : iblk m c 3 t (ix2 r d) = argS m c (ix2 (tok t r) d) := by
  obtain ⟨e0, e1, e2, e3, e4, e5⟩ := idx t
  unfold tok; blk_ext [iblk, V, e3]
theorem blk4 (j : Fin 4) (f : Fin 704) (d : Fin 1024) : iblk m c 4 t (ix3 j f d) = argB m c (ix3 j f d) := by
  obtain ⟨e0, e1, e2, e3, e4, e5⟩ := idx t
  blk_ext [iblk, V, e4]
theorem part_at (X : Vec Ideal S4x704x1024 .bf16) (j : Fin 4) (f : Fin 256) (d : Fin 1024) :
    (View.ld X r0_3 : Vec Ideal S4x256x1024 .bf16) (ix3 j f d) = X (ix3 j (⟨f.val, by omega⟩ : Fin 704) d) := by
  pointwise [r0_3]
theorem blkB (l d : Fin 1024) :
    (View.ld (iblk m c 4 t) r0_3 : Vec Ideal S4x256x1024 .bf16) (ix3 (⟨l.val / 256, by omega⟩ : Fin 4) (⟨l.val % 256, by omega⟩ : Fin 256) d)
      = OutRows.w (argB m c) l d := (part_at _ _ _ _).trans (blk4 m c t _ _ _)

theorem after_at (r : Fin 512) (d : Fin 1024) : (dats m 0 c).after 5 t (ix2 r d)
    = OutRows.out (argX m c) (argP m c) (argQ m c) (argS m c) (argB m c) (tok t r) d := by
  rw [after0_5]; unfold out0_5; frame_out
  refine (pay_at _ _ _ _ _ r d).trans ?_
  unfold OutRows.out
  refine congrArg₂ (fun a c : EReal => a + c) (blkX m c t r d) (Finset.sum_congr rfl fun l _ => ?_)
  refine congrArg₂ (fun a c : EReal => a * c) ?_ (blkB m c t l d)
  unfold OutRows.y
  rw [show (fun k => argP m c (ix2 (tok t r) k)) = _ from funext fun k => (blkP m c t r k).symm,
    show (fun k => argQ m c (ix2 (tok t r) k)) = _ from funext fun k => (blkQ m c t r k).symm,
    show (fun k => argS m c (ix2 (tok t r) k)) = _ from funext fun k => (blkS m c t r k).symm]

end

theorem final_5 (c : Dev nD) : (dats m 0 c).arrAt 5 (cfgs 0).N
    = (fun i => (show EReal from OutRows.out (argX m c) (argP m c) (argQ m c) (argS m c) (argB m c) (i 0) (i 1))
        : FVec Ideal ⟨2, ![4096, 1024]⟩ .f32) := by
  refine (dats m 0 c).arrAt_eq_of_covers 5 _ (by decide +kernel) fun t hf y => ?_
  obtain ⟨e0, e1, e2, e3, e4, e5⟩ := idx t
  idx_vars y
  have he : ((View.whole main_v0).slice (win0_5.rect t)).emb (ix2 y0 y1) = ix2 (tok t y0) y1 := by
    unfold tok; blk_ext [e5]
  exact (after_at m c t y0 y1).trans (congrArg (fun i : Shape.Idx ⟨2, ![4096, 1024]⟩ => OutRows.out (argX m c) (argP m c) (argQ m c) (argS m c) (argB m c) (i 0) (i 1)) he).symm

end Cert.OutFIdeal.Val

end
-- ==== Proof.OutF.Ref.lean ====
module

public import proofs.«01_k».proof.Proof.OutF.Rows
public import proofs.«01_k».proof.Proof.Gen.OutFRefIdeal.Run

@[expose] public section

set_option maxRecDepth 16384

noncomputable section

open Idealize.ShloMosaic Idealize.ShloMosaic.TcCoe Idealize.SL.Sem
open Idealize.ShloMosaic.Pipeline (Dat)
open scoped BigOperators

/-! The reference's output projection, read at an index. -/

namespace Cert.OutFRefIdeal.Val

open Cert.OutFRefIdeal Cert.OutFRefIdeal.Gen Cert.OutFRefIdeal.Value

variable (x : FVec Ideal S4096x1024 .f32) (p q : FVec Ideal S4096x256 .f32) (s : FVec Ideal S4096x512 .f32)
  (b : FVec Ideal S4x704x1024 .bf16)

def tCat : FVec Ideal S4096x1024 .f32 := concatenate S4096x1024 1 [⟨S4096x256, p⟩, ⟨S4096x256, q⟩, ⟨S4096x512, s⟩] concatenates_S4096x256_S4096x256_S4096x512_S4096x1024_d1
def tW : FVec Ideal S1024x1024 .f32 := shapeCast _ (extf .f32 (extractStridedSlice S4x256x1024 ![0, 0, 0] b slices_S4x704x1024_S4x256x1024_0_0_0) bitsLt_bf16_f32) shapeCasts_S4x256x1024_S1024x1024
def tOut (a : FVec Ideal S4096x1024 .f32) (w : FVec Ideal S1024x1024 .f32) : FVec Ideal S4096x1024 .f32 :=
  addf x (Host.dotGeneral dot_S4096x1024_S1024x1024_S4096x1024_1_0_0_1_n_n none a w)
def REF : FVec Ideal S4096x1024 .f32 := tOut x (tCat p q s) (tW b)

theorem tCat_at (r : Fin 4096) (l : Fin 1024) : tCat p q s (ix2 r l) = OutRows.y p q s r l := by
  unfold OutRows.y OutRows.beside
  pointwise [tCat]
theorem tW_at (l d : Fin 1024) : tW b (ix2 l d) = OutRows.w b l d := by
  unfold OutRows.w
  pointwise [tW]
theorem tOut_at (a : FVec Ideal S4096x1024 .f32) (w : FVec Ideal S1024x1024 .f32) (r : Fin 4096) (d : Fin 1024) :
    tOut x a w (ix2 r d) = (show EReal from x (ix2 r d)) + ∑ l : Fin 1024, (show EReal from a (ix2 r l)) * w (ix2 l d) := by
  pointwise [tOut]

theorem ref_eq : REF x p q s b = (fun i => (show EReal from OutRows.out x p q s b (i 0) (i 1)) : FVec Ideal S4096x1024 .f32) := by
  funext i
  idx_vars i
  refine (tOut_at x _ _ i0 i1).trans ?_
  unfold OutRows.out
  refine congrArg _ (Finset.sum_congr rfl fun l _ => ?_)
  exact congrArg₂ (fun a c : EReal => a * c) (tCat_at p q s i0 l) (tW_at b l i1)

end Cert.OutFRefIdeal.Val

end
-- ==== Proof.OutF.Claim.lean ====
module

public import proofs.«01_k».proof.Defs
public import proofs.«01_k».proof.Proof.OutF.Final
public import proofs.«01_k».proof.Proof.OutF.Ref
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

/-! The output projection equals its reference. -/

namespace Cert.Proof

theorem outf : Cert.algebraic_OutFIdeal_OutFRefIdeal (hOutFIdeal := Cert.OutFIdeal.Gen.facts)
    (hOutFRefIdeal := Cert.OutFRefIdeal.Gen.facts) := by
  pair_intro
  · run_from Cert.OutFIdeal.Gen.run_main m g
  · hlo_run
    obtain ⟨-, h1, h2, h3, -⟩ := hagree c
    refine Eq.trans (b := Cert.OutFRefIdeal.Val.REF (Cert.OutFIdeal.Val.argX m c) (m' (c.tc.loc Cert.OutFRefIdeal.main_arg1)) (m' (c.tc.loc Cert.OutFRefIdeal.main_arg2)) (m' (c.tc.loc Cert.OutFRefIdeal.main_arg3)) (Cert.OutFIdeal.Val.argB m c)) rfl ?_
    rw [h1, h2, h3]
    exact (Cert.OutFRefIdeal.Val.ref_eq _ _ _ _ _).trans (Cert.OutFIdeal.Val.final_5 m c).symm

end Cert.Proof

end
-- ==== Proof.OutB.Rows.lean ====
module

public import proofs.«01_k».proof.Proof.OutF.Rows

@[expose] public section

set_option maxRecDepth 16384

noncomputable section

open Idealize.ShloMosaic Idealize.ShloMosaic.TcCoe Idealize.SL.Sem
open Idealize.ShloMosaic.Pipeline (Dat)
open scoped BigOperators

/-! The gradients of the output projection and of the norm after it, entry by entry over the whole arrays. -/

namespace Cert.OutRows

variable (x : FVec Ideal ⟨2, ![4096, 1024]⟩ .f32) (nw : FVec Ideal ⟨2, ![1, 1024]⟩ .f32) (dr : FVec Ideal ⟨2, ![4096, 1024]⟩ .f32)
  (dh : FVec Ideal ⟨3, ![4, 4096, 1024]⟩ .bf16) (ya yb : FVec Ideal ⟨2, ![4096, 256]⟩ .f32)
  (yc : FVec Ideal ⟨2, ![4096, 512]⟩ .f32) (b : FVec Ideal ⟨3, ![4, 704, 1024]⟩ .bf16)

/-- The mean square of a row, moved up by the small constant, and the row's scale. -/
def ms (r : Fin 4096) : EReal := Ideal.div (∑ k : Fin 1024, x (ix2 r k) * x (ix2 r k)) (Ideal.ofBits FTy.f32 1149239296#32)
  + Ideal.ofBits FTy.f32 897988541#32
def inv (r : Fin 4096) : EReal := Ideal.rsqrt (ms x r)

/-- The incoming gradient: four parts added up. -/
def gr (r : Fin 4096) (d : Fin 1024) : EReal := ∑ p : Fin 4, (show EReal from dh (ix3 p r d))

/-- The gradient with respect to the scaled row. -/
def gs (r : Fin 4096) (d : Fin 1024) : EReal := gr dh r d * nw (ix2 0 d)

/-- The gradient with respect to the row, and what is handed on. -/
def dx (r : Fin 4096) (d : Fin 1024) : EReal := dr (ix2 r d) + inv x r * (gs nw dh r d - x (ix2 r d) * inv x r
  * Ideal.div (∑ k : Fin 1024, gs nw dh r k * (x (ix2 r k) * inv x r)) (Ideal.ofBits FTy.f32 1149239296#32))

/-- The gradient of the norm's weight. -/
def dnw (d : Fin 1024) : EReal := ∑ r : Fin 4096, gr dh r d * (x (ix2 r d) * inv x r)

/-- The gradient of the mixers' outputs side by side, and of the projection's weight. -/
def dcat (r : Fin 4096) (l : Fin 1024) : EReal := ∑ d : Fin 1024, dx x nw dr dh r d * w b l d
def dw (l d : Fin 1024) : EReal := ∑ r : Fin 4096, y ya yb yc r l * dx x nw dr dh r d

end Cert.OutRows

end
-- ==== Proof.OutB.Pure.lean ====
module

public import proofs.«01_k».proof.Proof.OutB.Rows
public import proofs.«01_k».proof.Proof.Gen.OutBIdeal.Skeleton

@[expose] public section

set_option maxRecDepth 16384

noncomputable section

open Idealize.ShloMosaic Idealize.ShloMosaic.TcCoe Idealize.SL.Sem
open Idealize.ShloMosaic.Pipeline (Dat)
open scoped BigOperators

/-! What one point of the output projection's backward grid computes from its blocks. -/

namespace Cert.OutBIdeal.Val

open Cert.OutBIdeal Cert.OutBIdeal.Gen
open Cert.OutRows (beside)

variable (x : FVec Ideal ⟨2, ![4096, 1024]⟩ .f32) (nw : FVec Ideal ⟨2, ![1, 1024]⟩ .f32) (dr : FVec Ideal ⟨2, ![4096, 1024]⟩ .f32)
  (dh : FVec Ideal ⟨3, ![4, 4096, 1024]⟩ .bf16) (ya yb : FVec Ideal ⟨2, ![4096, 256]⟩ .f32)
  (yc : FVec Ideal ⟨2, ![4096, 512]⟩ .f32) (b : FVec Ideal ⟨3, ![4, 704, 1024]⟩ .bf16)

/-- The blocks at one point: rows `R` of the long arrays, the four parts of the incoming gradient apart. -/
structure Blks (R : Fin 512 → Fin 4096) (bx : Vec Ideal S512x1024 .f32) (bn : Vec Ideal S1x1024 .f32) (br : Vec Ideal S512x1024 .f32)
    (g0 g1 g2 g3 : Vec Ideal S1x512x1024 .bf16) (bp bq : Vec Ideal S512x256 .f32) (bs : Vec Ideal S512x512 .f32)
    (bw : Vec Ideal S4x256x1024 .bf16) : Prop where
  hx : ∀ r d, bx (ix2 r d) = x (ix2 (R r) d)
  hn : ∀ d, bn (ix2 0 d) = nw (ix2 0 d)
  hr : ∀ r d, br (ix2 r d) = dr (ix2 (R r) d)
  h0 : ∀ r d, g0 (ix3 0 r d) = dh (ix3 0 (R r) d)
  h1 : ∀ r d, g1 (ix3 0 r d) = dh (ix3 1 (R r) d)
  h2 : ∀ r d, g2 (ix3 0 r d) = dh (ix3 2 (R r) d)
  h3 : ∀ r d, g3 (ix3 0 r d) = dh (ix3 3 (R r) d)
  hp : ∀ r k, bp (ix2 r k) = ya (ix2 (R r) k)
  hq : ∀ r k, bq (ix2 r k) = yb (ix2 (R r) k)
  hs : ∀ r k, bs (ix2 r k) = yc (ix2 (R r) k)
  hw : ∀ l d : Fin 1024, bw (ix3 (⟨l.val / 256, by omega⟩ : Fin 4) (⟨l.val % 256, by omega⟩ : Fin 256) d) = OutRows.w b l d

/-! The shapes of the contractions, over any operands. -/

theorem cat_at (p q : Vec Ideal S512x256 .f32) (s : Vec Ideal S512x512 .f32) (r : Fin 512) (l : Fin 1024) :
    (truncf .bf16 (concatenate S512x1024 1 [⟨S512x256, p⟩, ⟨S512x256, q⟩, ⟨S512x512, s⟩] concatenates_S512x256_S512x256_S512x512_S512x1024_d1 : FVec Ideal S512x1024 .f32) bitsLt_bf16_f32) (ix2 r l)
      = beside (fun k => p (ix2 r k)) (fun k => q (ix2 r k)) (fun k => s (ix2 r k)) l := by
  unfold beside
  pointwise

theorem acc_at (v : Vec Ideal S1024x1024 .f32) (a g : FVec Ideal S512x1024 .bf16) (l d : Fin 1024) :
    (addf v (matmul dot_S512x1024_S512x1024_S1024x1024_0_0_1_1_n_n none a g (constant S1024x1024 .f32 0x00000000#32))) (ix2 l d)
      = (show EReal from v (ix2 l d)) + ∑ r : Fin 512, (show EReal from a (ix2 r l)) * g (ix2 r d) := by
  pointwise

theorem back_at (g : FVec Ideal S512x1024 .bf16) (v : FVec Ideal S1024x1024 .bf16) (r : Fin 512) (l : Fin 1024) :
    k0_pay1 (F := Ideal) g v (ix2 r l) = ∑ d : Fin 1024, (show EReal from g (ix2 r d)) * v (ix2 l d) := by
  pointwise [k0_pay1]

theorem wt_at (v : Vec Ideal S4x256x1024 .bf16) (l d : Fin 1024) :
    k0_pay18 (F := Ideal) v (ix2 l d) = v (ix3 (⟨l.val / 256, by omega⟩ : Fin 4) (⟨l.val % 256, by omega⟩ : Fin 256) d) := by
  pointwise [k0_pay18]

theorem sum4_at (g0 g1 g2 g3 : Vec Ideal S1x512x1024 .bf16) (r : Fin 512) (d : Fin 1024) :
    k0_pay7 (F := Ideal) g0 g1 g2 g3 (ix2 r d) = (show EReal from g0 (ix3 0 r d)) + (show EReal from g1 (ix3 0 r d))
      + (show EReal from g2 (ix3 0 r d)) + (show EReal from g3 (ix3 0 r d)) := by
  pointwise [k0_pay7]

theorem scale_at (v : Vec Ideal S512x1024 .f32) (r : Fin 512) :
    k0_pay8 (F := Ideal) v (ix2 r 0) = Ideal.rsqrt (Ideal.div (∑ k : Fin 1024, (show EReal from v (ix2 r k)) * v (ix2 r k)) (Ideal.ofBits FTy.f32 1149239296#32)
      + Ideal.ofBits FTy.f32 897988541#32) := by
  pointwise [k0_pay8]

theorem hat_of (v : Vec Ideal S512x1024 .f32) (r : Fin 512) (d : Fin 1024) :
    k0_pay9 (F := Ideal) v (ix2 r d) = (show EReal from v (ix2 r d)) * k0_pay8 (F := Ideal) v (ix2 r 0) := by
  pointwise [k0_pay9]

theorem colsum_of (g0 g1 g2 g3 : Vec Ideal S1x512x1024 .bf16) (v : Vec Ideal S512x1024 .f32) (d : Fin 1024) :
    k0_pay10 (F := Ideal) g0 g1 g2 g3 v (ix2 0 d)
      = ∑ r : Fin 512, (show EReal from k0_pay7 (F := Ideal) g0 g1 g2 g3 (ix2 r d)) * k0_pay9 (F := Ideal) v (ix2 r d) := by
  pointwise [k0_pay10]

theorem gs_of (g0 g1 g2 g3 : Vec Ideal S1x512x1024 .bf16) (bn : Vec Ideal S1x1024 .f32) (r : Fin 512) (d : Fin 1024) :
    k0_pay11 (F := Ideal) g0 g1 g2 g3 bn (ix2 r d) = (show EReal from k0_pay7 (F := Ideal) g0 g1 g2 g3 (ix2 r d)) * bn (ix2 0 d) := by
  pointwise [k0_pay11]

theorem gx_of (g0 g1 g2 g3 : Vec Ideal S1x512x1024 .bf16) (v : Vec Ideal S512x1024 .f32) (bn : Vec Ideal S1x1024 .f32) (r : Fin 512) (d : Fin 1024) :
    k0_pay12 (F := Ideal) g0 g1 g2 g3 v bn (ix2 r d)
      = (show EReal from k0_pay11 (F := Ideal) g0 g1 g2 g3 bn (ix2 r d)) * k0_pay9 (F := Ideal) v (ix2 r d) := by
  pointwise [k0_pay12]

theorem dx_of (s : FVec Ideal S512x1 .f32) (h g u : FVec Ideal S512x1024 .f32) (br : Vec Ideal S512x1024 .f32) (r : Fin 512) (d : Fin 1024) :
    k0_pay13 (F := Ideal) s h g u br (ix2 r d) = (show EReal from br (ix2 r d)) + (show EReal from s (ix2 r 0))
      * ((show EReal from g (ix2 r d)) - (show EReal from h (ix2 r d)) * Ideal.div (∑ k : Fin 1024, (show EReal from u (ix2 r k))) (Ideal.ofBits FTy.f32 1149239296#32)) := by
  pointwise [k0_pay13]

theorem zero_w (l d : Fin 1024) : k0_pay5 (F := Ideal) (ix2 l d) = (0 : EReal) := by
  pointwise [k0_pay5]
theorem zero_n (d : Fin 1024) : k0_pay6 (F := Ideal) (ix2 0 d) = (0 : EReal) := by
  pointwise [k0_pay6]
theorem add_n (v : FVec Ideal S1x1024 .f32) (a : Vec Ideal S1x1024 .f32) (d : Fin 1024) :
    k0_pay15 (F := Ideal) v a (ix2 0 d) = (show EReal from a (ix2 0 d)) + (show EReal from v (ix2 0 d)) := by
  pointwise [k0_pay15]

variable {x nw dr dh ya yb yc b} {R : Fin 512 → Fin 4096} {bx : Vec Ideal S512x1024 .f32} {bn : Vec Ideal S1x1024 .f32} {br : Vec Ideal S512x1024 .f32}
  {g0 g1 g2 g3 : Vec Ideal S1x512x1024 .bf16} {bp bq : Vec Ideal S512x256 .f32} {bs : Vec Ideal S512x512 .f32} {bw : Vec Ideal S4x256x1024 .bf16}
  (B : Blks x nw dr dh ya yb yc b R bx bn br g0 g1 g2 g3 bp bq bs bw)

include B

theorem gr_at (r : Fin 512) (d : Fin 1024) : k0_pay7 (F := Ideal) g0 g1 g2 g3 (ix2 r d) = OutRows.gr dh (R r) d := by
  refine (sum4_at g0 g1 g2 g3 r d).trans ?_
  unfold OutRows.gr
  rw [Fin.sum_univ_four, B.h0, B.h1, B.h2, B.h3]

theorem inv_at (r : Fin 512) : k0_pay8 (F := Ideal) bx (ix2 r 0) = OutRows.inv x (R r) := by
  refine (scale_at bx r).trans ?_
  unfold OutRows.inv OutRows.ms
  simp only [B.hx]

theorem hat_at (r : Fin 512) (d : Fin 1024) : k0_pay9 (F := Ideal) bx (ix2 r d) = (show EReal from x (ix2 (R r) d)) * OutRows.inv x (R r) :=
  (hat_of bx r d).trans (congrArg₂ (fun a c : EReal => a * c) (B.hx r d) (inv_at B r))

theorem gs_at (r : Fin 512) (d : Fin 1024) : k0_pay11 (F := Ideal) g0 g1 g2 g3 bn (ix2 r d) = OutRows.gs nw dh (R r) d :=
  (gs_of g0 g1 g2 g3 bn r d).trans (congrArg₂ (fun a c : EReal => a * c) (gr_at B r d) (B.hn d))

theorem dx_at (r : Fin 512) (d : Fin 1024) :
    k0_pay13 (F := Ideal) (k0_pay8 bx) (k0_pay9 bx) (k0_pay11 g0 g1 g2 g3 bn) (k0_pay12 g0 g1 g2 g3 bx bn) br (ix2 r d)
      = OutRows.dx x nw dr dh (R r) d := by
  refine (dx_of _ _ _ _ br r d).trans ?_
  have hs : (∑ k : Fin 1024, (show EReal from k0_pay12 (F := Ideal) g0 g1 g2 g3 bx bn (ix2 r k)))
      = ∑ k : Fin 1024, OutRows.gs nw dh (R r) k * ((show EReal from x (ix2 (R r) k)) * OutRows.inv x (R r)) :=
    Finset.sum_congr rfl fun k _ => (gx_of g0 g1 g2 g3 bx bn r k).trans (congrArg₂ (fun a c : EReal => a * c) (gs_at B r k) (hat_at B r k))
  rw [hs]
  unfold OutRows.dx
  refine congrArg₂ (fun a c : EReal => a + c) (B.hr r d) (congrArg₂ (fun a c : EReal => a * c) (inv_at B r)
    (congrArg₂ (fun a c : EReal => a - c) (gs_at B r d) (congrArg (fun a : EReal => a * _) (hat_at B r d))))

theorem dxs_at (r : Fin 512) (d : Fin 1024) :
    k0_pay14 (F := Ideal) (k0_pay8 bx) (k0_pay9 bx) (k0_pay11 g0 g1 g2 g3 bn) (k0_pay12 g0 g1 g2 g3 bx bn) br (ix2 r d)
      = OutRows.dx x nw dr dh (R r) d :=
  (congrFun (shapeCast_self _ _) (ix2 r d)).trans (dx_at B r d)

theorem dxb_at (r : Fin 512) (d : Fin 1024) :
    k0_pay16 (F := Ideal) (k0_pay8 bx) (k0_pay9 bx) (k0_pay11 g0 g1 g2 g3 bn) (k0_pay12 g0 g1 g2 g3 bx bn) br (ix2 r d)
      = OutRows.dx x nw dr dh (R r) d := dx_at B r d

/-- What a point adds to the gradient of the norm's weight. -/
theorem dnw_at (a : Vec Ideal S1x1024 .f32) (d : Fin 1024) :
    k0_pay15 (F := Ideal) (k0_pay10 g0 g1 g2 g3 bx) a (ix2 0 d) = (show EReal from a (ix2 0 d))
      + ∑ r : Fin 512, OutRows.gr dh (R r) d * ((show EReal from x (ix2 (R r) d)) * OutRows.inv x (R r)) :=
  (add_n _ a d).trans (congrArg (fun c : EReal => _ + c) ((colsum_of g0 g1 g2 g3 bx d).trans
    (Finset.sum_congr rfl fun r _ => congrArg₂ (fun a c : EReal => a * c) (gr_at B r d) (hat_at B r d))))

theorem y_at (r : Fin 512) (l : Fin 1024) :
    beside (fun k => bp (ix2 r k)) (fun k => bq (ix2 r k)) (fun k => bs (ix2 r k)) l = OutRows.y ya yb yc (R r) l := by
  unfold OutRows.y
  rw [show (fun k => ya (ix2 (R r) k)) = _ from funext fun k => (B.hp r k).symm,
    show (fun k => yb (ix2 (R r) k)) = _ from funext fun k => (B.hq r k).symm,
    show (fun k => yc (ix2 (R r) k)) = _ from funext fun k => (B.hs r k).symm]

/-- What a point adds to the gradient of the projection's weight. -/
theorem dw_at (v : Vec Ideal S1024x1024 .f32) (l d : Fin 1024) :
    k0_pay17 (F := Ideal) (k0_pay8 bx) (k0_pay9 bx) (k0_pay11 g0 g1 g2 g3 bn) (k0_pay12 g0 g1 g2 g3 bx bn) br bp bq bs v (ix2 l d)
      = (show EReal from v (ix2 l d)) + ∑ r : Fin 512, OutRows.y ya yb yc (R r) l * OutRows.dx x nw dr dh (R r) d := by
  have e : k0_pay17 (F := Ideal) (k0_pay8 bx) (k0_pay9 bx) (k0_pay11 g0 g1 g2 g3 bn) (k0_pay12 g0 g1 g2 g3 bx bn) br bp bq bs v (ix2 l d) = _ :=
    (congrFun (shapeCast_self _ _) (ix2 l d)).trans (acc_at v _ _ l d)
  refine e.trans (congrArg _ (Finset.sum_congr rfl fun r _ => ?_))
  exact congrArg₂ (fun a c : EReal => a * c) ((cat_at bp bq bs r l).trans (y_at B r l)) (dxb_at B r d)

theorem dcat_at (r : Fin 512) (l : Fin 1024) :
    k0_pay1 (F := Ideal) (k0_pay16 (k0_pay8 bx) (k0_pay9 bx) (k0_pay11 g0 g1 g2 g3 bn) (k0_pay12 g0 g1 g2 g3 bx bn) br) (k0_pay18 bw) (ix2 r l)
      = OutRows.dcat x nw dr dh b (R r) l := by
  refine (back_at _ _ r l).trans (Finset.sum_congr rfl fun d _ => ?_)
  exact congrArg₂ (fun a c : EReal => a * c) (dxb_at B r d) ((wt_at bw l d).trans (B.hw l d))

omit B

theorem cut2 (g : FVec Ideal S512x1024 .bf16) (v : FVec Ideal S1024x1024 .bf16) (r : Fin 512) (k : Fin 256) :
    k0_pay2 (F := Ideal) g v (ix2 r k) = k0_pay1 (F := Ideal) g v (ix2 r (⟨k.val, by omega⟩ : Fin 1024)) := by
  pointwise [k0_pay2]
theorem cut3 (g : FVec Ideal S512x1024 .bf16) (v : FVec Ideal S1024x1024 .bf16) (r : Fin 512) (k : Fin 256) :
    k0_pay3 (F := Ideal) g v (ix2 r k) = k0_pay1 (F := Ideal) g v (ix2 r (⟨256 + k.val, by omega⟩ : Fin 1024)) := by
  pointwise [k0_pay3]
theorem cut4 (g : FVec Ideal S512x1024 .bf16) (v : FVec Ideal S1024x1024 .bf16) (r : Fin 512) (k : Fin 512) :
    k0_pay4 (F := Ideal) g v (ix2 r k) = k0_pay1 (F := Ideal) g v (ix2 r (⟨512 + k.val, by omega⟩ : Fin 1024)) := by
  pointwise [k0_pay4]

end Cert.OutBIdeal.Val

end
-- ==== Proof.OutB.Final.lean ====
module

public import proofs.«01_k».proof.Proof.OutB.Pure
public import proofs.«01_k».proof.Proof.Gen.OutBIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

/-! The blocks of 512 tokens that the backward output projection reads, and the six arrays it leaves. -/

namespace Cert.OutBIdeal.Val

open Cert.OutBIdeal Cert.OutBIdeal.Gen

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![0, t.val, 0] ∧ win0_4.index t = ![t.val, 0]
    ∧ win0_5.index t = ![t.val, 0] ∧ win0_6.index t = ![t.val, 0] ∧ win0_7.index t = ![0, 0, 0]
    ∧ win0_8.index t = ![t.val, 0] ∧ win0_9.index t = ![0, 0] ∧ win0_10.index t = ![t.val, 0]
    ∧ win0_11.index t = ![t.val, 0] ∧ win0_12.index t = ![t.val, 0] ∧ win0_13.index t = ![0, 0] :=
  (by decide +kernel : ∀ t : Fin grid0.N, _)

theorem lt_points (t : Fin cfg0.N) : t.val < 8 := lt_of_lt_of_le t.isLt (le_of_eq N_0)

/-- The token of a block's row. -/
def tok (t : Fin cfg0.N) (r : Fin 512) : Fin 4096 := ⟨t.val * 512 + r.val, by have := lt_points t; omega⟩

/-- The arrays the launch begins from. -/
abbrev argX (c : Dev nD) : FVec Ideal ⟨2, ![4096, 1024]⟩ .f32 := m ((c : Thread nD τ).loc main_arg0)
abbrev argN (c : Dev nD) : FVec Ideal ⟨2, ![1, 1024]⟩ .f32 := m ((c : Thread nD τ).loc main_arg1)
abbrev argR (c : Dev nD) : FVec Ideal ⟨2, ![4096, 1024]⟩ .f32 := m ((c : Thread nD τ).loc main_arg2)
abbrev argH (c : Dev nD) : FVec Ideal ⟨3, ![4, 4096, 1024]⟩ .bf16 := m ((c : Thread nD τ).loc main_arg3)
abbrev argP (c : Dev nD) : FVec Ideal ⟨2, ![4096, 256]⟩ .f32 := m ((c : Thread nD τ).loc main_arg4)
abbrev argQ (c : Dev nD) : FVec Ideal ⟨2, ![4096, 256]⟩ .f32 := m ((c : Thread nD τ).loc main_arg5)
abbrev argS (c : Dev nD) : FVec Ideal ⟨2, ![4096, 512]⟩ .f32 := m ((c : Thread nD τ).loc main_arg6)
abbrev argB (c : Dev nD) : FVec Ideal ⟨3, ![4, 704, 1024]⟩ .bf16 := m ((c : Thread nD τ).loc main_arg7)

/-- The four parts of a block of the incoming gradient, and the rows of the blob that hold the weight. -/
abbrev q0 : Rect S4x512x1024 := Rect.unit (s := S4x512x1024) ![0, 0, 0] S1x512x1024.size inb_S4x512x1024_S1x512x1024_0_0_0
abbrev q1 : Rect S4x512x1024 := Rect.unit (s := S4x512x1024) ![1, 0, 0] S1x512x1024.size inb_S4x512x1024_S1x512x1024_1_0_0
abbrev q2 : Rect S4x512x1024 := Rect.unit (s := S4x512x1024) ![2, 0, 0] S1x512x1024.size inb_S4x512x1024_S1x512x1024_2_0_0
abbrev q3 : Rect S4x512x1024 := Rect.unit (s := S4x512x1024) ![3, 0, 0] S1x512x1024.size inb_S4x512x1024_S1x512x1024_3_0_0
abbrev qw : Rect S4x704x1024 := Rect.unit (s := S4x704x1024) ![0, 0, 0] S4x256x1024.size inb_S4x704x1024_S4x256x1024_0_0_0

theorem q0_at (X : Vec Ideal S4x512x1024 .bf16) (r : Fin 512) (d : Fin 1024) : (View.ld X q0 : Vec Ideal S1x512x1024 .bf16) (ix3 0 r d) = X (ix3 0 r d) := by
  pointwise [q0]
theorem q1_at (X : Vec Ideal S4x512x1024 .bf16) (r : Fin 512) (d : Fin 1024) : (View.ld X q1 : Vec Ideal S1x512x1024 .bf16) (ix3 0 r d) = X (ix3 1 r d) := by
  pointwise [q1]
theorem q2_at (X : Vec Ideal S4x512x1024 .bf16) (r : Fin 512) (d : Fin 1024) : (View.ld X q2 : Vec Ideal S1x512x1024 .bf16) (ix3 0 r d) = X (ix3 2 r d) := by
  pointwise [q2]
theorem q3_at (X : Vec Ideal S4x512x1024 .bf16) (r : Fin 512) (d : Fin 1024) : (View.ld X q3 : Vec Ideal S1x512x1024 .bf16) (ix3 0 r d) = X (ix3 3 r d) := by
  pointwise [q3]
theorem qw_at (X : Vec Ideal S4x704x1024 .bf16) (j : Fin 4) (f : Fin 256) (d : Fin 1024) :
    (View.ld X qw : Vec Ideal S4x256x1024 .bf16) (ix3 j f d) = X (ix3 j (⟨f.val, by omega⟩ : Fin 704) d) := by
  pointwise [qw]

section
variable (c : Dev nD) (t : Fin cfg0.N)

theorem blkH (p : Fin 4) (r : Fin 512) (d : Fin 1024) : iblk m c 3 t (ix3 p r d) = argH m c (ix3 p (tok t r) d) := by
  obtain ⟨e0, e1, e2, e3, e4, e5, e6, e7, -⟩ := idx t
  unfold tok; blk_ext [iblk, V, e3]
theorem blkB (j : Fin 4) (f : Fin 704) (d : Fin 1024) : iblk m c 7 t (ix3 j f d) = argB m c (ix3 j f d) := by
  obtain ⟨e0, e1, e2, e3, e4, e5, e6, e7, -⟩ := idx t
  blk_ext [iblk, V, e7]

theorem blks : Blks (argX m c) (argN m c) (argR m c) (argH m c) (argP m c) (argQ m c) (argS m c) (argB m c) (tok t)
    (iblk m c 0 t) (iblk m c 1 t) (iblk m c 2 t) (View.ld (iblk m c 3 t) q0) (View.ld (iblk m c 3 t) q1) (View.ld (iblk m c 3 t) q2)
    (View.ld (iblk m c 3 t) q3) (iblk m c 4 t) (iblk m c 5 t) (iblk m c 6 t) (View.ld (iblk m c 7 t) qw) := by
  obtain ⟨e0, e1, e2, e3, e4, e5, e6, e7, -⟩ := idx t
  refine ⟨fun r d => ?_, fun d => ?_, fun r d => ?_, fun r d => (q0_at _ r d).trans (blkH m c t 0 r d), fun r d => (q1_at _ r d).trans (blkH m c t 1 r d),
    fun r d => (q2_at _ r d).trans (blkH m c t 2 r d), fun r d => (q3_at _ r d).trans (blkH m c t 3 r d), fun r k => ?_, fun r k => ?_, fun r k => ?_,
    fun l d => (qw_at _ _ _ _).trans (blkB m c t _ _ _)⟩
  · unfold tok; blk_ext [iblk, V, e0]
  · blk_ext [iblk, V, e1]
  · unfold tok; blk_ext [iblk, V, e2]
  · unfold tok; blk_ext [iblk, V, e4]
  · unfold tok; blk_ext [iblk, V, e5]
  · unfold tok; blk_ext [iblk, V, e6]

/-! Every point leaves its rows of the gradients that have a row per token. -/

theorem after_8 (r : Fin 512) (d : Fin 1024) : (dats m 0 c).after 8 t (ix2 r d)
    = OutRows.dx (argX m c) (argN m c) (argR m c) (argH m c) (tok t r) d := by
  rw [after0_8]
  by_cases h0 : t.val % 8 = 0
  · rw [outsAt0_A m c t h0]; frame_out
    exact dxs_at (blks m c t) r d
  · rw [outsAt0_B m c t h0]; frame_out
    exact dxs_at (blks m c t) r d

theorem after_10 (r : Fin 512) (k : Fin 256) : (dats m 0 c).after 10 t (ix2 r k)
    = OutRows.dcat (argX m c) (argN m c) (argR m c) (argH m c) (argB m c) (tok t r) ⟨k.val, by omega⟩ := by
  rw [after0_10]
  by_cases h0 : t.val % 8 = 0
  · rw [outsAt0_A m c t h0]; frame_out
    exact (cut2 _ _ r k).trans (dcat_at (blks m c t) r _)
  · rw [outsAt0_B m c t h0]; frame_out
    exact (cut2 _ _ r k).trans (dcat_at (blks m c t) r _)

theorem after_11 (r : Fin 512) (k : Fin 256) : (dats m 0 c).after 11 t (ix2 r k)
    = OutRows.dcat (argX m c) (argN m c) (argR m c) (argH m c) (argB m c) (tok t r) ⟨256 + k.val, by omega⟩ := by
  rw [after0_11]
  by_cases h0 : t.val % 8 = 0
  · rw [outsAt0_A m c t h0]; frame_out
    exact (cut3 _ _ r k).trans (dcat_at (blks m c t) r _)
  · rw [outsAt0_B m c t h0]; frame_out
    exact (cut3 _ _ r k).trans (dcat_at (blks m c t) r _)

theorem after_12 (r : Fin 512) (k : Fin 512) : (dats m 0 c).after 12 t (ix2 r k)
    = OutRows.dcat (argX m c) (argN m c) (argR m c) (argH m c) (argB m c) (tok t r) ⟨512 + k.val, by omega⟩ := by
  rw [after0_12]
  by_cases h0 : t.val % 8 = 0
  · rw [outsAt0_A m c t h0]; frame_out
    exact (cut4 _ _ r k).trans (dcat_at (blks m c t) r _)
  · rw [outsAt0_B m c t h0]; frame_out
    exact (cut4 _ _ r k).trans (dcat_at (blks m c t) r _)

/-- What one point adds to the two gradients of weights. -/
def termN (y : S1x1024.Idx) : EReal := ∑ r : Fin 512, OutRows.gr (argH m c) (tok t r) (y 1)
  * ((show EReal from argX m c (ix2 (tok t r) (y 1))) * OutRows.inv (argX m c) (tok t r))
def termW (y : S1024x1024.Idx) : EReal := ∑ r : Fin 512, OutRows.y (argP m c) (argQ m c) (argS m c) (tok t r) (y 0)
  * OutRows.dx (argX m c) (argN m c) (argR m c) (argH m c) (tok t r) (y 1)

theorem resetN (h0 : t.val % 8 = 0) (y : S1x1024.Idx) : (outsAt0 m c t.val t.isLt).2.1 y = (0 : EReal) + termN m c t y := by
  rw [outsAt0_A m c t h0]; frame_out
  idx_vars y
  obtain rfl : y0 = 0 := Subsingleton.elim _ _
  refine (dnw_at (blks m c t) _ y1).trans ?_
  exact congrArg (· + _) (zero_n y1)

theorem stepN (h0 : ¬ t.val % 8 = 0) (y : S1x1024.Idx) : (outsAt0 m c t.val t.isLt).2.1 y
    = (show EReal from (outsAt0 m c (t.val - 1) (Nat.lt_of_le_of_lt (Nat.sub_le _ _) t.isLt)).2.1 y) + termN m c t y := by
  rw [outsAt0_B m c t h0]; frame_out
  idx_vars y
  obtain rfl : y0 = 0 := Subsingleton.elim _ _
  exact dnw_at (blks m c t) _ y1

theorem resetW (h0 : t.val % 8 = 0) (y : S1024x1024.Idx) : (outsAt0 m c t.val t.isLt).2.2.2.2.2 y = (0 : EReal) + termW m c t y := by
  rw [outsAt0_A m c t h0]; frame_out
  idx_vars y
  refine (dw_at (blks m c t) _ y0 y1).trans ?_
  exact congrArg (· + _) (zero_w y0 y1)

theorem stepW (h0 : ¬ t.val % 8 = 0) (y : S1024x1024.Idx) : (outsAt0 m c t.val t.isLt).2.2.2.2.2 y
    = (show EReal from (outsAt0 m c (t.val - 1) (Nat.lt_of_le_of_lt (Nat.sub_le _ _) t.isLt)).2.2.2.2.2 y) + termW m c t y := by
  rw [outsAt0_B m c t h0]; frame_out
  idx_vars y
  exact dw_at (blks m c t) _ y0 y1

/-- The rows of all points, one after another, are all tokens. -/
theorem tok_of (h7 : t.val % 8 = 7) (s : Fin 8) (h : 8 * (t.val / 8) + s.val < cfg0.N) (r : Fin 512) (hl : s.val * 512 + r.val < 4096) :
    tok ⟨8 * (t.val / 8) + s.val, h⟩ r = (⟨s.val * 512 + r.val, hl⟩ : Fin 4096) :=
  Fin.ext (by have := lt_points t; unfold tok; dsimp only; omega)

theorem lt_of (s : Fin 8) : 8 * (t.val / 8) + s.val < cfg0.N := by
  have : 8 * (t.val / 8) + s.val < 8 := by have := lt_points t; omega
  exact this.trans_le (ge_of_eq N_0)

/-- The last point leaves the sums over all tokens. -/
theorem after_9 (h7 : t.val % 8 = 7) (d : Fin 1024) : (dats m 0 c).after 9 t (ix2 0 d) = OutRows.dnw (argX m c) (argH m c) d := by
  rw [after0_9, Pipeline.eq_sum_fin_of_reset_step_apply_of_flush (fun n h => (outsAt0 m c n h).2.1) 8 (fun _ => (0 : EReal)) (termN m c)
    (fun t h j => resetN m c t h j) (fun t h j => stepN m c t h j) t h7 (ix2 0 d), zero_add]
  refine Fin.sum_mul_add_congr (F := fun (s : Fin 8) (r : Fin 512) => OutRows.gr (argH m c) (tok ⟨8 * (t.val / 8) + s.val, lt_of t s⟩ r) d
      * ((show EReal from argX m c (ix2 (tok ⟨8 * (t.val / 8) + s.val, lt_of t s⟩ r) d)) * OutRows.inv (argX m c) (tok ⟨8 * (t.val / 8) + s.val, lt_of t s⟩ r)))
    (f := fun R : Fin 4096 => OutRows.gr (argH m c) R d * ((show EReal from argX m c (ix2 R d)) * OutRows.inv (argX m c) R)) (fun s r hl => ?_)
  rw [tok_of t h7 s _ r hl]

theorem after_13 (h7 : t.val % 8 = 7) (l d : Fin 1024) : (dats m 0 c).after 13 t (ix2 l d)
    = OutRows.dw (argX m c) (argN m c) (argR m c) (argH m c) (argP m c) (argQ m c) (argS m c) l d := by
  rw [after0_13, Pipeline.eq_sum_fin_of_reset_step_apply_of_flush (fun n h => (outsAt0 m c n h).2.2.2.2.2) 8 (fun _ => (0 : EReal)) (termW m c)
    (fun t h j => resetW m c t h j) (fun t h j => stepW m c t h j) t h7 (ix2 l d), zero_add]
  refine Fin.sum_mul_add_congr (F := fun (s : Fin 8) (r : Fin 512) => OutRows.y (argP m c) (argQ m c) (argS m c) (tok ⟨8 * (t.val / 8) + s.val, lt_of t s⟩ r) l
      * OutRows.dx (argX m c) (argN m c) (argR m c) (argH m c) (tok ⟨8 * (t.val / 8) + s.val, lt_of t s⟩ r) d)
    (f := fun R : Fin 4096 => OutRows.y (argP m c) (argQ m c) (argS m c) R l * OutRows.dx (argX m c) (argN m c) (argR m c) (argH m c) R d) (fun s r hl => ?_)
  rw [tok_of t h7 s _ r hl]

end

/-! The six arrays the launch leaves. -/

theorem final_8 (c : Dev nD) : (dats m 0 c).arrAt 8 (cfgs 0).N
    = (fun i => (show EReal from OutRows.dx (argX m c) (argN m c) (argR m c) (argH m c) (i 0) (i 1)) : FVec Ideal ⟨2, ![4096, 1024]⟩ .f32) := by
  refine (dats m 0 c).arrAt_eq_of_covers 8 _ (by decide +kernel) fun t hf y => ?_
  obtain ⟨e0, e1, e2, e3, e4, e5, e6, e7, e8, e9, e10, e11, e12, e13⟩ := idx t
  idx_vars y
  have he : ((View.whole main_v0_0).slice (win0_8.rect t)).emb (ix2 y0 y1) = ix2 (tok t y0) y1 := by
    unfold tok; blk_ext [e8]
  refine (after_8 m c t y0 y1).trans ?_
  exact (congrArg (fun i : Shape.Idx ⟨2, ![4096, 1024]⟩ => OutRows.dx (argX m c) (argN m c) (argR m c) (argH m c) (i 0) (i 1)) he).symm

theorem final_9 (c : Dev nD) : (dats m 0 c).arrAt 9 (cfgs 0).N
    = (fun i => (show EReal from OutRows.dnw (argX m c) (argH m c) (i 1)) : FVec Ideal ⟨2, ![1, 1024]⟩ .f32) := by
  refine (dats m 0 c).arrAt_eq_of_covers 9 _ (by decide +kernel) fun t hf y => ?_
  obtain ⟨e0, e1, e2, e3, e4, e5, e6, e7, e8, e9, e10, e11, e12, e13⟩ := idx t
  have h7 : t.val % 8 = 7 := (flush0_9 t).mp hf
  idx_vars y
  obtain rfl : y0 = 0 := Subsingleton.elim _ _
  have he : ((View.whole main_v0_1).slice (win0_9.rect t)).emb (ix2 0 y1) = ix2 (0 : Fin 1) y1 := by
    blk_ext [e9]
  refine (after_9 m c t h7 y1).trans ?_
  exact (congrArg (fun i : Shape.Idx ⟨2, ![1, 1024]⟩ => OutRows.dnw (argX m c) (argH m c) (i 1)) he).symm

theorem final_10 (c : Dev nD) : (dats m 0 c).arrAt 10 (cfgs 0).N
    = (fun i => (show EReal from OutRows.dcat (argX m c) (argN m c) (argR m c) (argH m c) (argB m c) (i 0) ⟨(i 1).val, (i 1).isLt.trans (by decide)⟩) : FVec Ideal ⟨2, ![4096, 256]⟩ .f32) := by
  refine (dats m 0 c).arrAt_eq_of_covers 10 _ (by decide +kernel) fun t hf y => ?_
  obtain ⟨e0, e1, e2, e3, e4, e5, e6, e7, e8, e9, e10, e11, e12, e13⟩ := idx t
  idx_vars y
  have he : ((View.whole main_v0_2).slice (win0_10.rect t)).emb (ix2 y0 y1) = ix2 (tok t y0) y1 := by
    unfold tok; blk_ext [e10]
  refine (after_10 m c t y0 y1).trans ?_
  exact (congrArg (fun i : Shape.Idx ⟨2, ![4096, 256]⟩ => OutRows.dcat (argX m c) (argN m c) (argR m c) (argH m c) (argB m c) (i 0) ⟨(i 1).val, (i 1).isLt.trans (by decide)⟩) he).symm

theorem final_11 (c : Dev nD) : (dats m 0 c).arrAt 11 (cfgs 0).N
    = (fun i => (show EReal from OutRows.dcat (argX m c) (argN m c) (argR m c) (argH m c) (argB m c) (i 0) ⟨256 + (i 1).val, by have : (i 1).val < 256 := (i 1).isLt; omega⟩) : FVec Ideal ⟨2, ![4096, 256]⟩ .f32) := by
  refine (dats m 0 c).arrAt_eq_of_covers 11 _ (by decide +kernel) fun t hf y => ?_
  obtain ⟨e0, e1, e2, e3, e4, e5, e6, e7, e8, e9, e10, e11, e12, e13⟩ := idx t
  idx_vars y
  have he : ((View.whole main_v0_3).slice (win0_11.rect t)).emb (ix2 y0 y1) = ix2 (tok t y0) y1 := by
    unfold tok; blk_ext [e11]
  refine (after_11 m c t y0 y1).trans ?_
  exact (congrArg (fun i : Shape.Idx ⟨2, ![4096, 256]⟩ => OutRows.dcat (argX m c) (argN m c) (argR m c) (argH m c) (argB m c) (i 0) ⟨256 + (i 1).val, by have : (i 1).val < 256 := (i 1).isLt; omega⟩) he).symm

theorem final_12 (c : Dev nD) : (dats m 0 c).arrAt 12 (cfgs 0).N
    = (fun i => (show EReal from OutRows.dcat (argX m c) (argN m c) (argR m c) (argH m c) (argB m c) (i 0) ⟨512 + (i 1).val, by have : (i 1).val < 512 := (i 1).isLt; omega⟩) : FVec Ideal ⟨2, ![4096, 512]⟩ .f32) := by
  refine (dats m 0 c).arrAt_eq_of_covers 12 _ (by decide +kernel) fun t hf y => ?_
  obtain ⟨e0, e1, e2, e3, e4, e5, e6, e7, e8, e9, e10, e11, e12, e13⟩ := idx t
  idx_vars y
  have he : ((View.whole main_v0_4).slice (win0_12.rect t)).emb (ix2 y0 y1) = ix2 (tok t y0) y1 := by
    unfold tok; blk_ext [e12]
  refine (after_12 m c t y0 y1).trans ?_
  exact (congrArg (fun i : Shape.Idx ⟨2, ![4096, 512]⟩ => OutRows.dcat (argX m c) (argN m c) (argR m c) (argH m c) (argB m c) (i 0) ⟨512 + (i 1).val, by have : (i 1).val < 512 := (i 1).isLt; omega⟩) he).symm

theorem final_13 (c : Dev nD) : (dats m 0 c).arrAt 13 (cfgs 0).N
    = (fun i => (show EReal from OutRows.dw (argX m c) (argN m c) (argR m c) (argH m c) (argP m c) (argQ m c) (argS m c) (i 0) (i 1)) : FVec Ideal ⟨2, ![1024, 1024]⟩ .f32) := by
  refine (dats m 0 c).arrAt_eq_of_covers 13 _ (by decide +kernel) fun t hf y => ?_
  obtain ⟨e0, e1, e2, e3, e4, e5, e6, e7, e8, e9, e10, e11, e12, e13⟩ := idx t
  have h7 : t.val % 8 = 7 := (flush0_13 t).mp hf
  idx_vars y
  have he : ((View.whole main_v0_5).slice (win0_13.rect t)).emb (ix2 y0 y1) = ix2 y0 y1 := by
    blk_ext [e13]
  refine (after_13 m c t h7 y0 y1).trans ?_
  exact (congrArg (fun i : Shape.Idx ⟨2, ![1024, 1024]⟩ => OutRows.dw (argX m c) (argN m c) (argR m c) (argH m c) (argP m c) (argQ m c) (argS m c) (i 0) (i 1)) he).symm

end Cert.OutBIdeal.Val

end
-- ==== Proof.Reals.Norm.lean ====
module

public import proofs.«01_k».proof.Proof.Reals.Basic

@[expose] public section

set_option maxRecDepth 16384

noncomputable section

open Idealize.ShloMosaic Idealize.ShloMosaic.TcCoe Idealize.SL.Sem
open scoped BigOperators

/-! The gradient of a row divided by the root of its mean square, as the closed form writes it and as the chain rule does.
They agree at every extended real: the row's scale is a positive real, or zero when the mean square is infinite. -/

namespace Cert.Reals

theorem mul_add_real {s : ℝ} (hs : 0 ≤ s) (a b : EReal) : (s : EReal) * (a + b) = s * a + s * b :=
  EReal.left_distrib_of_nonneg_of_ne_top (by exact_mod_cast hs) (EReal.coe_ne_top s) a b

theorem sum_mul_real {ι : Type} (t : Finset ι) (f : ι → EReal) {s : ℝ} (hs : 0 ≤ s) :
    ∑ i ∈ t, f i * (s : EReal) = (∑ i ∈ t, f i) * (s : EReal) := by
  classical
  induction t using Finset.induction_on with
  | empty => simp
  | insert i t hi ih =>
    rw [Finset.sum_insert hi, Finset.sum_insert hi, ih, mul_comm (_ + _), mul_add_real hs, mul_comm (s : EReal), mul_comm (s : EReal)]

/-- The mean square moved up by a positive real is a positive real or infinite. -/
theorem mean_square {ι : Type} [Fintype ι] (f : ι → EReal) {n e : ℝ} (hn : 0 < n) (he : 0 < e) :
    (∃ v : ℝ, 0 < v ∧ Ideal.div (∑ i, f i * f i) (n : EReal) + (e : EReal) = (v : EReal))
      ∨ Ideal.div (∑ i, f i * f i) (n : EReal) + (e : EReal) = ⊤ := by
  have h0 : (0 : EReal) ≤ ∑ i, f i * f i := Finset.sum_nonneg fun i _ => by
    rcases le_total 0 (f i) with h | h
    · exact mul_nonneg h h
    · rw [← neg_mul_neg]; exact mul_nonneg (EReal.neg_nonneg.mpr h) (EReal.neg_nonneg.mpr h)
  generalize (∑ i, f i * f i) = S at h0 ⊢
  rw [Ideal.div, if_neg (by exact_mod_cast hn.ne'), ← EReal.coe_inv]
  induction S with
  | bot => simp at h0
  | top =>
    right
    rw [EReal.top_mul_coe_of_pos (inv_pos.mpr hn), EReal.top_add_coe]
  | coe s =>
    left
    have hs : 0 ≤ s := by exact_mod_cast h0
    exact ⟨s * n⁻¹ + e, add_pos_of_nonneg_of_pos (mul_nonneg hs (inv_nonneg.mpr hn.le)) he, by rw [EReal.coe_add, EReal.coe_mul]⟩

theorem norm_rule {ι : Type} [Fintype ι] (x g : ι → EReal) (i : ι) {n e : ℝ} (hn : 0 < n) (he : 0 < e) :
    let v := Ideal.div (∑ k, x k * x k) (n : EReal) + (e : EReal)
    let c := Ideal.div ((∑ k, x k * g k) * (((-2⁻¹ : ℝ) : EReal) * Ideal.div (Ideal.rsqrt v) v)) (n : EReal)
    g i * Ideal.rsqrt v + (x i * c + x i * c)
      = Ideal.rsqrt v * (g i - x i * Ideal.rsqrt v * Ideal.div (∑ k, g k * (x k * Ideal.rsqrt v)) (n : EReal)) := by
  intro v c
  have hn' : (n : EReal) ≠ 0 := by exact_mod_cast hn.ne'
  have hv : (∃ w : ℝ, 0 < w ∧ v = (w : EReal)) ∨ v = ⊤ := mean_square x hn he
  clear_value v
  rcases hv with ⟨w, hw, rfl⟩ | rfl
  · have hr : Ideal.rsqrt ((w : ℝ) : EReal) = (((√w)⁻¹ : ℝ) : EReal) := by
      show (if w < 0 then _ else if w = 0 then _ else _) = _
      rw [if_neg (not_lt.mpr hw.le), if_neg hw.ne']
    have hp : 0 < (√w)⁻¹ := inv_pos.mpr (Real.sqrt_pos.mpr hw)
    have h3 : (√w)⁻¹ * w⁻¹ = (√w)⁻¹ * (√w)⁻¹ * (√w)⁻¹ := by
      have : w⁻¹ = (√w)⁻¹ * (√w)⁻¹ := by rw [← mul_inv, Real.mul_self_sqrt hw.le]
      rw [this]; ring
    have hS : ∑ k, g k * (x k * (((√w)⁻¹ : ℝ) : EReal)) = (∑ k, x k * g k) * (((√w)⁻¹ : ℝ) : EReal) := by
      rw [← sum_mul_real _ _ hp.le]
      exact Finset.sum_congr rfl fun k _ => by rw [mul_comm (x k) (g k), mul_assoc]
    have hc : c = (∑ k, x k * g k) * ((-(2⁻¹ * ((√w)⁻¹ * w⁻¹ * n⁻¹)) : ℝ) : EReal) := by
      show Ideal.div _ _ = _
      rw [hr, Ideal.div, if_neg hn', Ideal.div, if_neg (by exact_mod_cast hw.ne'), ← EReal.coe_inv, ← EReal.coe_inv, ← EReal.coe_mul, ← EReal.coe_mul, mul_assoc, ← EReal.coe_mul]
      congr 2; ring
    rw [hr, hS, hc, Ideal.div, if_neg hn', ← EReal.coe_inv, sub_eq_add_neg, mul_add_real hp.le, mul_comm (g i)]
    congr 1
    generalize (∑ k, x k * g k) = S
    rw [← mul_assoc (x i) S]
    have h2 : ∀ a : EReal, a * ((-(2⁻¹ * ((√w)⁻¹ * w⁻¹ * n⁻¹)) : ℝ) : EReal) + a * ((-(2⁻¹ * ((√w)⁻¹ * w⁻¹ * n⁻¹)) : ℝ) : EReal)
        = -(a * (((√w)⁻¹ * w⁻¹ * n⁻¹ : ℝ) : EReal)) := fun a => by
      have hq : 0 < 2⁻¹ * ((√w)⁻¹ * w⁻¹ * n⁻¹) := by positivity
      induction a with
      | bot => rw [EReal.bot_mul_coe_of_neg (neg_lt_zero.mpr hq), EReal.bot_mul_coe_of_pos (by positivity)]; rfl
      | top => rw [EReal.top_mul_coe_of_neg (neg_lt_zero.mpr hq), EReal.top_mul_coe_of_pos (by positivity)]; rfl
      | coe a => rw [← EReal.coe_mul, ← EReal.coe_mul, ← EReal.coe_add, ← EReal.coe_neg]; congr 1; ring
    rw [h2, mul_neg]
    congr 1
    rw [h3, EReal.coe_mul, EReal.coe_mul, EReal.coe_mul]
    ac_rfl
  · have hr : Ideal.rsqrt ⊤ = 0 := rfl
    have hc : c = 0 := by
      show Ideal.div _ _ = _
      rw [hr, Ideal.div, if_neg hn', Ideal.div, if_neg (by simp)]; simp
    rw [hr, hc]; simp

theorem cneghalf : Ideal.ofBits .f32 0xBF000000#32 = ((-2⁻¹ : ℝ) : EReal) := by
  simp [Ideal.ofBits, Ideal.ieee, -EReal.coe_mul]; norm_num

end Cert.Reals
end
-- ==== Proof.OutB.Ref.lean ====
module

public import proofs.«01_k».proof.Proof.OutB.Rows
public import proofs.«01_k».proof.Proof.Reals.Norm
public import proofs.«01_k».proof.Proof.Gen.OutBRefIdeal.Run

@[expose] public section

set_option maxRecDepth 16384

noncomputable section

open Idealize.ShloMosaic Idealize.ShloMosaic.TcCoe Idealize.SL.Sem
open Idealize.ShloMosaic.Pipeline (Dat)
open scoped BigOperators

/-! The reference's gradients of the output projection and of the norm after it, read at an index. -/

namespace Cert.OutBRefIdeal.Val

open Cert.OutBRefIdeal Cert.OutBRefIdeal.Gen Cert.OutBRefIdeal.Value
open Cert.OutRows (ms inv gr gs)

variable (x : FVec Ideal S4096x1024 .f32) (nw : FVec Ideal S1x1024 .f32) (dr : FVec Ideal S4096x1024 .f32) (dh : FVec Ideal S4x4096x1024 .bf16)
  (p q : FVec Ideal S4096x256 .f32) (s : FVec Ideal S4096x512 .f32) (b : FVec Ideal S4x704x1024 .bf16)

/-! The reference's steps, named. -/

def tMs : FVec Ideal S4096x1 .f32 := addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def tGr : FVec Ideal S4096x1024 .f32 := Host.reduceAdd (extf .f32 dh bitsLt_bf16_f32) (constant S_ .f32 0x00000000#32) reducesTo_S4x4096x1024_S4096x1024_d0 h_S_
def tGs (g : FVec Ideal S4096x1024 .f32) : FVec Ideal S4096x1024 .f32 := mulf g (broadcastInDim S4096x1024 ![0, 1] bcast_S1x1024_S4096x1024_0_1 nw)
def tHat (v : FVec Ideal S4096x1 .f32) : FVec Ideal S4096x1024 .f32 := mulf x (broadcastInDim S4096x1024 ![0, 1] bcast_S4096x1_S4096x1024_0_1 (Host.rsqrt v))
def tSum (g : FVec Ideal S4096x1024 .f32) : FVec Ideal S4096x1 .f32 := shapeCast _ (Host.reduceAdd (mulf x g) (constant S_ .f32 0x00000000#32) reducesTo_S4096x1024_S4096_d1 h_S_) shapeCasts_S4096_S4096x1
def tSlope (v : FVec Ideal S4096x1 .f32) : FVec Ideal S4096x1 .f32 := mulf (broadcastInDim S4096x1 ![] bcast_S_S4096x1 (constant S_ .f32 0xBF000000#32)) (Host.divf (Host.rsqrt v) v)
def tC (u v : FVec Ideal S4096x1 .f32) : FVec Ideal S4096x1024 .f32 := broadcastInDim S4096x1024 ![0] bcast_S4096_S4096x1024_0 (Host.reduceAdd (Host.divf (mulf u v) (broadcastInDim S4096x1 ![] bcast_S_S4096x1 (constant S_ .f32 0x44800000#32))) (constant S_ .f32 0x00000000#32) reducesTo_S4096x1_S4096_d1 h_S_)
def tDx (g c : FVec Ideal S4096x1024 .f32) (v : FVec Ideal S4096x1 .f32) : FVec Ideal S4096x1024 .f32 :=
  addf dr (addf (addf (mulf g (broadcastInDim S4096x1024 ![0, 1] bcast_S4096x1_S4096x1024_0_1 (Host.rsqrt v))) (mulf x c)) (mulf c x))
def tDnw (h g : FVec Ideal S4096x1024 .f32) : FVec Ideal S1x1024 .f32 := shapeCast _ (Host.reduceAdd (mulf h g) (constant S_ .f32 0x00000000#32) reducesTo_S4096x1024_S1024_d0 h_S_) shapeCasts_S1024_S1x1024
def tCat : FVec Ideal S4096x1024 .f32 := concatenate S4096x1024 1 [⟨S4096x256, p⟩, ⟨S4096x256, q⟩, ⟨S4096x512, s⟩] concatenates_S4096x256_S4096x256_S4096x512_S4096x1024_d1
def tW : FVec Ideal S1024x1024 .f32 := shapeCast _ (extf .f32 (extractStridedSlice S4x256x1024 ![0, 0, 0] b slices_S4x704x1024_S4x256x1024_0_0_0) bitsLt_bf16_f32) shapeCasts_S4x256x1024_S1024x1024
def tDw (g a : FVec Ideal S4096x1024 .f32) : FVec Ideal S1024x1024 .f32 := transpose S1024x1024 [1, 0] (Host.dotGeneral dot_S4096x1024_S4096x1024_S1024x1024_0_0_1_1_n_n none g a) transposes_S1024x1024_S1024x1024_1_0
def tBack (g : FVec Ideal S4096x1024 .f32) (v : FVec Ideal S1024x1024 .f32) : FVec Ideal S4096x1024 .f32 := Host.dotGeneral dot_S4096x1024_S1024x1024_S4096x1024_1_1_0_0_n_n none g v

/-! The five terms the reference leaves, put together from the steps (the third to fifth differ by their columns). -/

def DX : FVec Ideal S4096x1024 .f32 := tDx x dr (tGs nw (tGr dh)) (tC (tSum x (tGs nw (tGr dh))) (tSlope (tMs x))) (tMs x)
def DNW : FVec Ideal S1x1024 .f32 := tDnw (tHat x (tMs x)) (tGr dh)
def DW : FVec Ideal S1024x1024 .f32 := tDw (DX x nw dr dh) (tCat p q s)
def BACK : FVec Ideal S4096x1024 .f32 := tBack (DX x nw dr dh) (tW b)
def DP : FVec Ideal S4096x256 .f32 := extractStridedSlice S4096x256 ![0, 0] (BACK x nw dr dh b) slices_S4096x1024_S4096x256_0_0
def DQ : FVec Ideal S4096x256 .f32 := extractStridedSlice S4096x256 ![0, 256] (BACK x nw dr dh b) slices_S4096x1024_S4096x256_0_256
def DS : FVec Ideal S4096x512 .f32 := extractStridedSlice S4096x512 ![0, 512] (BACK x nw dr dh b) slices_S4096x1024_S4096x512_0_512

/-! Each step at an index, over any operands. -/

theorem tMs_at (r : Fin 4096) : tMs x (ix2 r 0) = ms x r := by
  unfold ms
  pointwise [tMs]
theorem tGr_at (r : Fin 4096) (d : Fin 1024) : tGr dh (ix2 r d) = gr dh r d := by
  unfold gr
  pointwise [tGr]
theorem tGs_at (g : FVec Ideal S4096x1024 .f32) (r : Fin 4096) (d : Fin 1024) : tGs nw g (ix2 r d) = (show EReal from g (ix2 r d)) * nw (ix2 0 d) := by
  pointwise [tGs]
theorem tHat_at (v : FVec Ideal S4096x1 .f32) (r : Fin 4096) (d : Fin 1024) : tHat x v (ix2 r d) = (show EReal from x (ix2 r d)) * Ideal.rsqrt (v (ix2 r 0)) := by
  pointwise [tHat]
theorem tSum_at (g : FVec Ideal S4096x1024 .f32) (r : Fin 4096) : tSum x g (ix2 r 0) = ∑ k : Fin 1024, (show EReal from x (ix2 r k)) * g (ix2 r k) := by
  pointwise [tSum]
theorem tSlope_at (v : FVec Ideal S4096x1 .f32) (r : Fin 4096) : tSlope v (ix2 r 0)
    = Ideal.ofBits FTy.f32 0xBF000000#32 * Ideal.div (Ideal.rsqrt (v (ix2 r 0))) (v (ix2 r 0)) := by
  pointwise [tSlope]
theorem tC_at (u v : FVec Ideal S4096x1 .f32) (r : Fin 4096) (d : Fin 1024) : tC u v (ix2 r d)
    = Ideal.div ((show EReal from u (ix2 r 0)) * v (ix2 r 0)) (Ideal.ofBits FTy.f32 1149239296#32) := by
  pointwise [tC]
  exact Fintype.sum_unique _
theorem tDx_at (g c : FVec Ideal S4096x1024 .f32) (v : FVec Ideal S4096x1 .f32) (r : Fin 4096) (d : Fin 1024) : tDx x dr g c v (ix2 r d)
    = (show EReal from dr (ix2 r d)) + ((show EReal from g (ix2 r d)) * Ideal.rsqrt (v (ix2 r 0)) + (show EReal from x (ix2 r d)) * c (ix2 r d)
      + (show EReal from c (ix2 r d)) * x (ix2 r d)) := by
  pointwise [tDx]
theorem tDnw_at (h g : FVec Ideal S4096x1024 .f32) (d : Fin 1024) : tDnw h g (ix2 0 d) = ∑ r : Fin 4096, (show EReal from h (ix2 r d)) * g (ix2 r d) := by
  pointwise [tDnw]
theorem tCat_at (r : Fin 4096) (l : Fin 1024) : tCat p q s (ix2 r l) = OutRows.y p q s r l := by
  unfold OutRows.y OutRows.beside
  pointwise [tCat]
theorem tW_at (l d : Fin 1024) : tW b (ix2 l d) = OutRows.w b l d := by
  unfold OutRows.w
  pointwise [tW]
theorem tDw_at (g a : FVec Ideal S4096x1024 .f32) (l d : Fin 1024) : tDw g a (ix2 l d) = ∑ r : Fin 4096, (show EReal from g (ix2 r d)) * a (ix2 r l) := by
  pointwise [tDw]
theorem tBack_at (g : FVec Ideal S4096x1024 .f32) (v : FVec Ideal S1024x1024 .f32) (r : Fin 4096) (l : Fin 1024) :
    tBack g v (ix2 r l) = ∑ d : Fin 1024, (show EReal from g (ix2 r d)) * v (ix2 l d) := by
  pointwise [tBack]

theorem gs_at (r : Fin 4096) (d : Fin 1024) : tGs nw (tGr dh) (ix2 r d) = gs nw dh r d :=
  (tGs_at nw _ r d).trans (congrArg (fun a : EReal => a * _) (tGr_at dh r d))

/-- The differentiated norm and the kernel's closed form agree at every extended real. -/
theorem dx_at (r : Fin 4096) (d : Fin 1024) : DX x nw dr dh (ix2 r d) = OutRows.dx x nw dr dh r d := by
  refine (tDx_at x dr _ _ _ r d).trans ?_
  have hc : tC (tSum x (tGs nw (tGr dh))) (tSlope (tMs x)) (ix2 r d)
      = Ideal.div ((∑ k : Fin 1024, (show EReal from x (ix2 r k)) * gs nw dh r k) * (Ideal.ofBits FTy.f32 0xBF000000#32 * Ideal.div (Ideal.rsqrt (ms x r)) (ms x r)))
        (Ideal.ofBits FTy.f32 1149239296#32) := by
    refine (tC_at _ _ r d).trans (congrArg (fun a : EReal => Ideal.div a _) (congrArg₂ (fun a c : EReal => a * c) ?_ ?_))
    · exact (tSum_at x _ r).trans (Finset.sum_congr rfl fun k _ => congrArg (fun a : EReal => _ * a) (gs_at nw dh r k))
    · exact (tSlope_at _ r).trans (congrArg (fun a : EReal => _ * Ideal.div (Ideal.rsqrt a) a) (tMs_at x r))
  rw [hc, gs_at, tMs_at]
  unfold OutRows.dx OutRows.inv
  obtain ⟨e, he, h⟩ := Reals.ceps
  have hr := Reals.norm_rule (fun k : Fin 1024 => (show EReal from x (ix2 r k))) (fun k => gs nw dh r k) d (n := 1024) (e := e) (by norm_num) he
  have hv : ms x r = Ideal.div (∑ k : Fin 1024, (show EReal from x (ix2 r k)) * x (ix2 r k)) ((1024 : ℝ) : EReal) + (e : EReal) := by
    unfold ms
    exact congrArg₂ (fun a c : EReal => Ideal.div _ a + c) Reals.c1024 h
  dsimp only at hr
  rw [← hv] at hr
  refine congrArg (fun a : EReal => _ + a) ?_
  rw [show Ideal.ofBits FTy.f32 1149239296#32 = ((1024 : ℝ) : EReal) from Reals.c1024, Reals.cneghalf]
  refine Eq.trans ?_ hr
  rw [add_assoc (G := EReal)]
  exact congrArg (fun a : EReal => _ + (_ + a)) (mul_comm _ _)

theorem dx_eq : DX x nw dr dh = (fun i => (show EReal from OutRows.dx x nw dr dh (i 0) (i 1)) : FVec Ideal S4096x1024 .f32) := by
  funext i
  idx_vars i
  exact dx_at x nw dr dh i0 i1

theorem dnw_eq : DNW x dh = (fun i => (show EReal from OutRows.dnw x dh (i 1)) : FVec Ideal S1x1024 .f32) := by
  funext i
  idx_vars i
  obtain rfl : i0 = 0 := Subsingleton.elim _ _
  refine (tDnw_at _ _ i1).trans (Finset.sum_congr rfl fun r _ => ?_)
  refine (congrArg₂ (fun a c : EReal => a * c) ((tHat_at x _ r i1).trans ?_) (tGr_at dh r i1)).trans (mul_comm _ _)
  exact congrArg (fun a : EReal => _ * Ideal.rsqrt a) (tMs_at x r)

theorem dw_eq : DW x nw dr dh p q s = (fun i => (show EReal from OutRows.dw x nw dr dh p q s (i 0) (i 1)) : FVec Ideal S1024x1024 .f32) := by
  funext i
  idx_vars i
  refine (tDw_at _ _ i0 i1).trans (Finset.sum_congr rfl fun r _ => ?_)
  exact (congrArg₂ (fun a c : EReal => a * c) (dx_at x nw dr dh r i1) (tCat_at p q s r i0)).trans (mul_comm _ _)

theorem back_at (r : Fin 4096) (l : Fin 1024) : BACK x nw dr dh b (ix2 r l) = OutRows.dcat x nw dr dh b r l :=
  (tBack_at _ _ r l).trans (Finset.sum_congr rfl fun d _ => congrArg₂ (fun a c : EReal => a * c) (dx_at x nw dr dh r d) (tW_at b l d))

/-! The three cuts of columns. -/

theorem cut0 (a : FVec Ideal S4096x1024 .f32) (r : Fin 4096) (k : Fin 256) :
    (extractStridedSlice S4096x256 ![0, 0] a slices_S4096x1024_S4096x256_0_0 : FVec Ideal S4096x256 .f32) (ix2 r k) = a (ix2 r (⟨k.val, by omega⟩ : Fin 1024)) := by
  pointwise
theorem cut1 (a : FVec Ideal S4096x1024 .f32) (r : Fin 4096) (k : Fin 256) :
    (extractStridedSlice S4096x256 ![0, 256] a slices_S4096x1024_S4096x256_0_256 : FVec Ideal S4096x256 .f32) (ix2 r k) = a (ix2 r (⟨256 + k.val, by omega⟩ : Fin 1024)) := by
  pointwise
theorem cut2 (a : FVec Ideal S4096x1024 .f32) (r : Fin 4096) (k : Fin 512) :
    (extractStridedSlice S4096x512 ![0, 512] a slices_S4096x1024_S4096x512_0_512 : FVec Ideal S4096x512 .f32) (ix2 r k) = a (ix2 r (⟨512 + k.val, by omega⟩ : Fin 1024)) := by
  pointwise

theorem dp_eq : DP x nw dr dh b = (fun i => (show EReal from OutRows.dcat x nw dr dh b (i 0) ⟨(i 1).val, (i 1).isLt.trans (by decide)⟩) : FVec Ideal S4096x256 .f32) := by
  funext i
  idx_vars i
  exact (cut0 _ i0 i1).trans (back_at x nw dr dh b i0 _)
theorem dq_eq : DQ x nw dr dh b = (fun i => (show EReal from OutRows.dcat x nw dr dh b (i 0) ⟨256 + (i 1).val, by have : (i 1).val < 256 := (i 1).isLt; omega⟩) : FVec Ideal S4096x256 .f32) := by
  funext i
  idx_vars i
  exact (cut1 _ i0 i1).trans (back_at x nw dr dh b i0 _)
theorem ds_eq : DS x nw dr dh b = (fun i => (show EReal from OutRows.dcat x nw dr dh b (i 0) ⟨512 + (i 1).val, by have : (i 1).val < 512 := (i 1).isLt; omega⟩) : FVec Ideal S4096x512 .f32) := by
  funext i
  idx_vars i
  exact (cut2 _ i0 i1).trans (back_at x nw dr dh b i0 _)

end Cert.OutBRefIdeal.Val

end
-- ==== Proof.OutB.Claim.lean ====
module

public import proofs.«01_k».proof.Defs
public import proofs.«01_k».proof.Proof.OutB.Final
public import proofs.«01_k».proof.Proof.OutB.Ref
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

/-! The gradients of the output projection and of the norm after it equal their reference. -/

namespace Cert.OutBPair

variable {m : (ℓ : Loc Cert.OutBIdeal.nD Cert.OutBIdeal.τ Cert.OutBIdeal.sig) → Buf (Elt Ideal) ℓ}
  {m' : (ℓ : Loc Cert.OutBRefIdeal.nD Cert.OutBRefIdeal.τ Cert.OutBRefIdeal.sig) → Buf (Elt Ideal) ℓ}

/-- Both programs begin from the same arguments. -/
abbrev Agree (m : (ℓ : Loc Cert.OutBIdeal.nD Cert.OutBIdeal.τ Cert.OutBIdeal.sig) → Buf (Elt Ideal) ℓ)
    (m' : (ℓ : Loc Cert.OutBRefIdeal.nD Cert.OutBRefIdeal.τ Cert.OutBRefIdeal.sig) → Buf (Elt Ideal) ℓ) : Prop :=
  ∀ c : Dev Cert.OutBIdeal.nD, m' (c.tc.loc Cert.OutBRefIdeal.main_arg0) = m (c.tc.loc Cert.OutBIdeal.main_arg0) ∧ m' (c.tc.loc Cert.OutBRefIdeal.main_arg1) = m (c.tc.loc Cert.OutBIdeal.main_arg1) ∧ m' (c.tc.loc Cert.OutBRefIdeal.main_arg2) = m (c.tc.loc Cert.OutBIdeal.main_arg2) ∧ m' (c.tc.loc Cert.OutBRefIdeal.main_arg3) = m (c.tc.loc Cert.OutBIdeal.main_arg3) ∧ m' (c.tc.loc Cert.OutBRefIdeal.main_arg4) = m (c.tc.loc Cert.OutBIdeal.main_arg4) ∧ m' (c.tc.loc Cert.OutBRefIdeal.main_arg5) = m (c.tc.loc Cert.OutBIdeal.main_arg5) ∧ m' (c.tc.loc Cert.OutBRefIdeal.main_arg6) = m (c.tc.loc Cert.OutBIdeal.main_arg6) ∧ m' (c.tc.loc Cert.OutBRefIdeal.main_arg7) = m (c.tc.loc Cert.OutBIdeal.main_arg7)

/-! What the reference leaves is what the kernel leaves, result by result. -/

theorem res_8 (hagree : Agree m m') (c : Dev Cert.OutBIdeal.nD) :
    Cert.OutBRefIdeal.Val.DX (m' (c.tc.loc Cert.OutBRefIdeal.main_arg0)) (m' (c.tc.loc Cert.OutBRefIdeal.main_arg1)) (m' (c.tc.loc Cert.OutBRefIdeal.main_arg2)) (m' (c.tc.loc Cert.OutBRefIdeal.main_arg3)) = (Cert.OutBIdeal.Gen.dats m 0 c).arrAt 8 (Cert.OutBIdeal.cfgs 0).N := by
  obtain ⟨h0, h1, h2, h3, h4, h5, h6, h7⟩ := hagree c
  rw [h0, h1, h2, h3]
  exact (Cert.OutBRefIdeal.Val.dx_eq _ _ _ _).trans (Cert.OutBIdeal.Val.final_8 m c).symm

theorem res_9 (hagree : Agree m m') (c : Dev Cert.OutBIdeal.nD) :
    Cert.OutBRefIdeal.Val.DNW (m' (c.tc.loc Cert.OutBRefIdeal.main_arg0)) (m' (c.tc.loc Cert.OutBRefIdeal.main_arg3)) = (Cert.OutBIdeal.Gen.dats m 0 c).arrAt 9 (Cert.OutBIdeal.cfgs 0).N := by
  obtain ⟨h0, h1, h2, h3, h4, h5, h6, h7⟩ := hagree c
  rw [h0, h3]
  exact (Cert.OutBRefIdeal.Val.dnw_eq _ _).trans (Cert.OutBIdeal.Val.final_9 m c).symm

theorem res_10 (hagree : Agree m m') (c : Dev Cert.OutBIdeal.nD) :
    Cert.OutBRefIdeal.Val.DP (m' (c.tc.loc Cert.OutBRefIdeal.main_arg0)) (m' (c.tc.loc Cert.OutBRefIdeal.main_arg1)) (m' (c.tc.loc Cert.OutBRefIdeal.main_arg2)) (m' (c.tc.loc Cert.OutBRefIdeal.main_arg3)) (m' (c.tc.loc Cert.OutBRefIdeal.main_arg7)) = (Cert.OutBIdeal.Gen.dats m 0 c).arrAt 10 (Cert.OutBIdeal.cfgs 0).N := by
  obtain ⟨h0, h1, h2, h3, h4, h5, h6, h7⟩ := hagree c
  rw [h0, h1, h2, h3, h7]
  exact (Cert.OutBRefIdeal.Val.dp_eq _ _ _ _ _).trans (Cert.OutBIdeal.Val.final_10 m c).symm

theorem res_11 (hagree : Agree m m') (c : Dev Cert.OutBIdeal.nD) :
    Cert.OutBRefIdeal.Val.DQ (m' (c.tc.loc Cert.OutBRefIdeal.main_arg0)) (m' (c.tc.loc Cert.OutBRefIdeal.main_arg1)) (m' (c.tc.loc Cert.OutBRefIdeal.main_arg2)) (m' (c.tc.loc Cert.OutBRefIdeal.main_arg3)) (m' (c.tc.loc Cert.OutBRefIdeal.main_arg7)) = (Cert.OutBIdeal.Gen.dats m 0 c).arrAt 11 (Cert.OutBIdeal.cfgs 0).N := by
  obtain ⟨h0, h1, h2, h3, h4, h5, h6, h7⟩ := hagree c
  rw [h0, h1, h2, h3, h7]
  exact (Cert.OutBRefIdeal.Val.dq_eq _ _ _ _ _).trans (Cert.OutBIdeal.Val.final_11 m c).symm

theorem res_12 (hagree : Agree m m') (c : Dev Cert.OutBIdeal.nD) :
    Cert.OutBRefIdeal.Val.DS (m' (c.tc.loc Cert.OutBRefIdeal.main_arg0)) (m' (c.tc.loc Cert.OutBRefIdeal.main_arg1)) (m' (c.tc.loc Cert.OutBRefIdeal.main_arg2)) (m' (c.tc.loc Cert.OutBRefIdeal.main_arg3)) (m' (c.tc.loc Cert.OutBRefIdeal.main_arg7)) = (Cert.OutBIdeal.Gen.dats m 0 c).arrAt 12 (Cert.OutBIdeal.cfgs 0).N := by
  obtain ⟨h0, h1, h2, h3, h4, h5, h6, h7⟩ := hagree c
  rw [h0, h1, h2, h3, h7]
  exact (Cert.OutBRefIdeal.Val.ds_eq _ _ _ _ _).trans (Cert.OutBIdeal.Val.final_12 m c).symm

theorem res_13 (hagree : Agree m m') (c : Dev Cert.OutBIdeal.nD) :
    Cert.OutBRefIdeal.Val.DW (m' (c.tc.loc Cert.OutBRefIdeal.main_arg0)) (m' (c.tc.loc Cert.OutBRefIdeal.main_arg1)) (m' (c.tc.loc Cert.OutBRefIdeal.main_arg2)) (m' (c.tc.loc Cert.OutBRefIdeal.main_arg3)) (m' (c.tc.loc Cert.OutBRefIdeal.main_arg4)) (m' (c.tc.loc Cert.OutBRefIdeal.main_arg5)) (m' (c.tc.loc Cert.OutBRefIdeal.main_arg6)) = (Cert.OutBIdeal.Gen.dats m 0 c).arrAt 13 (Cert.OutBIdeal.cfgs 0).N := by
  obtain ⟨h0, h1, h2, h3, h4, h5, h6, h7⟩ := hagree c
  rw [h0, h1, h2, h3, h4, h5, h6]
  exact (Cert.OutBRefIdeal.Val.dw_eq _ _ _ _ _ _ _).trans (Cert.OutBIdeal.Val.final_13 m c).symm

end Cert.OutBPair

namespace Cert.Proof

open Cert.OutBPair

theorem outb : Cert.algebraic_OutBIdeal_OutBRefIdeal (hOutBIdeal := Cert.OutBIdeal.Gen.facts)
    (hOutBRefIdeal := Cert.OutBRefIdeal.Gen.facts) := by
  intro m g m' g' _ hagree
  refine ⟨fun c => (Cert.OutBIdeal.Gen.dats m 0 c).arrAt 8 (Cert.OutBIdeal.cfgs 0).N, fun c => (Cert.OutBIdeal.Gen.dats m 0 c).arrAt 9 (Cert.OutBIdeal.cfgs 0).N, fun c => (Cert.OutBIdeal.Gen.dats m 0 c).arrAt 10 (Cert.OutBIdeal.cfgs 0).N, fun c => (Cert.OutBIdeal.Gen.dats m 0 c).arrAt 11 (Cert.OutBIdeal.cfgs 0).N, fun c => (Cert.OutBIdeal.Gen.dats m 0 c).arrAt 12 (Cert.OutBIdeal.cfgs 0).N, fun c => (Cert.OutBIdeal.Gen.dats m 0 c).arrAt 13 (Cert.OutBIdeal.cfgs 0).N, ?_, ?_⟩
  · refine θ_run_mono (Cert.OutBIdeal.Gen.run_main m g) fun r h c => ?_
    exact ⟨(h c).1 8, (h c).1 9, (h c).1 10, (h c).1 11, (h c).1 12, (h c).1 13,
      ((h c).1 0).trans (((Cert.OutBIdeal.Gen.dats m 0 c).arrAt_in 0 rfl _).trans ((Cert.OutBIdeal.Gen.A_eq m c 0).trans (Cert.OutBIdeal.Gen.V_main_arg0 m c))),
      ((h c).1 1).trans (((Cert.OutBIdeal.Gen.dats m 0 c).arrAt_in 1 rfl _).trans ((Cert.OutBIdeal.Gen.A_eq m c 1).trans (Cert.OutBIdeal.Gen.V_main_arg1 m c))),
      ((h c).1 2).trans (((Cert.OutBIdeal.Gen.dats m 0 c).arrAt_in 2 rfl _).trans ((Cert.OutBIdeal.Gen.A_eq m c 2).trans (Cert.OutBIdeal.Gen.V_main_arg2 m c))),
      ((h c).1 3).trans (((Cert.OutBIdeal.Gen.dats m 0 c).arrAt_in 3 rfl _).trans ((Cert.OutBIdeal.Gen.A_eq m c 3).trans (Cert.OutBIdeal.Gen.V_main_arg3 m c))),
      ((h c).1 4).trans (((Cert.OutBIdeal.Gen.dats m 0 c).arrAt_in 4 rfl _).trans ((Cert.OutBIdeal.Gen.A_eq m c 4).trans (Cert.OutBIdeal.Gen.V_main_arg4 m c))),
      ((h c).1 5).trans (((Cert.OutBIdeal.Gen.dats m 0 c).arrAt_in 5 rfl _).trans ((Cert.OutBIdeal.Gen.A_eq m c 5).trans (Cert.OutBIdeal.Gen.V_main_arg5 m c))),
      ((h c).1 6).trans (((Cert.OutBIdeal.Gen.dats m 0 c).arrAt_in 6 rfl _).trans ((Cert.OutBIdeal.Gen.A_eq m c 6).trans (Cert.OutBIdeal.Gen.V_main_arg6 m c))),
      ((h c).1 7).trans (((Cert.OutBIdeal.Gen.dats m 0 c).arrAt_in 7 rfl _).trans ((Cert.OutBIdeal.Gen.A_eq m c 7).trans (Cert.OutBIdeal.Gen.V_main_arg7 m c)))⟩
  · refine θ_run_mono (Cert.OutBRefIdeal.Value.run (F := Ideal) m' g') fun r h c => ?_
    obtain ⟨e0, e1, e2, e3, e4, e5, e⟩ := h c
    exact ⟨e0.trans (res_8 hagree c), e1.trans (res_9 hagree c), e2.trans (res_10 hagree c), e3.trans (res_11 hagree c), e4.trans (res_12 hagree c), e5.trans (res_13 hagree c), e⟩

end Cert.Proof

end
-- ==== Proof.InB.Rows.lean ====
module

public import proofs.«01_k».proof.Proof.OutB.Rows

@[expose] public section

set_option maxRecDepth 16384

noncomputable section

open Idealize.ShloMosaic Idealize.ShloMosaic.TcCoe Idealize.SL.Sem
open Idealize.ShloMosaic.Pipeline (Dat)
open scoped BigOperators

/-! The gradients of the input projection, of the rotations and of the norm before it, entry by entry over the whole arrays. -/

namespace Cert.InRows

variable (x : FVec Ideal ⟨2, ![4096, 1024]⟩ .f32) (nw : FVec Ideal ⟨2, ![1, 1024]⟩ .f32) (w : FVec Ideal ⟨2, ![1024, 3200]⟩ .bf16)
  (pos : IVec ⟨2, ![4096, 1]⟩ 32) (fr : FVec Ideal ⟨1, ![32]⟩ .f32) (dr : FVec Ideal ⟨2, ![4096, 1024]⟩ .f32)
  (da : FVec Ideal ⟨2, ![4096, 768]⟩ .f32) (d4 : FVec Ideal ⟨3, ![4, 1024, 768]⟩ .f32) (d16 : FVec Ideal ⟨3, ![16, 256, 768]⟩ .f32)
  (pu : FVec Ideal ⟨2, ![4096, 256]⟩ .f32) (dq : FVec Ideal ⟨2, ![4096, 1536]⟩ .f32) (dz : FVec Ideal ⟨2, ![4096, 512]⟩ .f32)
  (db : FVec Ideal ⟨2, ![4096, 128]⟩ .f32)

/-- The gradients that the three attentions leave for one token, added up: the second counts tokens by their remainder modulo 4, the third modulo 16. -/
def att (r : Fin 4096) (l : Fin 768) : EReal := (show EReal from da (ix2 r l))
  + (show EReal from d4 (ix3 (⟨r.val % 4, by omega⟩ : Fin 4) (⟨r.val / 4, by omega⟩ : Fin 1024) l))
  + (show EReal from d16 (ix3 (⟨r.val % 16, by omega⟩ : Fin 16) (⟨r.val / 16, by omega⟩ : Fin 256) l))

/-- A token's angle in one of the 32 frequencies. -/
def ang (r : Fin 4096) (j : Fin 32) : EReal := (((pos (ix2 r 0)).toInt : ℝ) : EReal) * fr (ix1 j)

/-- The gradient before a rotation, from the gradient `g` after it: heads of 64 lanes, whose halves were turned against each other. -/
def turn (g : Fin 256 → EReal) (c s : Fin 32 → EReal) (l : Fin 256) : EReal :=
  if h : l.val % 64 < 32 then g l * c ⟨l.val % 32, by omega⟩ + g ⟨l.val + 32, by omega⟩ * s ⟨l.val % 32, by omega⟩
  else g l * c ⟨l.val % 32, by omega⟩ + -g ⟨l.val - 32, by omega⟩ * s ⟨l.val % 32, by omega⟩

/-- Seven rows of gradients side by side. -/
def beside (p q v u : Fin 256 → EReal) (a : Fin 1536 → EReal) (b : Fin 512 → EReal) (e : Fin 128 → EReal) (l : Fin 3200) : EReal :=
  if h : l.val < 256 then p ⟨l.val, h⟩ else if h : l.val - 256 < 256 then q ⟨l.val - 256, h⟩ else if h : l.val - 256 - 256 < 256 then v ⟨l.val - 256 - 256, h⟩
  else if h : l.val - 256 - 256 - 256 < 256 then u ⟨l.val - 256 - 256 - 256, h⟩
  else if h : l.val - 256 - 256 - 256 - 256 < 1536 then a ⟨l.val - 256 - 256 - 256 - 256, h⟩
  else if h : l.val - 256 - 256 - 256 - 256 - 1536 < 512 then b ⟨l.val - 256 - 256 - 256 - 256 - 1536, h⟩
  else e ⟨l.val - 256 - 256 - 256 - 256 - 1536 - 512, by omega⟩

/-- The gradient of the projection's result. -/
def dp (r : Fin 4096) : Fin 3200 → EReal :=
  beside (turn (fun k => att da d4 d16 r ⟨k.val, by omega⟩) (fun j => Ideal.cos (ang pos fr r j)) (fun j => Ideal.sin (ang pos fr r j)))
    (turn (fun k => att da d4 d16 r ⟨256 + k.val, by omega⟩) (fun j => Ideal.cos (ang pos fr r j)) (fun j => Ideal.sin (ang pos fr r j)))
    (fun k => att da d4 d16 r ⟨512 + k.val, by omega⟩) (fun k => pu (ix2 r k)) (fun k => dq (ix2 r k)) (fun k => dz (ix2 r k)) (fun k => db (ix2 r k))

/-- The gradients of the normed row, of the scaled row and of the row itself. -/
def dh (r : Fin 4096) (d : Fin 1024) : EReal := ∑ l : Fin 3200, dp pos fr da d4 d16 pu dq dz db r l * w (ix2 d l)
def gs (r : Fin 4096) (d : Fin 1024) : EReal := dh w pos fr da d4 d16 pu dq dz db r d * nw (ix2 0 d)
def dx (r : Fin 4096) (d : Fin 1024) : EReal := dr (ix2 r d) + OutRows.inv x r * (gs nw w pos fr da d4 d16 pu dq dz db r d - x (ix2 r d) * OutRows.inv x r
  * Ideal.div (∑ k : Fin 1024, gs nw w pos fr da d4 d16 pu dq dz db r k * (x (ix2 r k) * OutRows.inv x r)) (Ideal.ofBits FTy.f32 1149239296#32))

/-- The gradients of the norm's weight and of the projection's weight. -/
def dnw (d : Fin 1024) : EReal := ∑ r : Fin 4096, dh w pos fr da d4 d16 pu dq dz db r d * (x (ix2 r d) * OutRows.inv x r)
def dw (d : Fin 1024) (l : Fin 3200) : EReal := ∑ r : Fin 4096, x (ix2 r d) * OutRows.inv x r * nw (ix2 0 d) * dp pos fr da d4 d16 pu dq dz db r l

end Cert.InRows

end
-- ==== Proof.InB.Pure.lean ====
module

public import proofs.«01_k».proof.Proof.InB.Rows
public import proofs.«01_k».proof.Proof.Gen.InBIdeal.Skeleton

@[expose] public section

set_option maxRecDepth 16384

noncomputable section

open Idealize.ShloMosaic Idealize.ShloMosaic.TcCoe Idealize.SL.Sem
open Idealize.ShloMosaic.Pipeline (Dat)
open scoped BigOperators

/-! What one point of the input projection's backward grid computes from its blocks, over any operands. -/

namespace Cert.InBIdeal.Val

open Cert.InBIdeal Cert.InBIdeal.Gen
open Cert.InRows (beside turn)

theorem scale_at (v : Vec Ideal S256x1024 .f32) (r : Fin 256) :
    k0_pay4 (F := Ideal) v (ix2 r 0) = Ideal.rsqrt (Ideal.div (∑ k : Fin 1024, (show EReal from v (ix2 r k)) * v (ix2 r k)) (Ideal.ofBits FTy.f32 1149239296#32)
      + Ideal.ofBits FTy.f32 897988541#32) := by
  pointwise [k0_pay4]

theorem norm_of (v : Vec Ideal S256x1024 .f32) (n : Vec Ideal S1x1024 .f32) (r : Fin 256) (d : Fin 1024) :
    k0_pay5 (F := Ideal) v n (ix2 r d) = (show EReal from v (ix2 r d)) * k0_pay4 (F := Ideal) v (ix2 r 0) * n (ix2 0 d) := by
  pointwise [k0_pay5]

theorem cos_of (p : Vec Ideal S256x1 .i32) (f : Vec Ideal S1x256 .f32) (r l : Fin 256) :
    k0_pay7 (F := Ideal) p f (ix2 r l) = Ideal.cos ((((show BitVec 32 from p (ix2 r 0)).toInt : ℝ) : EReal) * (show EReal from f (ix2 0 l))) := by
  pointwise [k0_pay7, k0_pay6]
  rfl

theorem sin_of (p : Vec Ideal S256x1 .i32) (f : Vec Ideal S1x256 .f32) (r l : Fin 256) :
    k0_pay8 (F := Ideal) p f (ix2 r l) = Ideal.sin ((((show BitVec 32 from p (ix2 r 0)).toInt : ℝ) : EReal) * (show EReal from f (ix2 0 l))) := by
  pointwise [k0_pay8, k0_pay6]
  rfl

/-- Six chunks of 128 lanes side by side. -/
def chunks (a b c d e f : Fin 128 → EReal) (l : Fin 768) : EReal :=
  if h : l.val < 128 then a ⟨l.val, h⟩ else if h : l.val - 128 < 128 then b ⟨l.val - 128, h⟩ else if h : l.val - 128 - 128 < 128 then c ⟨l.val - 128 - 128, h⟩
  else if h : l.val - 128 - 128 - 128 < 128 then d ⟨l.val - 128 - 128 - 128, h⟩
  else if h : l.val - 128 - 128 - 128 - 128 < 128 then e ⟨l.val - 128 - 128 - 128 - 128, h⟩
  else f ⟨l.val - 128 - 128 - 128 - 128 - 128, by omega⟩

theorem chunks_eq (g : Fin 768 → EReal) (a b c d e f : Fin 128 → EReal) (h0 : ∀ l, a l = g ⟨l.val, by omega⟩) (h1 : ∀ l, b l = g ⟨128 + l.val, by omega⟩)
    (h2 : ∀ l, c l = g ⟨256 + l.val, by omega⟩) (h3 : ∀ l, d l = g ⟨384 + l.val, by omega⟩) (h4 : ∀ l, e l = g ⟨512 + l.val, by omega⟩)
    (h5 : ∀ l, f l = g ⟨640 + l.val, by omega⟩) (l : Fin 768) : chunks a b c d e f l = g l := by
  unfold chunks
  simp only [h0, h1, h2, h3, h4, h5]
  split_ifs <;> first | rfl | exact congrArg g (Fin.ext (by dsimp only; omega))

theorem add33 (a : Vec Ideal S256x768 .f32) (q0 q1 q2 q3 q4 q5 : Vec Ideal S1x256x128 .f32) (r : Fin 256) (l : Fin 768) :
    k0_pay33 (F := Ideal) a q0 q1 q2 q3 q4 q5 (ix2 r l) = (show EReal from a (ix2 r l)) + chunks (fun l => q0 (ix3 0 r l)) (fun l => q1 (ix3 0 r l)) (fun l => q2 (ix3 0 r l))
      (fun l => q3 (ix3 0 r l)) (fun l => q4 (ix3 0 r l)) (fun l => q5 (ix3 0 r l)) l := by
  unfold chunks
  pointwise [k0_pay33]

theorem add130 (a : FVec Ideal S256x768 .f32) (q0 q1 q2 q3 q4 q5 : Vec Ideal S1x256x128 .f32) (r : Fin 256) (l : Fin 768) :
    k0_pay130 (F := Ideal) a q0 q1 q2 q3 q4 q5 (ix2 r l) = (show EReal from a (ix2 r l)) + chunks (fun l => q0 (ix3 0 r l)) (fun l => q1 (ix3 0 r l)) (fun l => q2 (ix3 0 r l))
      (fun l => q3 (ix3 0 r l)) (fun l => q4 (ix3 0 r l)) (fun l => q5 (ix3 0 r l)) l := by
  unfold chunks
  pointwise [k0_pay130]

theorem cut131 (a : FVec Ideal S256x768 .f32) (q0 q1 q2 q3 q4 q5 : Vec Ideal S1x256x128 .f32) (r l : Fin 256) :
    k0_pay131 (F := Ideal) a q0 q1 q2 q3 q4 q5 (ix2 r l) = k0_pay130 (F := Ideal) a q0 q1 q2 q3 q4 q5 (ix2 r (⟨l.val, by omega⟩ : Fin 768)) := by
  pointwise [k0_pay131]
theorem cut132 (a : FVec Ideal S256x768 .f32) (q0 q1 q2 q3 q4 q5 : Vec Ideal S1x256x128 .f32) (r l : Fin 256) :
    k0_pay132 (F := Ideal) a q0 q1 q2 q3 q4 q5 (ix2 r l) = k0_pay130 (F := Ideal) a q0 q1 q2 q3 q4 q5 (ix2 r (⟨256 + l.val, by omega⟩ : Fin 768)) := by
  pointwise [k0_pay132]
theorem mul133 (c : FVec Ideal S256x256 .f32) (a : FVec Ideal S256x768 .f32) (q0 q1 q2 q3 q4 q5 : Vec Ideal S1x256x128 .f32) (r l : Fin 256) :
    k0_pay133 (F := Ideal) c a q0 q1 q2 q3 q4 q5 (ix2 r l) = (show EReal from k0_pay131 (F := Ideal) a q0 q1 q2 q3 q4 q5 (ix2 r l)) * c (ix2 r l) := by
  pointwise [k0_pay133]
theorem mul136 (c v : FVec Ideal S256x256 .f32) (r l : Fin 256) : k0_pay136 (F := Ideal) c v (ix2 r l) = (show EReal from v (ix2 r l)) * c (ix2 r l) := by
  pointwise [k0_pay136]

/-! The mask that tells the halves of a head apart. -/

theorem rem134 (r l : Fin 256) : k0_pay134 (ix2 r l) = BitVec.ofNat 32 (l.val % 64) := by
  pointwise [k0_pay134]
  revert l
  decide +kernel

theorem mask137 (r l : Fin 256) : k0_pay137 (ix2 r l) = if l.val % 64 < 32 then 1#1 else 0#1 := by
  pointwise [k0_pay137]
  revert l
  decide +kernel

theorem mask135 : ∀ l : Fin 256, (IntOp.cmpi CmpIPredicate.slt
            (Scalar.select
              (IntOp.andi
                (IntOp.xori (IntOp.cmpi CmpIPredicate.slt (BitVec.ofNat 32 (l.val % 64)) 0#32)
                  (Scalar.cmpi CmpIPredicate.slt 64#32 0#32))
                (IntOp.cmpi CmpIPredicate.ne (BitVec.ofNat 32 (l.val % 64)) 0#32))
              (IntOp.addi (BitVec.ofNat 32 (l.val % 64)) 64#32) (BitVec.ofNat 32 (l.val % 64)))
            32#32) = if l.val % 64 < 32 then 1#1 else 0#1 := by
  decide +kernel

theorem pick (p : Prop) [Decidable p] (a b : EReal) : Scalar.select (if p then 1#1 else 0#1) a b = if p then a else b := by
  split <;> rfl

/-- What the two rotations of the lanes, the mask, the cosines and the sines make of a row is the row turned back. -/
theorem turn_of (v c s : Fin 256 → EReal) (g : Fin 256 → EReal) (cc ss : Fin 32 → EReal) (hv : ∀ k, v k = g k) (hc : ∀ k, c k = cc ⟨k.val % 32, by omega⟩)
    (hs : ∀ k, s k = ss ⟨k.val % 32, by omega⟩) (l : Fin 256) :
    v l * c l - (if l.val % 64 < 32 then 0 - v ⟨(l.val + 256 - 224) % 256, by omega⟩ else v ⟨(l.val + 256 - 32) % 256, by omega⟩) * s l = turn g cc ss l := by
  unfold turn
  rw [hc, hs, hv l, sub_eq_add_neg]
  split_ifs with h
  · rw [hv, zero_sub, ← EReal.neg_mul, neg_neg]
    exact congrArg (fun k => _ + g k * _) (Fin.ext (by dsimp only; omega))
  · rw [hv, ← EReal.neg_mul]
    exact congrArg (fun k => _ + -g k * _) (Fin.ext (by dsimp only; omega))

theorem rot135 (s v a : FVec Ideal S256x256 .f32) (r l : Fin 256) :
    k0_pay135 (F := Ideal) s v a 64#32 k0_pay134 (ix2 r l) = (show EReal from a (ix2 r l))
      - (if l.val % 64 < 32 then 0 - (show EReal from v (ix2 r (⟨(l.val + 256 - 224) % 256, by omega⟩ : Fin 256))) else v (ix2 r (⟨(l.val + 256 - 32) % 256, by omega⟩ : Fin 256)))
        * (show EReal from s (ix2 r l)) := by
  pointwise [k0_pay135]
  rw [rem134, mask135, pick]

theorem rot138 (v : FVec Ideal S256x256 .f32) (r l : Fin 256) :
    k0_pay138 (F := Ideal) v (ix2 r l) = (0 : EReal) - v (ix2 r (⟨(l.val + 256 - 224) % 256, by omega⟩ : Fin 256)) := by
  pointwise [k0_pay138]

theorem cat_of (s : FVec Ideal S256x256 .f32) (t : FVec Ideal S256x768 .f32) (v a o : FVec Ideal S256x256 .f32) (k : IVec S256x256 1) (z : FVec Ideal S256x256 .f32)
    (u : Vec Ideal S256x256 .f32) (e : Vec Ideal S256x1536 .f32) (f : Vec Ideal S256x512 .f32) (g : Vec Ideal S256x128 .f32) (r : Fin 256) (l : Fin 3200) :
    k0_pay139 (F := Ideal) s t v a o k z u e f g (ix2 r l) = beside (fun j => a (ix2 r j))
      (fun j => (show EReal from o (ix2 r j)) - Scalar.select (k (ix2 r j)) (show EReal from z (ix2 r j)) (v (ix2 r (⟨(j.val + 256 - 32) % 256, by omega⟩ : Fin 256))) * (show EReal from s (ix2 r j)))
      (fun j => t (ix2 r (⟨512 + j.val, by omega⟩ : Fin 768))) (fun j => u (ix2 r j)) (fun j => e (ix2 r j)) (fun j => f (ix2 r j)) (fun j => g (ix2 r j)) l := by
  unfold beside
  pointwise [k0_pay139]

/-! The products and the norm, over any row of gradients. -/

section
variable (s : FVec Ideal S256x256 .f32) (t : FVec Ideal S256x768 .f32) (v a o : FVec Ideal S256x256 .f32) (k : IVec S256x256 1) (z : FVec Ideal S256x256 .f32)
    (u : Vec Ideal S256x256 .f32) (e : Vec Ideal S256x1536 .f32) (f : Vec Ideal S256x512 .f32) (g : Vec Ideal S256x128 .f32)

theorem acc_of (h : FVec Ideal S256x1024 .bf16) (c : Vec Ideal S1024x3200 .f32) (d : Fin 1024) (l : Fin 3200) :
    k0_pay140 (F := Ideal) h s t v a o k z u e f g c (ix2 d l) = (show EReal from c (ix2 d l))
      + ∑ r : Fin 256, (show EReal from h (ix2 r d)) * k0_pay139 (F := Ideal) s t v a o k z u e f g (ix2 r l) := by
  pointwise [k0_pay140]

theorem back_of (w : Vec Ideal S1024x3200 .bf16) (r : Fin 256) (d : Fin 1024) :
    k0_pay141 (F := Ideal) s t v a o k z u e f g w (ix2 r d) = ∑ l : Fin 3200, (show EReal from k0_pay139 (F := Ideal) s t v a o k z u e f g (ix2 r l)) * w (ix2 d l) := by
  pointwise [k0_pay141]

theorem hat_of (x : Vec Ideal S256x1024 .f32) (i : FVec Ideal S256x1 .f32) (r : Fin 256) (d : Fin 1024) :
    k0_pay142 (F := Ideal) x i (ix2 r d) = (show EReal from x (ix2 r d)) * i (ix2 r 0) := by
  pointwise [k0_pay142]

theorem colsum_of (x : Vec Ideal S256x1024 .f32) (i : FVec Ideal S256x1 .f32) (w : Vec Ideal S1024x3200 .bf16) (d : Fin 1024) :
    k0_pay143 (F := Ideal) x i s t v a o k z u e f g w (ix2 0 d)
      = ∑ r : Fin 256, (show EReal from k0_pay141 (F := Ideal) s t v a o k z u e f g w (ix2 r d)) * k0_pay142 (F := Ideal) x i (ix2 r d) := by
  pointwise [k0_pay143]

theorem grad_of (x : Vec Ideal S256x1024 .f32) (i : FVec Ideal S256x1 .f32) (w : Vec Ideal S1024x3200 .bf16) (n : Vec Ideal S1x1024 .f32) (r : Fin 256) (d : Fin 1024) :
    k0_pay144 (F := Ideal) x i s t v a o k z u e f g w n (ix2 r d) = (show EReal from i (ix2 r 0))
      * ((show EReal from k0_pay141 (F := Ideal) s t v a o k z u e f g w (ix2 r d)) * n (ix2 0 d) - (show EReal from k0_pay142 (F := Ideal) x i (ix2 r d))
        * Ideal.div (∑ j : Fin 1024, (show EReal from k0_pay141 (F := Ideal) s t v a o k z u e f g w (ix2 r j)) * n (ix2 0 j) * k0_pay142 (F := Ideal) x i (ix2 r j)) (Ideal.ofBits FTy.f32 1149239296#32)) := by
  pointwise [k0_pay144]

end

theorem add145 (p q : FVec Ideal S256x1024 .f32) (r : Fin 256) (d : Fin 1024) : k0_pay145 (F := Ideal) p q (ix2 r d) = (show EReal from q (ix2 r d)) + p (ix2 r d) := by
  pointwise [k0_pay145]
theorem add146 (p q : FVec Ideal S1x1024 .f32) (d : Fin 1024) : k0_pay146 (F := Ideal) p q (ix2 0 d) = (show EReal from q (ix2 0 d)) + p (ix2 0 d) := by
  pointwise [k0_pay146]
theorem same1 (p : FVec Ideal S1x1024 .f32) : k0_pay1 (F := Ideal) p = p := shapeCast_self _ _
theorem zero_w (d : Fin 1024) (l : Fin 3200) : k0_pay2 (F := Ideal) (ix2 d l) = (0 : EReal) := by
  pointwise [k0_pay2]
theorem zero_n (d : Fin 1024) : k0_pay3 (F := Ideal) (ix2 0 d) = (0 : EReal) := by
  pointwise [k0_pay3]

end Cert.InBIdeal.Val

end
-- ==== Proof.InB.Block.lean ====
module

public import proofs.«01_k».proof.Proof.InB.Pure

@[expose] public section

set_option maxRecDepth 16384

noncomputable section

open Idealize.ShloMosaic Idealize.ShloMosaic.TcCoe Idealize.SL.Sem
open Idealize.ShloMosaic.Pipeline (Dat)
open scoped BigOperators

/-! What one point of the input projection's backward grid computes, in terms of the rows of the arrays its blocks hold. -/

namespace Cert.InBIdeal.Val

open Cert.InBIdeal Cert.InBIdeal.Gen
open Cert.InRows (beside turn att ang)

/-- Rows of gradients side by side are equal when their parts are. -/
theorem beside_congr {p p' q q' v v' u u' : Fin 256 → EReal} {a a' : Fin 1536 → EReal} {b b' : Fin 512 → EReal} {e e' : Fin 128 → EReal} (hp : ∀ k, p k = p' k)
    (hq : ∀ k, q k = q' k) (hv : ∀ k, v k = v' k) (hu : ∀ k, u k = u' k) (ha : ∀ k, a k = a' k) (hb : ∀ k, b k = b' k) (he : ∀ k, e k = e' k) (l : Fin 3200) :
    beside p q v u a b e l = beside p' q' v' u' a' b' e' l := by
  rw [funext hp, funext hq, funext hv, funext hu, funext ha, funext hb, funext he]

variable {x : FVec Ideal ⟨2, ![4096, 1024]⟩ .f32} {nw : FVec Ideal ⟨2, ![1, 1024]⟩ .f32} {w : FVec Ideal ⟨2, ![1024, 3200]⟩ .bf16}
  {pos : IVec ⟨2, ![4096, 1]⟩ 32} {fr : FVec Ideal ⟨1, ![32]⟩ .f32} {dr : FVec Ideal ⟨2, ![4096, 1024]⟩ .f32}
  {da : FVec Ideal ⟨2, ![4096, 768]⟩ .f32} {d4 : FVec Ideal ⟨3, ![4, 1024, 768]⟩ .f32} {d16 : FVec Ideal ⟨3, ![16, 256, 768]⟩ .f32}
  {pu : FVec Ideal ⟨2, ![4096, 256]⟩ .f32} {dq : FVec Ideal ⟨2, ![4096, 1536]⟩ .f32} {dz : FVec Ideal ⟨2, ![4096, 512]⟩ .f32}
  {db : FVec Ideal ⟨2, ![4096, 128]⟩ .f32} {R : Fin 256 → Fin 4096}
  {bx : Vec Ideal S256x1024 .f32} {bn : Vec Ideal S1x1024 .f32} {bp : Vec Ideal S256x1 .i32} {bf : Vec Ideal S1x256 .f32} {br : Vec Ideal S256x1024 .f32}
  {ba : Vec Ideal S256x768 .f32} {q0 q1 q2 q3 q4 q5 s0 s1 s2 s3 s4 s5 : Vec Ideal S1x256x128 .f32} {bu : Vec Ideal S256x256 .f32} {be : Vec Ideal S256x1536 .f32}
  {bz : Vec Ideal S256x512 .f32} {bb : Vec Ideal S256x128 .f32}

/-- The blocks of one point hold the rows `R` of the arrays. -/
structure Blks (x : FVec Ideal ⟨2, ![4096, 1024]⟩ .f32) (nw : FVec Ideal ⟨2, ![1, 1024]⟩ .f32)
    (pos : IVec ⟨2, ![4096, 1]⟩ 32) (fr : FVec Ideal ⟨1, ![32]⟩ .f32) (dr : FVec Ideal ⟨2, ![4096, 1024]⟩ .f32)
    (da : FVec Ideal ⟨2, ![4096, 768]⟩ .f32) (d4 : FVec Ideal ⟨3, ![4, 1024, 768]⟩ .f32) (d16 : FVec Ideal ⟨3, ![16, 256, 768]⟩ .f32)
    (pu : FVec Ideal ⟨2, ![4096, 256]⟩ .f32) (dq : FVec Ideal ⟨2, ![4096, 1536]⟩ .f32) (dz : FVec Ideal ⟨2, ![4096, 512]⟩ .f32)
    (db : FVec Ideal ⟨2, ![4096, 128]⟩ .f32) (R : Fin 256 → Fin 4096)
    (bx : Vec Ideal S256x1024 .f32) (bn : Vec Ideal S1x1024 .f32) (bp : Vec Ideal S256x1 .i32) (bf : Vec Ideal S1x256 .f32) (br : Vec Ideal S256x1024 .f32)
    (ba : Vec Ideal S256x768 .f32) (q0 q1 q2 q3 q4 q5 s0 s1 s2 s3 s4 s5 : Vec Ideal S1x256x128 .f32) (bu : Vec Ideal S256x256 .f32) (be : Vec Ideal S256x1536 .f32)
    (bz : Vec Ideal S256x512 .f32) (bb : Vec Ideal S256x128 .f32) : Prop where
  hx : ∀ (r : Fin 256) (d : Fin 1024), (show EReal from bx (ix2 r d)) = x (ix2 (R r) d)
  hn : ∀ d : Fin 1024, (show EReal from bn (ix2 0 d)) = nw (ix2 0 d)
  hp : ∀ r : Fin 256, (show BitVec 32 from bp (ix2 r 0)) = pos (ix2 (R r) 0)
  hf : ∀ l : Fin 256, (show EReal from bf (ix2 0 l)) = fr (ix1 (⟨l.val % 32, by omega⟩ : Fin 32))
  hr : ∀ (r : Fin 256) (d : Fin 1024), (show EReal from br (ix2 r d)) = dr (ix2 (R r) d)
  ha : ∀ (r : Fin 256) (l : Fin 768), (show EReal from ba (ix2 r l)) = da (ix2 (R r) l)
  hq0 : ∀ (r : Fin 256) (l : Fin 128), (show EReal from q0 (ix3 0 r l)) = d4 (ix3 (⟨(R r).val % 4, by omega⟩ : Fin 4) (⟨(R r).val / 4, by omega⟩ : Fin 1024) (⟨l.val, by omega⟩ : Fin 768))
  hq1 : ∀ (r : Fin 256) (l : Fin 128), (show EReal from q1 (ix3 0 r l)) = d4 (ix3 (⟨(R r).val % 4, by omega⟩ : Fin 4) (⟨(R r).val / 4, by omega⟩ : Fin 1024) (⟨128 + l.val, by omega⟩ : Fin 768))
  hq2 : ∀ (r : Fin 256) (l : Fin 128), (show EReal from q2 (ix3 0 r l)) = d4 (ix3 (⟨(R r).val % 4, by omega⟩ : Fin 4) (⟨(R r).val / 4, by omega⟩ : Fin 1024) (⟨256 + l.val, by omega⟩ : Fin 768))
  hq3 : ∀ (r : Fin 256) (l : Fin 128), (show EReal from q3 (ix3 0 r l)) = d4 (ix3 (⟨(R r).val % 4, by omega⟩ : Fin 4) (⟨(R r).val / 4, by omega⟩ : Fin 1024) (⟨384 + l.val, by omega⟩ : Fin 768))
  hq4 : ∀ (r : Fin 256) (l : Fin 128), (show EReal from q4 (ix3 0 r l)) = d4 (ix3 (⟨(R r).val % 4, by omega⟩ : Fin 4) (⟨(R r).val / 4, by omega⟩ : Fin 1024) (⟨512 + l.val, by omega⟩ : Fin 768))
  hq5 : ∀ (r : Fin 256) (l : Fin 128), (show EReal from q5 (ix3 0 r l)) = d4 (ix3 (⟨(R r).val % 4, by omega⟩ : Fin 4) (⟨(R r).val / 4, by omega⟩ : Fin 1024) (⟨640 + l.val, by omega⟩ : Fin 768))
  hs0 : ∀ (r : Fin 256) (l : Fin 128), (show EReal from s0 (ix3 0 r l)) = d16 (ix3 (⟨(R r).val % 16, by omega⟩ : Fin 16) (⟨(R r).val / 16, by omega⟩ : Fin 256) (⟨l.val, by omega⟩ : Fin 768))
  hs1 : ∀ (r : Fin 256) (l : Fin 128), (show EReal from s1 (ix3 0 r l)) = d16 (ix3 (⟨(R r).val % 16, by omega⟩ : Fin 16) (⟨(R r).val / 16, by omega⟩ : Fin 256) (⟨128 + l.val, by omega⟩ : Fin 768))
  hs2 : ∀ (r : Fin 256) (l : Fin 128), (show EReal from s2 (ix3 0 r l)) = d16 (ix3 (⟨(R r).val % 16, by omega⟩ : Fin 16) (⟨(R r).val / 16, by omega⟩ : Fin 256) (⟨256 + l.val, by omega⟩ : Fin 768))
  hs3 : ∀ (r : Fin 256) (l : Fin 128), (show EReal from s3 (ix3 0 r l)) = d16 (ix3 (⟨(R r).val % 16, by omega⟩ : Fin 16) (⟨(R r).val / 16, by omega⟩ : Fin 256) (⟨384 + l.val, by omega⟩ : Fin 768))
  hs4 : ∀ (r : Fin 256) (l : Fin 128), (show EReal from s4 (ix3 0 r l)) = d16 (ix3 (⟨(R r).val % 16, by omega⟩ : Fin 16) (⟨(R r).val / 16, by omega⟩ : Fin 256) (⟨512 + l.val, by omega⟩ : Fin 768))
  hs5 : ∀ (r : Fin 256) (l : Fin 128), (show EReal from s5 (ix3 0 r l)) = d16 (ix3 (⟨(R r).val % 16, by omega⟩ : Fin 16) (⟨(R r).val / 16, by omega⟩ : Fin 256) (⟨640 + l.val, by omega⟩ : Fin 768))
  hu : ∀ (r : Fin 256) (l : Fin 256), (show EReal from bu (ix2 r l)) = pu (ix2 (R r) l)
  he : ∀ (r : Fin 256) (l : Fin 1536), (show EReal from be (ix2 r l)) = dq (ix2 (R r) l)
  hz : ∀ (r : Fin 256) (l : Fin 512), (show EReal from bz (ix2 r l)) = dz (ix2 (R r) l)
  hb : ∀ (r : Fin 256) (l : Fin 128), (show EReal from bb (ix2 r l)) = db (ix2 (R r) l)

variable (h : Blks x nw pos fr dr da d4 d16 pu dq dz db R bx bn bp bf br ba q0 q1 q2 q3 q4 q5 s0 s1 s2 s3 s4 s5 bu be bz bb)
include h

theorem att_at (r : Fin 256) (l : Fin 768) : (k0_pay130 (F := Ideal) (k0_pay33 (F := Ideal) ba q0 q1 q2 q3 q4 q5) s0 s1 s2 s3 s4 s5) (ix2 r l) = att da d4 d16 (R r) l := by
  refine (add130 _ s0 s1 s2 s3 s4 s5 r l).trans (congrArg₂ (fun a c : EReal => a + c) ((add33 _ q0 q1 q2 q3 q4 q5 r l).trans (congrArg₂ (fun a c : EReal => a + c) (h.ha r l) ?_)) ?_)
  · exact chunks_eq (fun l => (show EReal from d4 (ix3 (⟨(R r).val % 4, by omega⟩ : Fin 4) (⟨(R r).val / 4, by omega⟩ : Fin 1024) l))) _ _ _ _ _ _
      (h.hq0 r) (h.hq1 r) (h.hq2 r) (h.hq3 r) (h.hq4 r) (h.hq5 r) l
  · exact chunks_eq (fun l => (show EReal from d16 (ix3 (⟨(R r).val % 16, by omega⟩ : Fin 16) (⟨(R r).val / 16, by omega⟩ : Fin 256) l))) _ _ _ _ _ _
      (h.hs0 r) (h.hs1 r) (h.hs2 r) (h.hs3 r) (h.hs4 r) (h.hs5 r) l

theorem cos_at (r l : Fin 256) : (k0_pay7 (F := Ideal) bp bf) (ix2 r l) = Ideal.cos (ang pos fr (R r) ⟨l.val % 32, by omega⟩) := by
  refine (cos_of bp bf r l).trans ?_
  rw [h.hp, h.hf]
  rfl
theorem sin_at (r l : Fin 256) : (k0_pay8 (F := Ideal) bp bf) (ix2 r l) = Ideal.sin (ang pos fr (R r) ⟨l.val % 32, by omega⟩) := by
  refine (sin_of bp bf r l).trans ?_
  rw [h.hp, h.hf]
  rfl

theorem dp_at (r : Fin 256) (l : Fin 3200) : k0_pay139 (F := Ideal) (k0_pay8 (F := Ideal) bp bf) (k0_pay130 (F := Ideal) (k0_pay33 (F := Ideal) ba q0 q1 q2 q3 q4 q5) s0 s1 s2 s3 s4 s5) (k0_pay132 (F := Ideal) (k0_pay33 (F := Ideal) ba q0 q1 q2 q3 q4 q5) s0 s1 s2 s3 s4 s5) (k0_pay135 (F := Ideal) (k0_pay8 (F := Ideal) bp bf) (k0_pay131 (F := Ideal) (k0_pay33 (F := Ideal) ba q0 q1 q2 q3 q4 q5) s0 s1 s2 s3 s4 s5) (k0_pay133 (F := Ideal) (k0_pay7 (F := Ideal) bp bf) (k0_pay33 (F := Ideal) ba q0 q1 q2 q3 q4 q5) s0 s1 s2 s3 s4 s5) 64#32 k0_pay134) (k0_pay136 (F := Ideal) (k0_pay7 (F := Ideal) bp bf) (k0_pay132 (F := Ideal) (k0_pay33 (F := Ideal) ba q0 q1 q2 q3 q4 q5) s0 s1 s2 s3 s4 s5)) k0_pay137 (k0_pay138 (F := Ideal) (k0_pay132 (F := Ideal) (k0_pay33 (F := Ideal) ba q0 q1 q2 q3 q4 q5) s0 s1 s2 s3 s4 s5)) bu be bz bb (ix2 r l) = InRows.dp pos fr da d4 d16 pu dq dz db (R r) l := by
  refine (cat_of _ _ _ _ _ _ _ bu be bz bb r l).trans (beside_congr (fun k => ?_) (fun k => ?_) (fun k => ?_) (h.hu r) (h.he r) (h.hz r) (h.hb r) l)
  · refine (rot135 _ _ _ r k).trans ?_
    rw [mul133]
    exact turn_of (fun k => (show EReal from (k0_pay131 (F := Ideal) (k0_pay33 (F := Ideal) ba q0 q1 q2 q3 q4 q5) s0 s1 s2 s3 s4 s5) (ix2 r k))) (fun k => (show EReal from (k0_pay7 (F := Ideal) bp bf) (ix2 r k))) (fun k => (show EReal from (k0_pay8 (F := Ideal) bp bf) (ix2 r k))) _ _ _
      (fun k => (cut131 _ s0 s1 s2 s3 s4 s5 r k).trans (att_at h r _)) (cos_at h r) (sin_at h r) k
  · rw [mask137, pick, rot138, mul136]
    exact turn_of (fun k => (show EReal from (k0_pay132 (F := Ideal) (k0_pay33 (F := Ideal) ba q0 q1 q2 q3 q4 q5) s0 s1 s2 s3 s4 s5) (ix2 r k))) (fun k => (show EReal from (k0_pay7 (F := Ideal) bp bf) (ix2 r k))) (fun k => (show EReal from (k0_pay8 (F := Ideal) bp bf) (ix2 r k))) _ _ _
      (fun k => (cut132 _ s0 s1 s2 s3 s4 s5 r k).trans (att_at h r _)) (cos_at h r) (sin_at h r) k
  · exact att_at h r _

theorem inv_at (r : Fin 256) : k0_pay4 (F := Ideal) bx (ix2 r 0) = OutRows.inv x (R r) := by
  refine (scale_at bx r).trans ?_
  unfold OutRows.inv OutRows.ms
  simp only [h.hx]

theorem hat_at (r : Fin 256) (d : Fin 1024) : k0_pay142 (F := Ideal) bx (k0_pay4 (F := Ideal) bx) (ix2 r d) = (show EReal from x (ix2 (R r) d)) * OutRows.inv x (R r) :=
  (hat_of bx _ r d).trans (congrArg₂ (fun a c : EReal => a * c) (h.hx r d) (inv_at h r))

theorem h_at (r : Fin 256) (d : Fin 1024) : k0_pay5 (F := Ideal) bx bn (ix2 r d) = (show EReal from x (ix2 (R r) d)) * OutRows.inv x (R r) * nw (ix2 0 d) :=
  (norm_of bx bn r d).trans (congrArg₂ (fun a c : EReal => a * c) (congrArg₂ (fun a c : EReal => a * c) (h.hx r d) (inv_at h r)) (h.hn d))

/-- What a point adds to the gradient of the projection's weight. -/
theorem dw_at (c : Vec Ideal S1024x3200 .f32) (d : Fin 1024) (l : Fin 3200) : k0_pay140 (F := Ideal) (k0_pay5 (F := Ideal) bx bn) (k0_pay8 (F := Ideal) bp bf) (k0_pay130 (F := Ideal) (k0_pay33 (F := Ideal) ba q0 q1 q2 q3 q4 q5) s0 s1 s2 s3 s4 s5) (k0_pay132 (F := Ideal) (k0_pay33 (F := Ideal) ba q0 q1 q2 q3 q4 q5) s0 s1 s2 s3 s4 s5) (k0_pay135 (F := Ideal) (k0_pay8 (F := Ideal) bp bf) (k0_pay131 (F := Ideal) (k0_pay33 (F := Ideal) ba q0 q1 q2 q3 q4 q5) s0 s1 s2 s3 s4 s5) (k0_pay133 (F := Ideal) (k0_pay7 (F := Ideal) bp bf) (k0_pay33 (F := Ideal) ba q0 q1 q2 q3 q4 q5) s0 s1 s2 s3 s4 s5) 64#32 k0_pay134) (k0_pay136 (F := Ideal) (k0_pay7 (F := Ideal) bp bf) (k0_pay132 (F := Ideal) (k0_pay33 (F := Ideal) ba q0 q1 q2 q3 q4 q5) s0 s1 s2 s3 s4 s5)) k0_pay137 (k0_pay138 (F := Ideal) (k0_pay132 (F := Ideal) (k0_pay33 (F := Ideal) ba q0 q1 q2 q3 q4 q5) s0 s1 s2 s3 s4 s5)) bu be bz bb c (ix2 d l)
    = (show EReal from c (ix2 d l)) + ∑ r : Fin 256, (show EReal from x (ix2 (R r) d)) * OutRows.inv x (R r) * nw (ix2 0 d) * InRows.dp pos fr da d4 d16 pu dq dz db (R r) l :=
  (acc_of _ _ _ _ _ _ _ bu be bz bb _ c d l).trans (congrArg (fun a : EReal => _ + a) (Finset.sum_congr rfl fun r _ =>
    congrArg₂ (fun a c : EReal => a * c) (h_at h r d) (dp_at h r l)))

theorem dh_at {bw : Vec Ideal S1024x3200 .bf16} (hw : ∀ (d : Fin 1024) (l : Fin 3200), (show EReal from bw (ix2 d l)) = w (ix2 d l)) (r : Fin 256) (d : Fin 1024) :
    k0_pay141 (F := Ideal) (k0_pay8 (F := Ideal) bp bf) (k0_pay130 (F := Ideal) (k0_pay33 (F := Ideal) ba q0 q1 q2 q3 q4 q5) s0 s1 s2 s3 s4 s5) (k0_pay132 (F := Ideal) (k0_pay33 (F := Ideal) ba q0 q1 q2 q3 q4 q5) s0 s1 s2 s3 s4 s5) (k0_pay135 (F := Ideal) (k0_pay8 (F := Ideal) bp bf) (k0_pay131 (F := Ideal) (k0_pay33 (F := Ideal) ba q0 q1 q2 q3 q4 q5) s0 s1 s2 s3 s4 s5) (k0_pay133 (F := Ideal) (k0_pay7 (F := Ideal) bp bf) (k0_pay33 (F := Ideal) ba q0 q1 q2 q3 q4 q5) s0 s1 s2 s3 s4 s5) 64#32 k0_pay134) (k0_pay136 (F := Ideal) (k0_pay7 (F := Ideal) bp bf) (k0_pay132 (F := Ideal) (k0_pay33 (F := Ideal) ba q0 q1 q2 q3 q4 q5) s0 s1 s2 s3 s4 s5)) k0_pay137 (k0_pay138 (F := Ideal) (k0_pay132 (F := Ideal) (k0_pay33 (F := Ideal) ba q0 q1 q2 q3 q4 q5) s0 s1 s2 s3 s4 s5)) bu be bz bb bw (ix2 r d) = InRows.dh w pos fr da d4 d16 pu dq dz db (R r) d :=
  (back_of _ _ _ _ _ _ _ bu be bz bb bw r d).trans (Finset.sum_congr rfl fun l _ => congrArg₂ (fun a c : EReal => a * c) (dp_at h r l) (hw d l))

/-- What a point adds to the gradient of the norm's weight. -/
theorem dnw_at {bw : Vec Ideal S1024x3200 .bf16} (hw : ∀ (d : Fin 1024) (l : Fin 3200), (show EReal from bw (ix2 d l)) = w (ix2 d l)) (c : Vec Ideal S1x1024 .f32) (d : Fin 1024) :
    k0_pay1 (F := Ideal) (k0_pay146 (F := Ideal) (k0_pay143 (F := Ideal) bx (k0_pay4 (F := Ideal) bx) (k0_pay8 (F := Ideal) bp bf) (k0_pay130 (F := Ideal) (k0_pay33 (F := Ideal) ba q0 q1 q2 q3 q4 q5) s0 s1 s2 s3 s4 s5) (k0_pay132 (F := Ideal) (k0_pay33 (F := Ideal) ba q0 q1 q2 q3 q4 q5) s0 s1 s2 s3 s4 s5) (k0_pay135 (F := Ideal) (k0_pay8 (F := Ideal) bp bf) (k0_pay131 (F := Ideal) (k0_pay33 (F := Ideal) ba q0 q1 q2 q3 q4 q5) s0 s1 s2 s3 s4 s5) (k0_pay133 (F := Ideal) (k0_pay7 (F := Ideal) bp bf) (k0_pay33 (F := Ideal) ba q0 q1 q2 q3 q4 q5) s0 s1 s2 s3 s4 s5) 64#32 k0_pay134) (k0_pay136 (F := Ideal) (k0_pay7 (F := Ideal) bp bf) (k0_pay132 (F := Ideal) (k0_pay33 (F := Ideal) ba q0 q1 q2 q3 q4 q5) s0 s1 s2 s3 s4 s5)) k0_pay137 (k0_pay138 (F := Ideal) (k0_pay132 (F := Ideal) (k0_pay33 (F := Ideal) ba q0 q1 q2 q3 q4 q5) s0 s1 s2 s3 s4 s5)) bu be bz bb bw) c) (ix2 0 d)
      = (show EReal from c (ix2 0 d)) + ∑ r : Fin 256, InRows.dh w pos fr da d4 d16 pu dq dz db (R r) d * ((show EReal from x (ix2 (R r) d)) * OutRows.inv x (R r)) := by
  rw [same1]
  refine (add146 _ c d).trans (congrArg (fun a : EReal => _ + a) ((colsum_of _ _ _ _ _ _ _ bu be bz bb bx _ bw d).trans (Finset.sum_congr rfl fun r _ => ?_)))
  exact congrArg₂ (fun a c : EReal => a * c) (dh_at h hw r d) (hat_at h r d)

/-- A point's rows of the gradient of the input. -/
theorem dx_at {bw : Vec Ideal S1024x3200 .bf16} (hw : ∀ (d : Fin 1024) (l : Fin 3200), (show EReal from bw (ix2 d l)) = w (ix2 d l)) (r : Fin 256) (d : Fin 1024) :
    k0_pay145 (F := Ideal) (k0_pay144 (F := Ideal) bx (k0_pay4 (F := Ideal) bx) (k0_pay8 (F := Ideal) bp bf) (k0_pay130 (F := Ideal) (k0_pay33 (F := Ideal) ba q0 q1 q2 q3 q4 q5) s0 s1 s2 s3 s4 s5) (k0_pay132 (F := Ideal) (k0_pay33 (F := Ideal) ba q0 q1 q2 q3 q4 q5) s0 s1 s2 s3 s4 s5) (k0_pay135 (F := Ideal) (k0_pay8 (F := Ideal) bp bf) (k0_pay131 (F := Ideal) (k0_pay33 (F := Ideal) ba q0 q1 q2 q3 q4 q5) s0 s1 s2 s3 s4 s5) (k0_pay133 (F := Ideal) (k0_pay7 (F := Ideal) bp bf) (k0_pay33 (F := Ideal) ba q0 q1 q2 q3 q4 q5) s0 s1 s2 s3 s4 s5) 64#32 k0_pay134) (k0_pay136 (F := Ideal) (k0_pay7 (F := Ideal) bp bf) (k0_pay132 (F := Ideal) (k0_pay33 (F := Ideal) ba q0 q1 q2 q3 q4 q5) s0 s1 s2 s3 s4 s5)) k0_pay137 (k0_pay138 (F := Ideal) (k0_pay132 (F := Ideal) (k0_pay33 (F := Ideal) ba q0 q1 q2 q3 q4 q5) s0 s1 s2 s3 s4 s5)) bu be bz bb bw bn) br (ix2 r d) = InRows.dx x nw w pos fr dr da d4 d16 pu dq dz db (R r) d := by
  refine (add145 _ br r d).trans (congrArg₂ (fun a c : EReal => a + c) (h.hr r d) ((grad_of _ _ _ _ _ _ _ bu be bz bb bx _ bw bn r d).trans ?_))
  simp only [inv_at h, dh_at h hw, hat_at h, h.hn]
  rfl

end Cert.InBIdeal.Val

end
-- ==== Proof.InB.Join.lean ====
module

public import proofs.«01_k».proof.Proof.InB.Rows
public import proofs.«01_k».proof.Proof.Gen.InBIdeal.Skeleton
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

/-! Rows stored into a scratch at a stride and read back a chunk at a time: the point puts the tokens of an array that counts them by their remainder back in order. -/

namespace Cert.InBIdeal.Val

open Cert.InBIdeal Cert.InBIdeal.Gen

theorem chunk_inb (c : Fin 6) : ∀ a : Fin 3, (![c.val, 0, 0] : Fin 3 → Nat) a + (![1, 256, 128] : Fin 3 → Nat) a ≤ S6x256x128.size a := fun a => by
  match a with
  | ⟨0, _⟩ => exact (show c.val + 1 ≤ 6 by omega)
  | ⟨1, _⟩ => exact (show 0 + 256 ≤ 256 by omega)
  | ⟨2, _⟩ => exact (show 0 + 128 ≤ 128 by omega)

theorem cut_chunk : ∀ i : Fin 2, (![1, 256, 128] : Fin 3 → Nat) i.succ = (![256, 128] : Fin 2 → Nat) i := fun i => by
  match i with
  | ⟨0, _⟩ => rfl
  | ⟨1, _⟩ => rfl

/-- One of the six chunks of 128 lanes of the scratch. -/
abbrev chunk (c : Fin 6) : Rect S6x256x128 := Rect.unit (s := S6x256x128) ![c.val, 0, 0] ![1, 256, 128] (chunk_inb c)

/-! The block of 4 by 64 rows. -/

abbrev line4 (r : Fin 4) : Rect (⟨2, ![256, 128]⟩ : Shape) :=
  ⟨⟨![r.val, 0], ![64, 128], ![4, 1], fun a => by
      match a with
      | ⟨0, _⟩ => exact Or.inr (show r.val + 4 * (64 - 1) < 256 by omega)
      | ⟨1, _⟩ => exact Or.inr (show 0 + 1 * (128 - 1) < 128 by omega)⟩, fun a => by
      match a with
      | ⟨0, _⟩ => exact (show 0 < 4 by omega)
      | ⟨1, _⟩ => exact (show 0 < 1 by omega)⟩
abbrev store4 (c : Fin 6) (r : Fin 4) : Rect S6x256x128 :=
  (Rect.unit (s := S6x256x128) ![c.val, 0, 0] ![1, 256, 128] (chunk_inb c)).within ((line4 r).consLift ![1, 256, 128] rfl cut_chunk) fun _ => rfl

abbrev box4 (c : Fin 6) : Rect (⟨2, ![64, 768]⟩ : Shape) := Rect.unit (s := ⟨2, ![64, 768]⟩) ![0, 128 * c.val] ![64, 128] fun a => by
  match a with
  | ⟨0, _⟩ => exact (show 0 + 64 ≤ 64 by omega)
  | ⟨1, _⟩ => exact (show 128 * c.val + 128 ≤ 768 by omega)

theorem cut4 : ∀ i : Fin 2, (![1, 64, 768] : Fin 3 → Nat) i.succ = (![64, 768] : Fin 2 → Nat) i := fun i => by
  match i with
  | ⟨0, _⟩ => rfl
  | ⟨1, _⟩ => rfl

abbrev load4 (c : Fin 6) (r : Fin 4) : LoadRect S4x64x768 :=
  (Rect.unit (s := S4x64x768) ![r.val, 0, 0] ![1, 64, 768] fun a => by
    match a with
    | ⟨0, _⟩ => exact (show r.val + 1 ≤ 4 by omega)
    | ⟨1, _⟩ => exact (show 0 + 64 ≤ 64 by omega)
    | ⟨2, _⟩ => exact (show 0 + 768 ≤ 768 by omega)).withinL
    ((box4 c).toLoadRect.consLift ![1, 64, 768] rfl cut4) fun _ => rfl

section
variable {κ : Kind} {sp : Space} (v : View sig κ sp S4x64x768 .f32) (f : (v.ref.ty).Contents (Elt Ideal))

/-- One row of every stretch of 4, as the point stores it. -/
def piece4 (c : Fin 6) (r : Fin 4) : View.Piece (Elt Ideal) S6x256x128 .f32 :=
  ⟨store4 c r, Rect.payAlong (Rect.numel_consLift (line4 r) ![1, 256, 128] rfl cut_chunk) (shapeCast S64x128 (LoadRect.valAlong (lr := (box4 c).toLoadRect) (LoadRect.numel_consLift (box4 c).toLoadRect ![1, 64, 768] rfl cut4)
    (View.readAt (Elt Ideal) v (load4 c r) f)) shapeCasts_S64x128_S64x128)⟩

/-- All the rows, last stored first. -/
def rows4 : List (View.Piece (Elt Ideal) S6x256x128 .f32) :=
  ([5, 4, 3, 2, 1, 0] : List (Fin 6)).flatMap fun c => ([3, 2, 1, 0] : List (Fin 4)).map fun r => piece4 v f c r

/-- What stands in the scratch afterwards. -/
def held4 (X : Vec Ideal S4x64x768 .f32) (y : S6x256x128.Idx) : EReal :=
  X (ix3 (⟨(y 1).val % 4, by omega⟩ : Fin 4) (⟨(y 1).val / 4, by have : (y 1).val < 256 := (y 1).isLt; omega⟩ : Fin 64)
    (⟨128 * (y 0).val + (y 2).val, by have : (y 0).val < 6 := (y 0).isLt; have : (y 2).val < 128 := (y 2).isLt; omega⟩ : Fin 768))

theorem piece4_at (c : Fin 6) (r : Fin 4) (x : (store4 c r).shape.Idx) : (piece4 v f c r).2 x = held4 (v.read (Elt Ideal) f) ((store4 c r).emb x) := by
  have h0 : (x 0).val < 1 := (x 0).isLt
  have h1 : (x 1).val < 64 := (x 1).isLt
  have h2 : (x 2).val < 128 := (x 2).isLt
  show Rect.payAlong (Rect.numel_consLift (line4 r) ![1, 256, 128] rfl cut_chunk) (shapeCast S64x128 (LoadRect.valAlong (lr := (box4 c).toLoadRect) (LoadRect.numel_consLift (box4 c).toLoadRect ![1, 64, 768] rfl cut4)     (View.readAt (Elt Ideal) v (load4 c r) f)) shapeCasts_S64x128_S64x128) x = _
  refine (Rect.payAlong_consLift (line4 r) ![1, 256, 128] rfl cut_chunk _ _ x (ix2 (⟨(x 1).val, h1⟩ : Fin 64) (⟨(x 2).val, h2⟩ : Fin 128)) fun i => by
    match i with
    | ⟨0, _⟩ => rfl
    | ⟨1, _⟩ => rfl).trans ?_
  refine (congrFun (shapeCast_self (s := S64x128) _ _) _).trans ?_
  refine (congrArg (View.readAt (Elt Ideal) v (load4 c r) f) (Shape.reshapeEquiv_cons_one (d := ![64, 128]) _ _)).trans ?_
  refine (View.readAt_apply _ _ _).trans ?_
  unfold held4
  refine congrArg (v.read (Elt Ideal) f) (funext fun a => Fin.ext ?_)
  match a with
  | ⟨0, _⟩ =>
    show r.val + 0 + 1 * 0 = (0 + r.val + 4 * (x 1).val) % 4
    omega
  | ⟨1, _⟩ =>
    show 0 + 0 + 1 * (x 1).val = (0 + r.val + 4 * (x 1).val) / 4
    omega
  | ⟨2, _⟩ =>
    show 0 + 128 * c.val + 1 * (x 2).val = 128 * (c.val + 0 + 1 * (x 0).val) + (0 + 0 + 1 * (x 2).val)
    omega

theorem mem_store4 (c : Fin 6) (r : Fin 4) (y : S6x256x128.Idx) (h0 : (y 0).val = c.val) (h1 : (y 1).val % 4 = r.val) : y ∈ (store4 c r).set := by
  have l1 : (y 1).val < 256 := (y 1).isLt
  have l2 : (y 2).val < 128 := (y 2).isLt
  rw [LoadRect.mem_set]
  intro a
  match a with
  | ⟨0, _⟩ => exact ⟨0, Nat.one_pos, show (y 0).val = c.val + 0 + 1 * 0 by omega⟩
  | ⟨1, _⟩ => exact ⟨(y 1).val / 4, show (y 1).val / 4 < 64 by omega, show (y 1).val = 0 + r.val + 4 * ((y 1).val / 4) by omega⟩
  | ⟨2, _⟩ => exact ⟨(y 2).val, l2, show (y 2).val = 0 + 0 + 1 * (y 2).val by omega⟩

/-- A chunk read back whole holds the rows in their order. -/
theorem read4 {κ' : Kind} {sp' : Space} (u : View sig κ' sp' S6x256x128 .f32) (L : List (View.Piece (Elt Ideal) S6x256x128 .f32)) (c : Fin 6)
    (r : Fin 256) (l : Fin 128) : (View.readCov u (rows4 v f ++ L) (chunk c).toLoadRect : Vec Ideal S1x256x128 .f32) (ix3 0 r l)
      = v.read (Elt Ideal) f (ix3 (⟨r.val % 4, by omega⟩ : Fin 4) (⟨r.val / 4, by omega⟩ : Fin 64) (⟨128 * c.val + l.val, by omega⟩ : Fin 768)) := by
  rw [View.readCov_eq_canon']
  have hy0 : ((chunk c).idx (ix3 (0 : Fin 1) r l) 0).val = c.val := show c.val + 1 * 0 = c.val by omega
  have hy1 : ((chunk c).idx (ix3 (0 : Fin 1) r l) 1).val = r.val := show 0 + 1 * r.val = r.val by omega
  have hy2 : ((chunk c).idx (ix3 (0 : Fin 1) r l) 2).val = l.val := show 0 + 1 * l.val = l.val by omega
  refine (View.canon_append_of_pieces (held4 (v.read (Elt Ideal) f)) L (rows4 v f) (fun p hp => ?_) ((chunk c).idx (ix3 (0 : Fin 1) r l)) ?_).trans ?_
  · unfold rows4 at hp
    obtain ⟨c', -, hp⟩ := List.mem_flatMap.1 hp
    obtain ⟨r', -, rfl⟩ := List.mem_map.1 hp
    exact piece4_at v f c' r'
  · refine ⟨piece4 v f c ⟨r.val % 4, by omega⟩, ?_, mem_store4 c _ _ hy0 (by rw [hy1])⟩
    unfold rows4
    refine List.mem_flatMap.2 ⟨c, (by decide : ∀ c : Fin 6, c ∈ ([5, 4, 3, 2, 1, 0] : List (Fin 6))) c, List.mem_map.2 ⟨_, ?_, rfl⟩⟩
    generalize (⟨r.val % 4, _⟩ : Fin 4) = k
    revert k; decide
  · unfold held4
    refine congrArg (v.read (Elt Ideal) f) (funext fun a => Fin.ext ?_)
    match a with
    | ⟨0, _⟩ => exact congrArg (· % 4) hy1
    | ⟨1, _⟩ => exact congrArg (· / 4) hy1
    | ⟨2, _⟩ => exact congrArg₂ (fun a b => 128 * a + b) hy0 hy2

end

/-! The block of 16 by 16 rows. -/

abbrev line16 (r : Fin 16) : Rect (⟨2, ![256, 128]⟩ : Shape) :=
  ⟨⟨![r.val, 0], ![16, 128], ![16, 1], fun a => by
      match a with
      | ⟨0, _⟩ => exact Or.inr (show r.val + 16 * (16 - 1) < 256 by omega)
      | ⟨1, _⟩ => exact Or.inr (show 0 + 1 * (128 - 1) < 128 by omega)⟩, fun a => by
      match a with
      | ⟨0, _⟩ => exact (show 0 < 16 by omega)
      | ⟨1, _⟩ => exact (show 0 < 1 by omega)⟩
abbrev store16 (c : Fin 6) (r : Fin 16) : Rect S6x256x128 :=
  (Rect.unit (s := S6x256x128) ![c.val, 0, 0] ![1, 256, 128] (chunk_inb c)).within ((line16 r).consLift ![1, 256, 128] rfl cut_chunk) fun _ => rfl

abbrev box16 (c : Fin 6) : Rect (⟨2, ![16, 768]⟩ : Shape) := Rect.unit (s := ⟨2, ![16, 768]⟩) ![0, 128 * c.val] ![16, 128] fun a => by
  match a with
  | ⟨0, _⟩ => exact (show 0 + 16 ≤ 16 by omega)
  | ⟨1, _⟩ => exact (show 128 * c.val + 128 ≤ 768 by omega)

theorem cut16 : ∀ i : Fin 2, (![1, 16, 768] : Fin 3 → Nat) i.succ = (![16, 768] : Fin 2 → Nat) i := fun i => by
  match i with
  | ⟨0, _⟩ => rfl
  | ⟨1, _⟩ => rfl

abbrev load16 (c : Fin 6) (r : Fin 16) : LoadRect S16x16x768 :=
  (Rect.unit (s := S16x16x768) ![r.val, 0, 0] ![1, 16, 768] fun a => by
    match a with
    | ⟨0, _⟩ => exact (show r.val + 1 ≤ 16 by omega)
    | ⟨1, _⟩ => exact (show 0 + 16 ≤ 16 by omega)
    | ⟨2, _⟩ => exact (show 0 + 768 ≤ 768 by omega)).withinL
    ((box16 c).toLoadRect.consLift ![1, 16, 768] rfl cut16) fun _ => rfl

section
variable {κ : Kind} {sp : Space} (v : View sig κ sp S16x16x768 .f32) (f : (v.ref.ty).Contents (Elt Ideal))

/-- One row of every stretch of 16, as the point stores it. -/
def piece16 (c : Fin 6) (r : Fin 16) : View.Piece (Elt Ideal) S6x256x128 .f32 :=
  ⟨store16 c r, Rect.payAlong (Rect.numel_consLift (line16 r) ![1, 256, 128] rfl cut_chunk) (shapeCast S16x128 (LoadRect.valAlong (lr := (box16 c).toLoadRect) (LoadRect.numel_consLift (box16 c).toLoadRect ![1, 16, 768] rfl cut16)
    (View.readAt (Elt Ideal) v (load16 c r) f)) shapeCasts_S16x128_S16x128)⟩

/-- All the rows, last stored first. -/
def rows16 : List (View.Piece (Elt Ideal) S6x256x128 .f32) :=
  ([5, 4, 3, 2, 1, 0] : List (Fin 6)).flatMap fun c => ([15, 14, 13, 12, 11, 10, 9, 8, 7, 6, 5, 4, 3, 2, 1, 0] : List (Fin 16)).map fun r => piece16 v f c r

/-- What stands in the scratch afterwards. -/
def held16 (X : Vec Ideal S16x16x768 .f32) (y : S6x256x128.Idx) : EReal :=
  X (ix3 (⟨(y 1).val % 16, by omega⟩ : Fin 16) (⟨(y 1).val / 16, by have : (y 1).val < 256 := (y 1).isLt; omega⟩ : Fin 16)
    (⟨128 * (y 0).val + (y 2).val, by have : (y 0).val < 6 := (y 0).isLt; have : (y 2).val < 128 := (y 2).isLt; omega⟩ : Fin 768))

theorem piece16_at (c : Fin 6) (r : Fin 16) (x : (store16 c r).shape.Idx) : (piece16 v f c r).2 x = held16 (v.read (Elt Ideal) f) ((store16 c r).emb x) := by
  have h0 : (x 0).val < 1 := (x 0).isLt
  have h1 : (x 1).val < 16 := (x 1).isLt
  have h2 : (x 2).val < 128 := (x 2).isLt
  show Rect.payAlong (Rect.numel_consLift (line16 r) ![1, 256, 128] rfl cut_chunk) (shapeCast S16x128 (LoadRect.valAlong (lr := (box16 c).toLoadRect) (LoadRect.numel_consLift (box16 c).toLoadRect ![1, 16, 768] rfl cut16)     (View.readAt (Elt Ideal) v (load16 c r) f)) shapeCasts_S16x128_S16x128) x = _
  refine (Rect.payAlong_consLift (line16 r) ![1, 256, 128] rfl cut_chunk _ _ x (ix2 (⟨(x 1).val, h1⟩ : Fin 16) (⟨(x 2).val, h2⟩ : Fin 128)) fun i => by
    match i with
    | ⟨0, _⟩ => rfl
    | ⟨1, _⟩ => rfl).trans ?_
  refine (congrFun (shapeCast_self (s := S16x128) _ _) _).trans ?_
  refine (congrArg (View.readAt (Elt Ideal) v (load16 c r) f) (Shape.reshapeEquiv_cons_one (d := ![16, 128]) _ _)).trans ?_
  refine (View.readAt_apply _ _ _).trans ?_
  unfold held16
  refine congrArg (v.read (Elt Ideal) f) (funext fun a => Fin.ext ?_)
  match a with
  | ⟨0, _⟩ =>
    show r.val + 0 + 1 * 0 = (0 + r.val + 16 * (x 1).val) % 16
    omega
  | ⟨1, _⟩ =>
    show 0 + 0 + 1 * (x 1).val = (0 + r.val + 16 * (x 1).val) / 16
    omega
  | ⟨2, _⟩ =>
    show 0 + 128 * c.val + 1 * (x 2).val = 128 * (c.val + 0 + 1 * (x 0).val) + (0 + 0 + 1 * (x 2).val)
    omega

theorem mem_store16 (c : Fin 6) (r : Fin 16) (y : S6x256x128.Idx) (h0 : (y 0).val = c.val) (h1 : (y 1).val % 16 = r.val) : y ∈ (store16 c r).set := by
  have l1 : (y 1).val < 256 := (y 1).isLt
  have l2 : (y 2).val < 128 := (y 2).isLt
  rw [LoadRect.mem_set]
  intro a
  match a with
  | ⟨0, _⟩ => exact ⟨0, Nat.one_pos, show (y 0).val = c.val + 0 + 1 * 0 by omega⟩
  | ⟨1, _⟩ => exact ⟨(y 1).val / 16, show (y 1).val / 16 < 16 by omega, show (y 1).val = 0 + r.val + 16 * ((y 1).val / 16) by omega⟩
  | ⟨2, _⟩ => exact ⟨(y 2).val, l2, show (y 2).val = 0 + 0 + 1 * (y 2).val by omega⟩

/-- A chunk read back whole holds the rows in their order. -/
theorem read16 {κ' : Kind} {sp' : Space} (u : View sig κ' sp' S6x256x128 .f32) (L : List (View.Piece (Elt Ideal) S6x256x128 .f32)) (c : Fin 6)
    (r : Fin 256) (l : Fin 128) : (View.readCov u (rows16 v f ++ L) (chunk c).toLoadRect : Vec Ideal S1x256x128 .f32) (ix3 0 r l)
      = v.read (Elt Ideal) f (ix3 (⟨r.val % 16, by omega⟩ : Fin 16) (⟨r.val / 16, by omega⟩ : Fin 16) (⟨128 * c.val + l.val, by omega⟩ : Fin 768)) := by
  rw [View.readCov_eq_canon']
  have hy0 : ((chunk c).idx (ix3 (0 : Fin 1) r l) 0).val = c.val := show c.val + 1 * 0 = c.val by omega
  have hy1 : ((chunk c).idx (ix3 (0 : Fin 1) r l) 1).val = r.val := show 0 + 1 * r.val = r.val by omega
  have hy2 : ((chunk c).idx (ix3 (0 : Fin 1) r l) 2).val = l.val := show 0 + 1 * l.val = l.val by omega
  refine (View.canon_append_of_pieces (held16 (v.read (Elt Ideal) f)) L (rows16 v f) (fun p hp => ?_) ((chunk c).idx (ix3 (0 : Fin 1) r l)) ?_).trans ?_
  · unfold rows16 at hp
    obtain ⟨c', -, hp⟩ := List.mem_flatMap.1 hp
    obtain ⟨r', -, rfl⟩ := List.mem_map.1 hp
    exact piece16_at v f c' r'
  · refine ⟨piece16 v f c ⟨r.val % 16, by omega⟩, ?_, mem_store16 c _ _ hy0 (by rw [hy1])⟩
    unfold rows16
    refine List.mem_flatMap.2 ⟨c, (by decide : ∀ c : Fin 6, c ∈ ([5, 4, 3, 2, 1, 0] : List (Fin 6))) c, List.mem_map.2 ⟨_, ?_, rfl⟩⟩
    generalize (⟨r.val % 16, _⟩ : Fin 16) = k
    revert k; decide
  · unfold held16
    refine congrArg (v.read (Elt Ideal) f) (funext fun a => Fin.ext ?_)
    match a with
    | ⟨0, _⟩ => exact congrArg (· % 16) hy1
    | ⟨1, _⟩ => exact congrArg (· / 16) hy1
    | ⟨2, _⟩ => exact congrArg₂ (fun a b => 128 * a + b) hy0 hy2

end

end Cert.InBIdeal.Val

end
-- ==== Proof.InB.Blocks.lean ====
module

public import proofs.«01_k».proof.Proof.InB.Block
public import proofs.«01_k».proof.Proof.InB.Join
public import proofs.«01_k».proof.Proof.Gen.InBIdeal.Frame
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

/-! The blocks of 256 tokens that the backward input projection reads. -/

namespace Cert.InBIdeal.Val

open Cert.InBIdeal Cert.InBIdeal.Gen

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, t.val, 0]
    ∧ win0_7.index t = ![0, t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![0, 0] :=
  (by decide +kernel : ∀ t : Fin grid0.N, _)

theorem lt_points (t : Fin cfg0.N) : t.val < 16 := lt_of_lt_of_le t.isLt (le_of_eq N_0)

/-- The token of a block's row. -/
def tok (t : Fin cfg0.N) (r : Fin 256) : Fin 4096 := ⟨t.val * 256 + r.val, by have := lt_points t; omega⟩

/-- The arrays the launch begins from. -/
abbrev argX (c : Dev nD) : FVec Ideal ⟨2, ![4096, 1024]⟩ .f32 := m ((c : Thread nD τ).loc main_arg0)
abbrev argN (c : Dev nD) : FVec Ideal ⟨2, ![1, 1024]⟩ .f32 := m ((c : Thread nD τ).loc main_arg1)
abbrev argW (c : Dev nD) : FVec Ideal ⟨2, ![1024, 3200]⟩ .bf16 := m ((c : Thread nD τ).loc main_arg2)
abbrev argP (c : Dev nD) : IVec ⟨2, ![4096, 1]⟩ 32 := m ((c : Thread nD τ).loc main_arg3)
abbrev argF (c : Dev nD) : FVec Ideal ⟨1, ![32]⟩ .f32 := m ((c : Thread nD τ).loc main_arg4)
abbrev argR (c : Dev nD) : FVec Ideal ⟨2, ![4096, 1024]⟩ .f32 := m ((c : Thread nD τ).loc main_arg5)
abbrev argA (c : Dev nD) : FVec Ideal ⟨2, ![4096, 768]⟩ .f32 := m ((c : Thread nD τ).loc main_arg6)
abbrev argD (c : Dev nD) : FVec Ideal ⟨3, ![4, 1024, 768]⟩ .f32 := m ((c : Thread nD τ).loc main_arg7)
abbrev argS (c : Dev nD) : FVec Ideal ⟨3, ![16, 256, 768]⟩ .f32 := m ((c : Thread nD τ).loc main_arg8)
abbrev argU (c : Dev nD) : FVec Ideal ⟨2, ![4096, 256]⟩ .f32 := m ((c : Thread nD τ).loc main_arg9)
abbrev argQ (c : Dev nD) : FVec Ideal ⟨2, ![4096, 1536]⟩ .f32 := m ((c : Thread nD τ).loc main_arg10)
abbrev argZ (c : Dev nD) : FVec Ideal ⟨2, ![4096, 512]⟩ .f32 := m ((c : Thread nD τ).loc main_arg11)
abbrev argB (c : Dev nD) : FVec Ideal ⟨2, ![4096, 128]⟩ .f32 := m ((c : Thread nD τ).loc main_arg12)

/-- A token's row of the gradients in strided order. -/
def at4 (f : FVec Ideal ⟨3, ![4, 1024, 768]⟩ .f32) (R : Fin 4096) (j : Fin 768) : EReal :=
  f (ix3 (⟨R.val % 4, by omega⟩ : Fin 4) (⟨R.val / 4, by omega⟩ : Fin 1024) j)
def at16 (f : FVec Ideal ⟨3, ![16, 256, 768]⟩ .f32) (R : Fin 4096) (j : Fin 768) : EReal :=
  f (ix3 (⟨R.val % 16, by omega⟩ : Fin 16) (⟨R.val / 16, by omega⟩ : Fin 256) j)

section
variable (c : Dev nD) (t : Fin cfg0.N)

/-- A block of gradients of the 4 strided sequences. -/
theorem row4 (a : Fin 4) (b : Fin 64) (l : Fin 768) :
    iblk m c 6 t (ix3 a b l) = argD m c (ix3 a (⟨t.val * 64 + b.val, by have := lt_points t; omega⟩ : Fin 1024) l) := by
  obtain ⟨e0, e1, e2, e3, e4, e5, e6, e7, e8, e9, e10, e11, e12, e13⟩ := idx t
  blk_ext [iblk, V, e6]

/-- A part of it, by its row among the tokens. -/
theorem blk4 (r : Fin 256) (l : Fin 768) :
    iblk m c 6 t (ix3 (⟨r.val % 4, by omega⟩ : Fin 4) (⟨r.val / 4, by omega⟩ : Fin 64) l)
      = argD m c (ix3 (⟨(tok t r).val % 4, by omega⟩ : Fin 4) (⟨(tok t r).val / 4, by have := (tok t r).isLt; omega⟩ : Fin 1024) l) := by
  have h0 : (⟨(tok t r).val % 4, by omega⟩ : Fin 4) = ⟨r.val % 4, by omega⟩ := Fin.ext (by unfold tok; dsimp only; omega)
  have h1 : (⟨(tok t r).val / 4, by have := (tok t r).isLt; omega⟩ : Fin 1024) = ⟨t.val * 64 + r.val / 4, by have := lt_points t; omega⟩ :=
    Fin.ext (by unfold tok; dsimp only; omega)
  rw [h0, h1]
  exact row4 m c t _ _ _

/-- The same part as it comes back from the scratch that puts its rows in the tokens' order. -/
theorem part4 {κ : Kind} {sp : Space} (u : View sig κ sp S6x256x128 .f32) (L : List (View.Piece (Elt Ideal) S6x256x128 .f32)) (k : Fin 6) (r : Fin 256) (l : Fin 128) (j : Fin 768)
    (hj : j.val = 128 * k.val + l.val) :
    (View.readCov u (rows4 (ms0_6 t).view ((hs0_6 t).unread (iblk m c 6 t)) ++ L) (chunk k).toLoadRect : Vec Ideal S1x256x128 .f32) (ix3 0 r l)
      = at4 (argD m c) (tok t r) j := by
  have e : j = ⟨128 * k.val + l.val, by omega⟩ := Fin.ext hj
  rw [e]
  refine (read4 _ _ _ _ _ _ _).trans ?_
  rw [(hs0_6 t).read_unread]
  exact blk4 m c t r _

/-- A block of gradients of the 16 strided sequences. -/
theorem row16 (a : Fin 16) (b : Fin 16) (l : Fin 768) :
    iblk m c 7 t (ix3 a b l) = argS m c (ix3 a (⟨t.val * 16 + b.val, by have := lt_points t; omega⟩ : Fin 256) l) := by
  obtain ⟨e0, e1, e2, e3, e4, e5, e6, e7, e8, e9, e10, e11, e12, e13⟩ := idx t
  blk_ext [iblk, V, e7]

/-- A part of it, by its row among the tokens. -/
theorem blk16 (r : Fin 256) (l : Fin 768) :
    iblk m c 7 t (ix3 (⟨r.val % 16, by omega⟩ : Fin 16) (⟨r.val / 16, by omega⟩ : Fin 16) l)
      = argS m c (ix3 (⟨(tok t r).val % 16, by omega⟩ : Fin 16) (⟨(tok t r).val / 16, by have := (tok t r).isLt; omega⟩ : Fin 256) l) := by
  have h0 : (⟨(tok t r).val % 16, by omega⟩ : Fin 16) = ⟨r.val % 16, by omega⟩ := Fin.ext (by unfold tok; dsimp only; omega)
  have h1 : (⟨(tok t r).val / 16, by have := (tok t r).isLt; omega⟩ : Fin 256) = ⟨t.val * 16 + r.val / 16, by have := lt_points t; omega⟩ :=
    Fin.ext (by unfold tok; dsimp only; omega)
  rw [h0, h1]
  exact row16 m c t _ _ _

/-- The same part as it comes back from the scratch that puts its rows in the tokens' order. -/
theorem part16 {κ : Kind} {sp : Space} (u : View sig κ sp S6x256x128 .f32) (L : List (View.Piece (Elt Ideal) S6x256x128 .f32)) (k : Fin 6) (r : Fin 256) (l : Fin 128) (j : Fin 768)
    (hj : j.val = 128 * k.val + l.val) :
    (View.readCov u (rows16 (ms0_7 t).view ((hs0_7 t).unread (iblk m c 7 t)) ++ L) (chunk k).toLoadRect : Vec Ideal S1x256x128 .f32) (ix3 0 r l)
      = at16 (argS m c) (tok t r) j := by
  have e : j = ⟨128 * k.val + l.val, by omega⟩ := Fin.ext hj
  rw [e]
  refine (read16 _ _ _ _ _ _ _).trans ?_
  rw [(hs0_7 t).read_unread]
  exact blk16 m c t r _

theorem b0 (r : Fin 256) (d : Fin 1024) : iblk m c 0 t (ix2 r d) = argX m c (ix2 (tok t r) d) := by
  obtain ⟨e0, e1, e2, e3, e4, e5, e6, e7, e8, e9, e10, e11, e12, e13⟩ := idx t
  unfold tok; blk_ext [iblk, V, e0]
theorem b4 (r : Fin 256) (d : Fin 1024) : iblk m c 4 t (ix2 r d) = argR m c (ix2 (tok t r) d) := by
  obtain ⟨e0, e1, e2, e3, e4, e5, e6, e7, e8, e9, e10, e11, e12, e13⟩ := idx t
  unfold tok; blk_ext [iblk, V, e4]
theorem b5 (r : Fin 256) (d : Fin 768) : iblk m c 5 t (ix2 r d) = argA m c (ix2 (tok t r) d) := by
  obtain ⟨e0, e1, e2, e3, e4, e5, e6, e7, e8, e9, e10, e11, e12, e13⟩ := idx t
  unfold tok; blk_ext [iblk, V, e5]
theorem b8 (r : Fin 256) (d : Fin 256) : iblk m c 8 t (ix2 r d) = argU m c (ix2 (tok t r) d) := by
  obtain ⟨e0, e1, e2, e3, e4, e5, e6, e7, e8, e9, e10, e11, e12, e13⟩ := idx t
  unfold tok; blk_ext [iblk, V, e8]
theorem b9 (r : Fin 256) (d : Fin 1536) : iblk m c 9 t (ix2 r d) = argQ m c (ix2 (tok t r) d) := by
  obtain ⟨e0, e1, e2, e3, e4, e5, e6, e7, e8, e9, e10, e11, e12, e13⟩ := idx t
  unfold tok; blk_ext [iblk, V, e9]
theorem b10 (r : Fin 256) (d : Fin 512) : iblk m c 10 t (ix2 r d) = argZ m c (ix2 (tok t r) d) := by
  obtain ⟨e0, e1, e2, e3, e4, e5, e6, e7, e8, e9, e10, e11, e12, e13⟩ := idx t
  unfold tok; blk_ext [iblk, V, e10]
theorem b11 (r : Fin 256) (d : Fin 128) : iblk m c 11 t (ix2 r d) = argB m c (ix2 (tok t r) d) := by
  obtain ⟨e0, e1, e2, e3, e4, e5, e6, e7, e8, e9, e10, e11, e12, e13⟩ := idx t
  unfold tok; blk_ext [iblk, V, e11]
theorem b1 (d : Fin 1024) : iblk m c 1 t (ix2 0 d) = argN m c (ix2 0 d) := by
  obtain ⟨e0, e1, e2, e3, e4, e5, e6, e7, e8, e9, e10, e11, e12, e13⟩ := idx t
  blk_ext [iblk, V, e1]
theorem b2 (r : Fin 256) : iblk m c 2 t (ix2 r 0) = argP m c (ix2 (tok t r) 0) := by
  obtain ⟨e0, e1, e2, e3, e4, e5, e6, e7, e8, e9, e10, e11, e12, e13⟩ := idx t
  unfold tok; blk_ext [iblk, V, e2]
theorem b3 (l : Fin 256) : iblk m c 3 t (ix2 0 l) = V m c main_v3 (ix2 0 l) := by
  obtain ⟨e0, e1, e2, e3, e4, e5, e6, e7, e8, e9, e10, e11, e12, e13⟩ := idx t
  blk_ext [iblk, e3]
theorem freq (l : Fin 256) : V m c main_v3 (ix2 0 l) = argF m c (ix1 (⟨l.val % 32, by omega⟩ : Fin 32)) := by
  entry_read
  pointwise

theorem blks {q0 q1 q2 q3 q4 q5 s0 s1 s2 s3 s4 s5 : Vec Ideal S1x256x128 .f32}
    (hq0 : ∀ (r : Fin 256) (l : Fin 128), (show EReal from q0 (ix3 0 r l)) = at4 (argD m c) (tok t r) (⟨l.val, by omega⟩ : Fin 768))
    (hq1 : ∀ (r : Fin 256) (l : Fin 128), (show EReal from q1 (ix3 0 r l)) = at4 (argD m c) (tok t r) (⟨128 + l.val, by omega⟩ : Fin 768))
    (hq2 : ∀ (r : Fin 256) (l : Fin 128), (show EReal from q2 (ix3 0 r l)) = at4 (argD m c) (tok t r) (⟨256 + l.val, by omega⟩ : Fin 768))
    (hq3 : ∀ (r : Fin 256) (l : Fin 128), (show EReal from q3 (ix3 0 r l)) = at4 (argD m c) (tok t r) (⟨384 + l.val, by omega⟩ : Fin 768))
    (hq4 : ∀ (r : Fin 256) (l : Fin 128), (show EReal from q4 (ix3 0 r l)) = at4 (argD m c) (tok t r) (⟨512 + l.val, by omega⟩ : Fin 768))
    (hq5 : ∀ (r : Fin 256) (l : Fin 128), (show EReal from q5 (ix3 0 r l)) = at4 (argD m c) (tok t r) (⟨640 + l.val, by omega⟩ : Fin 768))
    (hs0 : ∀ (r : Fin 256) (l : Fin 128), (show EReal from s0 (ix3 0 r l)) = at16 (argS m c) (tok t r) (⟨l.val, by omega⟩ : Fin 768))
    (hs1 : ∀ (r : Fin 256) (l : Fin 128), (show EReal from s1 (ix3 0 r l)) = at16 (argS m c) (tok t r) (⟨128 + l.val, by omega⟩ : Fin 768))
    (hs2 : ∀ (r : Fin 256) (l : Fin 128), (show EReal from s2 (ix3 0 r l)) = at16 (argS m c) (tok t r) (⟨256 + l.val, by omega⟩ : Fin 768))
    (hs3 : ∀ (r : Fin 256) (l : Fin 128), (show EReal from s3 (ix3 0 r l)) = at16 (argS m c) (tok t r) (⟨384 + l.val, by omega⟩ : Fin 768))
    (hs4 : ∀ (r : Fin 256) (l : Fin 128), (show EReal from s4 (ix3 0 r l)) = at16 (argS m c) (tok t r) (⟨512 + l.val, by omega⟩ : Fin 768))
    (hs5 : ∀ (r : Fin 256) (l : Fin 128), (show EReal from s5 (ix3 0 r l)) = at16 (argS m c) (tok t r) (⟨640 + l.val, by omega⟩ : Fin 768))
    : Blks (argX m c) (argN m c) (argP m c) (argF m c) (argR m c) (argA m c) (argD m c) (argS m c) (argU m c) (argQ m c) (argZ m c) (argB m c) (tok t)
      (iblk m c 0 t) (iblk m c 1 t) (iblk m c 2 t) (iblk m c 3 t) (iblk m c 4 t) (iblk m c 5 t) q0 q1 q2 q3 q4 q5 s0 s1 s2 s3 s4 s5
      (iblk m c 8 t) (iblk m c 9 t) (iblk m c 10 t) (iblk m c 11 t) := by
  exact ⟨b0 m c t, b1 m c t, b2 m c t, fun l => (b3 m c t l).trans (freq m c l), b4 m c t, b5 m c t, hq0, hq1, hq2, hq3, hq4, hq5, hs0, hs1, hs2, hs3, hs4, hs5,
    b8 m c t, b9 m c t, b10 m c t, b11 m c t⟩

end

end Cert.InBIdeal.Val

end
-- ==== Proof.InB.Held.lean ====
module

public import proofs.«01_k».proof.Proof.InB.Blocks
public import Idealize.ShloMosaic.Lib.VecWindow
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)
open scoped BigOperators

/-! The weight that the first point of the backward input projection copies into scratch stays there through all points. -/

namespace Cert.InBIdeal.Val

open Cert.InBIdeal Cert.InBIdeal.Gen

variable (m : (ℓ : Loc nD τ sig) → Buf (Elt Ideal) ℓ)

section
variable (c : Dev nD) (t : Fin cfg0.N)

/-- A whole array written into scratch comes back as it was. -/
theorem whole_back (Q : Vec Ideal S1024x3200 .bf16) (d : Fin 1024) (l : Fin 3200) :
    (View.readCov (View.whole cc0_scratch0) [⟨Rect.whole S1024x3200, Q⟩] (Rect.unit (s := S1024x3200) ![0, 0] S1024x3200.size inb_S1024x3200_S1024x3200_0_0).toLoadRect : Vec Ideal S1024x3200 .bf16) (ix2 d l)
      = Q (ix2 d l) :=
  congrFun (View.readCov_full (View.whole cc0_scratch0) inb_S1024x3200_S1024x3200_0_0 (off' := fun _ => 0) (fun _ => (Nat.zero_add _).le) Q []) (ix2 d l)

theorem copied (d : Fin 1024) (l : Fin 3200) :
    (ReadAs.same.apply (View.read (Elt Ideal) (View.whole main_arg2) (V m c main_arg2)) : Vec Ideal S1024x3200 .bf16) (ix2 d l) = argW m c (ix2 d l) :=
  congrFun (V_main_arg2 m c) (ix2 d l)

/-- What the last point copies out is what it wrote last into the sum. -/
theorem copy_out (f : main_v4_2.ty.Contents (Elt Ideal)) (g : cc0_scratch1.ty.Contents (Elt Ideal)) (w : Vec Ideal S1024x3200 .f32) (L : List (View.Piece (Elt Ideal) S1024x3200 .f32)) (d : Fin 1024) (l : Fin 3200) :
    (View.write (Elt Ideal) (View.whole main_v4_2) f (ReadAs.same.apply (View.read (Elt Ideal) (View.whole cc0_scratch1)
      ((View.whole cc0_scratch1).writes (Elt Ideal) g (⟨Rect.unit (s := S1024x3200) ![0, 0] S1024x3200.size inb_S1024x3200_S1024x3200_0_0, w⟩ :: L)))) Finset.univ : Vec Ideal S1024x3200 .f32) (ix2 d l)
      = w (ix2 d l) :=
  (congrFun (View.write_whole_univ main_v4_2 f _) (ix2 d l)).trans
    (congrFun (View.read_writes_full (View.whole cc0_scratch1) g inb_S1024x3200_S1024x3200_0_0 w L) (ix2 d l))

theorem keepA (h0 : t.val % 16 = 0) (h1 : ¬ t.val % 16 = 15) (y : S1024x3200.Idx) : (outsAt0 m c t.val t.isLt).2.2.1 y = argW m c y := by
  rw [outsAt0_A m c t h0 h1]
  frame_out
  exact (congrFun (View.canon_unit_zero (off := fun _ => 0) rfl (fun _ => (Nat.zero_add _).le) _) y).trans (congrFun (V_main_arg2 m c) y)

theorem keepB (h0 : ¬ t.val % 16 = 0) (h1 : ¬ t.val % 16 = 15) (y : S1024x3200.Idx) : (outsAt0 m c t.val t.isLt).2.2.1 y = (outsAt0 m c (t.val - 1) (Nat.lt_of_le_of_lt (Nat.sub_le _ _) t.isLt)).2.2.1 y := by
  rw [outsAt0_B m c t h0 h1]
  frame_out
  rfl

theorem keepC (h0 : ¬ t.val % 16 = 0) (h1 : t.val % 16 = 15) (y : S1024x3200.Idx) : (outsAt0 m c t.val t.isLt).2.2.1 y = (outsAt0 m c (t.val - 1) (Nat.lt_of_le_of_lt (Nat.sub_le _ _) t.isLt)).2.2.1 y := by
  rw [outsAt0_C m c t h0 h1]
  frame_out
  rfl

/-- Every point leaves the weight in scratch. -/
theorem held : (outsAt0 m c t.val t.isLt).2.2.1 = argW m c :=
  Pipeline.eq_of_write_hold (fun n h => (outsAt0 m c n h).2.2.1) 16 (fun _ => argW m c)
    (fun t h => funext fun y => keepA m c t h (by omega) y)
    (fun t h => funext fun y => by
      by_cases h1 : t.val % 16 = 15
      · exact keepC m c t h h1 y
      · exact keepB m c t h h1 y) t

/-- The weight a point finds there. -/
theorem found (d : Fin 1024) (l : Fin 3200) : (outsAt0 m c (t.val - 1) (Nat.lt_of_le_of_lt (Nat.sub_le _ _) t.isLt)).2.2.1 (ix2 d l) = argW m c (ix2 d l) :=
  congrFun (held m c ⟨t.val - 1, Nat.lt_of_le_of_lt (Nat.sub_le _ _) t.isLt⟩) (ix2 d l)

/-- What one point adds to the two gradients of weights. -/
def termN (y : S1x1024.Idx) : EReal := ∑ r : Fin 256, InRows.dh (argW m c) (argP m c) (argF m c) (argA m c) (argD m c) (argS m c) (argU m c) (argQ m c) (argZ m c) (argB m c) (tok t r) (y 1)
  * ((show EReal from argX m c (ix2 (tok t r) (y 1))) * OutRows.inv (argX m c) (tok t r))
def termW (y : S1024x3200.Idx) : EReal := ∑ r : Fin 256, (show EReal from argX m c (ix2 (tok t r) (y 0))) * OutRows.inv (argX m c) (tok t r) * (show EReal from argN m c (ix2 0 (y 0)))
  * InRows.dp (argP m c) (argF m c) (argA m c) (argD m c) (argS m c) (argU m c) (argQ m c) (argZ m c) (argB m c) (tok t r) (y 1)

end

end Cert.InBIdeal.Val

end
-- ==== Proof.InB.PointX.lean ====
module

public import proofs.«01_k».proof.Proof.InB.Held

@[expose] public section

set_option maxRecDepth 16384

noncomputable section

open Idealize.ShloMosaic Idealize.ShloMosaic.TcCoe Idealize.SL.Sem
open Idealize.ShloMosaic.Pipeline (Dat)
open scoped BigOperators

/-! A point of the backward input projection leaves its rows of the activations' gradient. -/

namespace Cert.InBIdeal.Val

open Cert.InBIdeal Cert.InBIdeal.Gen

variable (m : (ℓ : Loc nD τ sig) → Buf (Elt Ideal) ℓ)
set_option maxHeartbeats 0
set_option maxRecDepth 100000

section
variable (c : Dev nD) (t : Fin cfg0.N)

theorem dxA (h0 : t.val % 16 = 0) (h1 : ¬ t.val % 16 = 15) (r : Fin 256) (d : Fin 1024) :
    (outsAt0 m c t.val t.isLt).1 (ix2 r d) = InRows.dx (argX m c) (argN m c) (argW m c) (argP m c) (argF m c) (argR m c) (argA m c) (argD m c) (argS m c) (argU m c) (argQ m c) (argZ m c) (argB m c) (tok t r) d := by
  rw [outsAt0_A m c t h0 h1]
  frame_out
  refine dx_at (blks m c t ?_ ?_ ?_ ?_ ?_ ?_ ?_ ?_ ?_ ?_ ?_ ?_) (w := argW m c) ?hw r d
  case hw => exact fun d l => (whole_back _ d l).trans (copied m c d l)
  · exact fun r l => part4 m c t _ [] 0 r l _ ((Nat.zero_add _).symm)
  · exact fun r l => part4 m c t _ [] 1 r l _ (rfl)
  · exact fun r l => part4 m c t _ [] 2 r l _ (rfl)
  · exact fun r l => part4 m c t _ [] 3 r l _ (rfl)
  · exact fun r l => part4 m c t _ [] 4 r l _ (rfl)
  · exact fun r l => part4 m c t _ [] 5 r l _ (rfl)
  · exact fun r l => part16 m c t _ (rows4 (ms0_6 t).view ((hs0_6 t).unread (iblk m c 6 t))) 0 r l _ ((Nat.zero_add _).symm)
  · exact fun r l => part16 m c t _ (rows4 (ms0_6 t).view ((hs0_6 t).unread (iblk m c 6 t))) 1 r l _ (rfl)
  · exact fun r l => part16 m c t _ (rows4 (ms0_6 t).view ((hs0_6 t).unread (iblk m c 6 t))) 2 r l _ (rfl)
  · exact fun r l => part16 m c t _ (rows4 (ms0_6 t).view ((hs0_6 t).unread (iblk m c 6 t))) 3 r l _ (rfl)
  · exact fun r l => part16 m c t _ (rows4 (ms0_6 t).view ((hs0_6 t).unread (iblk m c 6 t))) 4 r l _ (rfl)
  · exact fun r l => part16 m c t _ (rows4 (ms0_6 t).view ((hs0_6 t).unread (iblk m c 6 t))) 5 r l _ (rfl)

theorem dxB (h0 : ¬ t.val % 16 = 0) (h1 : ¬ t.val % 16 = 15) (r : Fin 256) (d : Fin 1024) :
    (outsAt0 m c t.val t.isLt).1 (ix2 r d) = InRows.dx (argX m c) (argN m c) (argW m c) (argP m c) (argF m c) (argR m c) (argA m c) (argD m c) (argS m c) (argU m c) (argQ m c) (argZ m c) (argB m c) (tok t r) d := by
  rw [outsAt0_B m c t h0 h1]
  frame_out
  refine dx_at (blks m c t ?_ ?_ ?_ ?_ ?_ ?_ ?_ ?_ ?_ ?_ ?_ ?_) (w := argW m c) ?hw r d
  case hw => intro d l; simp only [read_unread_whole]; exact found m c t d l
  · exact fun r l => part4 m c t _ [] 0 r l _ ((Nat.zero_add _).symm)
  · exact fun r l => part4 m c t _ [] 1 r l _ (rfl)
  · exact fun r l => part4 m c t _ [] 2 r l _ (rfl)
  · exact fun r l => part4 m c t _ [] 3 r l _ (rfl)
  · exact fun r l => part4 m c t _ [] 4 r l _ (rfl)
  · exact fun r l => part4 m c t _ [] 5 r l _ (rfl)
  · exact fun r l => part16 m c t _ (rows4 (ms0_6 t).view ((hs0_6 t).unread (iblk m c 6 t))) 0 r l _ ((Nat.zero_add _).symm)
  · exact fun r l => part16 m c t _ (rows4 (ms0_6 t).view ((hs0_6 t).unread (iblk m c 6 t))) 1 r l _ (rfl)
  · exact fun r l => part16 m c t _ (rows4 (ms0_6 t).view ((hs0_6 t).unread (iblk m c 6 t))) 2 r l _ (rfl)
  · exact fun r l => part16 m c t _ (rows4 (ms0_6 t).view ((hs0_6 t).unread (iblk m c 6 t))) 3 r l _ (rfl)
  · exact fun r l => part16 m c t _ (rows4 (ms0_6 t).view ((hs0_6 t).unread (iblk m c 6 t))) 4 r l _ (rfl)
  · exact fun r l => part16 m c t _ (rows4 (ms0_6 t).view ((hs0_6 t).unread (iblk m c 6 t))) 5 r l _ (rfl)

theorem dxC (h0 : ¬ t.val % 16 = 0) (h1 : t.val % 16 = 15) (r : Fin 256) (d : Fin 1024) :
    (outsAt0 m c t.val t.isLt).1 (ix2 r d) = InRows.dx (argX m c) (argN m c) (argW m c) (argP m c) (argF m c) (argR m c) (argA m c) (argD m c) (argS m c) (argU m c) (argQ m c) (argZ m c) (argB m c) (tok t r) d := by
  rw [outsAt0_C m c t h0 h1]
  frame_out
  refine dx_at (blks m c t ?_ ?_ ?_ ?_ ?_ ?_ ?_ ?_ ?_ ?_ ?_ ?_) (w := argW m c) ?hw r d
  case hw => intro d l; simp only [read_unread_whole]; exact found m c t d l
  · exact fun r l => part4 m c t _ [] 0 r l _ ((Nat.zero_add _).symm)
  · exact fun r l => part4 m c t _ [] 1 r l _ (rfl)
  · exact fun r l => part4 m c t _ [] 2 r l _ (rfl)
  · exact fun r l => part4 m c t _ [] 3 r l _ (rfl)
  · exact fun r l => part4 m c t _ [] 4 r l _ (rfl)
  · exact fun r l => part4 m c t _ [] 5 r l _ (rfl)
  · exact fun r l => part16 m c t _ (rows4 (ms0_6 t).view ((hs0_6 t).unread (iblk m c 6 t))) 0 r l _ ((Nat.zero_add _).symm)
  · exact fun r l => part16 m c t _ (rows4 (ms0_6 t).view ((hs0_6 t).unread (iblk m c 6 t))) 1 r l _ (rfl)
  · exact fun r l => part16 m c t _ (rows4 (ms0_6 t).view ((hs0_6 t).unread (iblk m c 6 t))) 2 r l _ (rfl)
  · exact fun r l => part16 m c t _ (rows4 (ms0_6 t).view ((hs0_6 t).unread (iblk m c 6 t))) 3 r l _ (rfl)
  · exact fun r l => part16 m c t _ (rows4 (ms0_6 t).view ((hs0_6 t).unread (iblk m c 6 t))) 4 r l _ (rfl)
  · exact fun r l => part16 m c t _ (rows4 (ms0_6 t).view ((hs0_6 t).unread (iblk m c 6 t))) 5 r l _ (rfl)

end

end Cert.InBIdeal.Val

end
-- ==== Proof.InB.PointN.lean ====
module

public import proofs.«01_k».proof.Proof.InB.Held

@[expose] public section

set_option maxRecDepth 16384

noncomputable section

open Idealize.ShloMosaic Idealize.ShloMosaic.TcCoe Idealize.SL.Sem
open Idealize.ShloMosaic.Pipeline (Dat)
open scoped BigOperators

/-! What a point of the backward input projection adds to the norm weight's gradient. -/

namespace Cert.InBIdeal.Val

open Cert.InBIdeal Cert.InBIdeal.Gen

variable (m : (ℓ : Loc nD τ sig) → Buf (Elt Ideal) ℓ)
set_option maxHeartbeats 0
set_option maxRecDepth 100000

section
variable (c : Dev nD) (t : Fin cfg0.N)

theorem resetN (h0 : t.val % 16 = 0) (h1 : ¬ t.val % 16 = 15) (y : S1x1024.Idx) :
    (outsAt0 m c t.val t.isLt).2.1 y = (0 : EReal) + termN m c t y := by
  rw [outsAt0_A m c t h0 h1]
  frame_out
  idx_vars y
  obtain rfl : y0 = 0 := Subsingleton.elim _ _
  refine (dnw_at (blks m c t ?_ ?_ ?_ ?_ ?_ ?_ ?_ ?_ ?_ ?_ ?_ ?_) (w := argW m c) ?hw _ y1).trans ?last
  case hw => exact fun d l => (whole_back _ d l).trans (copied m c d l)
  · exact fun r l => part4 m c t _ [] 0 r l _ ((Nat.zero_add _).symm)
  · exact fun r l => part4 m c t _ [] 1 r l _ (rfl)
  · exact fun r l => part4 m c t _ [] 2 r l _ (rfl)
  · exact fun r l => part4 m c t _ [] 3 r l _ (rfl)
  · exact fun r l => part4 m c t _ [] 4 r l _ (rfl)
  · exact fun r l => part4 m c t _ [] 5 r l _ (rfl)
  · exact fun r l => part16 m c t _ (rows4 (ms0_6 t).view ((hs0_6 t).unread (iblk m c 6 t))) 0 r l _ ((Nat.zero_add _).symm)
  · exact fun r l => part16 m c t _ (rows4 (ms0_6 t).view ((hs0_6 t).unread (iblk m c 6 t))) 1 r l _ (rfl)
  · exact fun r l => part16 m c t _ (rows4 (ms0_6 t).view ((hs0_6 t).unread (iblk m c 6 t))) 2 r l _ (rfl)
  · exact fun r l => part16 m c t _ (rows4 (ms0_6 t).view ((hs0_6 t).unread (iblk m c 6 t))) 3 r l _ (rfl)
  · exact fun r l => part16 m c t _ (rows4 (ms0_6 t).view ((hs0_6 t).unread (iblk m c 6 t))) 4 r l _ (rfl)
  · exact fun r l => part16 m c t _ (rows4 (ms0_6 t).view ((hs0_6 t).unread (iblk m c 6 t))) 5 r l _ (rfl)
  · exact congrArg (· + _) (zero_n y1)

theorem stepNB (h0 : ¬ t.val % 16 = 0) (h1 : ¬ t.val % 16 = 15) (y : S1x1024.Idx) :
    (outsAt0 m c t.val t.isLt).2.1 y = ((show EReal from (outsAt0 m c (t.val - 1) (Nat.lt_of_le_of_lt (Nat.sub_le _ _) t.isLt)).2.1 y) : EReal) + termN m c t y := by
  rw [outsAt0_B m c t h0 h1]
  frame_out
  idx_vars y
  obtain rfl : y0 = 0 := Subsingleton.elim _ _
  refine (dnw_at (blks m c t ?_ ?_ ?_ ?_ ?_ ?_ ?_ ?_ ?_ ?_ ?_ ?_) (w := argW m c) ?hw _ y1).trans ?last
  case hw => intro d l; simp only [read_unread_whole]; exact found m c t d l
  · exact fun r l => part4 m c t _ [] 0 r l _ ((Nat.zero_add _).symm)
  · exact fun r l => part4 m c t _ [] 1 r l _ (rfl)
  · exact fun r l => part4 m c t _ [] 2 r l _ (rfl)
  · exact fun r l => part4 m c t _ [] 3 r l _ (rfl)
  · exact fun r l => part4 m c t _ [] 4 r l _ (rfl)
  · exact fun r l => part4 m c t _ [] 5 r l _ (rfl)
  · exact fun r l => part16 m c t _ (rows4 (ms0_6 t).view ((hs0_6 t).unread (iblk m c 6 t))) 0 r l _ ((Nat.zero_add _).symm)
  · exact fun r l => part16 m c t _ (rows4 (ms0_6 t).view ((hs0_6 t).unread (iblk m c 6 t))) 1 r l _ (rfl)
  · exact fun r l => part16 m c t _ (rows4 (ms0_6 t).view ((hs0_6 t).unread (iblk m c 6 t))) 2 r l _ (rfl)
  · exact fun r l => part16 m c t _ (rows4 (ms0_6 t).view ((hs0_6 t).unread (iblk m c 6 t))) 3 r l _ (rfl)
  · exact fun r l => part16 m c t _ (rows4 (ms0_6 t).view ((hs0_6 t).unread (iblk m c 6 t))) 4 r l _ (rfl)
  · exact fun r l => part16 m c t _ (rows4 (ms0_6 t).view ((hs0_6 t).unread (iblk m c 6 t))) 5 r l _ (rfl)
  · rfl

theorem stepNC (h0 : ¬ t.val % 16 = 0) (h1 : t.val % 16 = 15) (y : S1x1024.Idx) :
    (outsAt0 m c t.val t.isLt).2.1 y = ((show EReal from (outsAt0 m c (t.val - 1) (Nat.lt_of_le_of_lt (Nat.sub_le _ _) t.isLt)).2.1 y) : EReal) + termN m c t y := by
  rw [outsAt0_C m c t h0 h1]
  frame_out
  idx_vars y
  obtain rfl : y0 = 0 := Subsingleton.elim _ _
  refine (dnw_at (blks m c t ?_ ?_ ?_ ?_ ?_ ?_ ?_ ?_ ?_ ?_ ?_ ?_) (w := argW m c) ?hw _ y1).trans ?last
  case hw => intro d l; simp only [read_unread_whole]; exact found m c t d l
  · exact fun r l => part4 m c t _ [] 0 r l _ ((Nat.zero_add _).symm)
  · exact fun r l => part4 m c t _ [] 1 r l _ (rfl)
  · exact fun r l => part4 m c t _ [] 2 r l _ (rfl)
  · exact fun r l => part4 m c t _ [] 3 r l _ (rfl)
  · exact fun r l => part4 m c t _ [] 4 r l _ (rfl)
  · exact fun r l => part4 m c t _ [] 5 r l _ (rfl)
  · exact fun r l => part16 m c t _ (rows4 (ms0_6 t).view ((hs0_6 t).unread (iblk m c 6 t))) 0 r l _ ((Nat.zero_add _).symm)
  · exact fun r l => part16 m c t _ (rows4 (ms0_6 t).view ((hs0_6 t).unread (iblk m c 6 t))) 1 r l _ (rfl)
  · exact fun r l => part16 m c t _ (rows4 (ms0_6 t).view ((hs0_6 t).unread (iblk m c 6 t))) 2 r l _ (rfl)
  · exact fun r l => part16 m c t _ (rows4 (ms0_6 t).view ((hs0_6 t).unread (iblk m c 6 t))) 3 r l _ (rfl)
  · exact fun r l => part16 m c t _ (rows4 (ms0_6 t).view ((hs0_6 t).unread (iblk m c 6 t))) 4 r l _ (rfl)
  · exact fun r l => part16 m c t _ (rows4 (ms0_6 t).view ((hs0_6 t).unread (iblk m c 6 t))) 5 r l _ (rfl)
  · rfl

end

end Cert.InBIdeal.Val

end
-- ==== Proof.InB.PointW.lean ====
module

public import proofs.«01_k».proof.Proof.InB.Held

@[expose] public section

set_option maxRecDepth 16384

noncomputable section

open Idealize.ShloMosaic Idealize.ShloMosaic.TcCoe Idealize.SL.Sem
open Idealize.ShloMosaic.Pipeline (Dat)
open scoped BigOperators

/-! What a point of the backward input projection adds to the projection weight's gradient. -/

namespace Cert.InBIdeal.Val

open Cert.InBIdeal Cert.InBIdeal.Gen

variable (m : (ℓ : Loc nD τ sig) → Buf (Elt Ideal) ℓ)
set_option maxHeartbeats 0
set_option maxRecDepth 100000

section
variable (c : Dev nD) (t : Fin cfg0.N)

theorem resetW (h0 : t.val % 16 = 0) (h1 : ¬ t.val % 16 = 15) (y : S1024x3200.Idx) :
    (outsAt0 m c t.val t.isLt).2.2.2.1 y = (0 : EReal) + termW m c t y := by
  rw [outsAt0_A m c t h0 h1]
  frame_out
  idx_vars y
  refine (dw_at (blks m c t ?_ ?_ ?_ ?_ ?_ ?_ ?_ ?_ ?_ ?_ ?_ ?_) _ y0 y1).trans ?last
  · exact fun r l => part4 m c t _ [] 0 r l _ ((Nat.zero_add _).symm)
  · exact fun r l => part4 m c t _ [] 1 r l _ (rfl)
  · exact fun r l => part4 m c t _ [] 2 r l _ (rfl)
  · exact fun r l => part4 m c t _ [] 3 r l _ (rfl)
  · exact fun r l => part4 m c t _ [] 4 r l _ (rfl)
  · exact fun r l => part4 m c t _ [] 5 r l _ (rfl)
  · exact fun r l => part16 m c t _ (rows4 (ms0_6 t).view ((hs0_6 t).unread (iblk m c 6 t))) 0 r l _ ((Nat.zero_add _).symm)
  · exact fun r l => part16 m c t _ (rows4 (ms0_6 t).view ((hs0_6 t).unread (iblk m c 6 t))) 1 r l _ (rfl)
  · exact fun r l => part16 m c t _ (rows4 (ms0_6 t).view ((hs0_6 t).unread (iblk m c 6 t))) 2 r l _ (rfl)
  · exact fun r l => part16 m c t _ (rows4 (ms0_6 t).view ((hs0_6 t).unread (iblk m c 6 t))) 3 r l _ (rfl)
  · exact fun r l => part16 m c t _ (rows4 (ms0_6 t).view ((hs0_6 t).unread (iblk m c 6 t))) 4 r l _ (rfl)
  · exact fun r l => part16 m c t _ (rows4 (ms0_6 t).view ((hs0_6 t).unread (iblk m c 6 t))) 5 r l _ (rfl)
  · exact congrArg (· + _) (zero_w y0 y1)

theorem stepWB (h0 : ¬ t.val % 16 = 0) (h1 : ¬ t.val % 16 = 15) (y : S1024x3200.Idx) :
    (outsAt0 m c t.val t.isLt).2.2.2.1 y = ((show EReal from (outsAt0 m c (t.val - 1) (Nat.lt_of_le_of_lt (Nat.sub_le _ _) t.isLt)).2.2.2.1 y) : EReal) + termW m c t y := by
  rw [outsAt0_B m c t h0 h1]
  frame_out
  idx_vars y
  refine (dw_at (blks m c t ?_ ?_ ?_ ?_ ?_ ?_ ?_ ?_ ?_ ?_ ?_ ?_) _ y0 y1).trans ?last
  · exact fun r l => part4 m c t _ [] 0 r l _ ((Nat.zero_add _).symm)
  · exact fun r l => part4 m c t _ [] 1 r l _ (rfl)
  · exact fun r l => part4 m c t _ [] 2 r l _ (rfl)
  · exact fun r l => part4 m c t _ [] 3 r l _ (rfl)
  · exact fun r l => part4 m c t _ [] 4 r l _ (rfl)
  · exact fun r l => part4 m c t _ [] 5 r l _ (rfl)
  · exact fun r l => part16 m c t _ (rows4 (ms0_6 t).view ((hs0_6 t).unread (iblk m c 6 t))) 0 r l _ ((Nat.zero_add _).symm)
  · exact fun r l => part16 m c t _ (rows4 (ms0_6 t).view ((hs0_6 t).unread (iblk m c 6 t))) 1 r l _ (rfl)
  · exact fun r l => part16 m c t _ (rows4 (ms0_6 t).view ((hs0_6 t).unread (iblk m c 6 t))) 2 r l _ (rfl)
  · exact fun r l => part16 m c t _ (rows4 (ms0_6 t).view ((hs0_6 t).unread (iblk m c 6 t))) 3 r l _ (rfl)
  · exact fun r l => part16 m c t _ (rows4 (ms0_6 t).view ((hs0_6 t).unread (iblk m c 6 t))) 4 r l _ (rfl)
  · exact fun r l => part16 m c t _ (rows4 (ms0_6 t).view ((hs0_6 t).unread (iblk m c 6 t))) 5 r l _ (rfl)
  · simp only [read_unread_whole]; rfl

theorem stepWC (h0 : ¬ t.val % 16 = 0) (h1 : t.val % 16 = 15) (y : S1024x3200.Idx) :
    (outsAt0 m c t.val t.isLt).2.2.2.1 y = ((show EReal from (outsAt0 m c (t.val - 1) (Nat.lt_of_le_of_lt (Nat.sub_le _ _) t.isLt)).2.2.2.1 y) : EReal) + termW m c t y := by
  rw [outsAt0_C m c t h0 h1]
  frame_out
  idx_vars y
  refine (dw_at (blks m c t ?_ ?_ ?_ ?_ ?_ ?_ ?_ ?_ ?_ ?_ ?_ ?_) _ y0 y1).trans ?last
  · exact fun r l => part4 m c t _ [] 0 r l _ ((Nat.zero_add _).symm)
  · exact fun r l => part4 m c t _ [] 1 r l _ (rfl)
  · exact fun r l => part4 m c t _ [] 2 r l _ (rfl)
  · exact fun r l => part4 m c t _ [] 3 r l _ (rfl)
  · exact fun r l => part4 m c t _ [] 4 r l _ (rfl)
  · exact fun r l => part4 m c t _ [] 5 r l _ (rfl)
  · exact fun r l => part16 m c t _ (rows4 (ms0_6 t).view ((hs0_6 t).unread (iblk m c 6 t))) 0 r l _ ((Nat.zero_add _).symm)
  · exact fun r l => part16 m c t _ (rows4 (ms0_6 t).view ((hs0_6 t).unread (iblk m c 6 t))) 1 r l _ (rfl)
  · exact fun r l => part16 m c t _ (rows4 (ms0_6 t).view ((hs0_6 t).unread (iblk m c 6 t))) 2 r l _ (rfl)
  · exact fun r l => part16 m c t _ (rows4 (ms0_6 t).view ((hs0_6 t).unread (iblk m c 6 t))) 3 r l _ (rfl)
  · exact fun r l => part16 m c t _ (rows4 (ms0_6 t).view ((hs0_6 t).unread (iblk m c 6 t))) 4 r l _ (rfl)
  · exact fun r l => part16 m c t _ (rows4 (ms0_6 t).view ((hs0_6 t).unread (iblk m c 6 t))) 5 r l _ (rfl)
  · simp only [read_unread_whole]; rfl

theorem lastW (h0 : ¬ t.val % 16 = 0) (h1 : t.val % 16 = 15) (y : S1024x3200.Idx) :
    (outsAt0 m c t.val t.isLt).2.2.2.2 y = ((show EReal from (outsAt0 m c (t.val - 1) (Nat.lt_of_le_of_lt (Nat.sub_le _ _) t.isLt)).2.2.2.1 y) : EReal) + termW m c t y := by
  rw [outsAt0_C m c t h0 h1]
  frame_out
  unfold hbw0_C_1
  frame_out
  idx_vars y
  refine (copy_out _ _ _ [] y0 y1).trans ((dw_at (blks m c t ?_ ?_ ?_ ?_ ?_ ?_ ?_ ?_ ?_ ?_ ?_ ?_) _ y0 y1).trans ?last)
  · exact fun r l => part4 m c t _ [] 0 r l _ ((Nat.zero_add _).symm)
  · exact fun r l => part4 m c t _ [] 1 r l _ (rfl)
  · exact fun r l => part4 m c t _ [] 2 r l _ (rfl)
  · exact fun r l => part4 m c t _ [] 3 r l _ (rfl)
  · exact fun r l => part4 m c t _ [] 4 r l _ (rfl)
  · exact fun r l => part4 m c t _ [] 5 r l _ (rfl)
  · exact fun r l => part16 m c t _ (rows4 (ms0_6 t).view ((hs0_6 t).unread (iblk m c 6 t))) 0 r l _ ((Nat.zero_add _).symm)
  · exact fun r l => part16 m c t _ (rows4 (ms0_6 t).view ((hs0_6 t).unread (iblk m c 6 t))) 1 r l _ (rfl)
  · exact fun r l => part16 m c t _ (rows4 (ms0_6 t).view ((hs0_6 t).unread (iblk m c 6 t))) 2 r l _ (rfl)
  · exact fun r l => part16 m c t _ (rows4 (ms0_6 t).view ((hs0_6 t).unread (iblk m c 6 t))) 3 r l _ (rfl)
  · exact fun r l => part16 m c t _ (rows4 (ms0_6 t).view ((hs0_6 t).unread (iblk m c 6 t))) 4 r l _ (rfl)
  · exact fun r l => part16 m c t _ (rows4 (ms0_6 t).view ((hs0_6 t).unread (iblk m c 6 t))) 5 r l _ (rfl)
  · simp only [read_unread_whole]; rfl

end

end Cert.InBIdeal.Val

end
-- ==== Proof.InB.Final.lean ====
module

public import proofs.«01_k».proof.Proof.InB.PointX
public import proofs.«01_k».proof.Proof.InB.PointN
public import proofs.«01_k».proof.Proof.InB.PointW

@[expose] public section

set_option maxRecDepth 16384

noncomputable section

open Idealize.ShloMosaic Idealize.ShloMosaic.TcCoe Idealize.SL.Sem
open Idealize.ShloMosaic.Pipeline (Dat)
open scoped BigOperators

/-! The three gradients that the backward input projection leaves. -/

namespace Cert.InBIdeal.Val

open Cert.InBIdeal Cert.InBIdeal.Gen

variable (m : (ℓ : Loc nD τ sig) → Buf (Elt Ideal) ℓ)

section
variable (c : Dev nD) (t : Fin cfg0.N)

theorem after_12 (r : Fin 256) (d : Fin 1024) : (dats m 0 c).after 12 t (ix2 r d) = InRows.dx (argX m c) (argN m c) (argW m c) (argP m c) (argF m c) (argR m c) (argA m c) (argD m c) (argS m c) (argU m c) (argQ m c) (argZ m c) (argB m c) (tok t r) d := by
  rw [after0_12]
  by_cases h0 : t.val % 16 = 0
  · exact dxA m c t h0 (by omega) r d
  · by_cases h1 : t.val % 16 = 15
    · exact dxC m c t h0 h1 r d
    · exact dxB m c t h0 h1 r d

theorem stepN (h0 : ¬ t.val % 16 = 0) (y : S1x1024.Idx) : (outsAt0 m c t.val t.isLt).2.1 y = (show EReal from (outsAt0 m c (t.val - 1) (Nat.lt_of_le_of_lt (Nat.sub_le _ _) t.isLt)).2.1 y) + termN m c t y := by
  by_cases h1 : t.val % 16 = 15
  · exact stepNC m c t h0 h1 y
  · exact stepNB m c t h0 h1 y

theorem stepW (h0 : ¬ t.val % 16 = 0) (y : S1024x3200.Idx) : (outsAt0 m c t.val t.isLt).2.2.2.1 y = (show EReal from (outsAt0 m c (t.val - 1) (Nat.lt_of_le_of_lt (Nat.sub_le _ _) t.isLt)).2.2.2.1 y) + termW m c t y := by
  by_cases h1 : t.val % 16 = 15
  · exact stepWC m c t h0 h1 y
  · exact stepWB m c t h0 h1 y

/-- The rows of all points, one after another, are all tokens. -/
theorem tok_of (h7 : t.val % 16 = 15) (s : Fin 16) (h : 16 * (t.val / 16) + s.val < cfg0.N) (r : Fin 256) (hl : s.val * 256 + r.val < 4096) :
    tok ⟨16 * (t.val / 16) + s.val, h⟩ r = (⟨s.val * 256 + r.val, hl⟩ : Fin 4096) :=
  Fin.ext (by have := lt_points t; unfold tok; dsimp only; omega)

theorem lt_of (s : Fin 16) : 16 * (t.val / 16) + s.val < cfg0.N := by
  have : 16 * (t.val / 16) + s.val < 16 := by have := lt_points t; omega
  exact this.trans_le (ge_of_eq N_0)

/-- The last point leaves the sums over all tokens. -/
theorem after_13 (h7 : t.val % 16 = 15) (d : Fin 1024) : (dats m 0 c).after 13 t (ix2 0 d) = InRows.dnw (argX m c) (argW m c) (argP m c) (argF m c) (argA m c) (argD m c) (argS m c) (argU m c) (argQ m c) (argZ m c) (argB m c) d := by
  rw [after0_13, Pipeline.eq_sum_fin_of_reset_step_apply_of_flush (fun n h => (outsAt0 m c n h).2.1) 16 (fun _ => (0 : EReal)) (termN m c)
    (fun t h j => resetN m c t h (by omega) j) (fun t h j => stepN m c t h j) t h7 (ix2 0 d), zero_add]
  refine Fin.sum_mul_add_congr (F := fun (s : Fin 16) (r : Fin 256) => InRows.dh (argW m c) (argP m c) (argF m c) (argA m c) (argD m c) (argS m c) (argU m c) (argQ m c) (argZ m c) (argB m c) (tok ⟨16 * (t.val / 16) + s.val, lt_of t s⟩ r) d
      * ((show EReal from argX m c (ix2 (tok ⟨16 * (t.val / 16) + s.val, lt_of t s⟩ r) d)) * OutRows.inv (argX m c) (tok ⟨16 * (t.val / 16) + s.val, lt_of t s⟩ r)))
    (f := fun R : Fin 4096 => InRows.dh (argW m c) (argP m c) (argF m c) (argA m c) (argD m c) (argS m c) (argU m c) (argQ m c) (argZ m c) (argB m c) R d * ((show EReal from argX m c (ix2 R d)) * OutRows.inv (argX m c) R)) (fun s r hl => ?_)
  rw [tok_of t h7 s _ r hl]

theorem sum_w (h7 : t.val % 16 = 15) (d : Fin 1024) (l : Fin 3200) : (outsAt0 m c t.val t.isLt).2.2.2.1 (ix2 d l)
    = InRows.dw (argX m c) (argN m c) (argP m c) (argF m c) (argA m c) (argD m c) (argS m c) (argU m c) (argQ m c) (argZ m c) (argB m c) d l := by
  rw [Pipeline.eq_sum_fin_of_reset_step_apply_of_flush (fun n h => (outsAt0 m c n h).2.2.2.1) 16 (fun _ => (0 : EReal)) (termW m c)
    (fun t h j => resetW m c t h (by omega) j) (fun t h j => stepW m c t h j) t h7 (ix2 d l), zero_add]
  refine Fin.sum_mul_add_congr (F := fun (s : Fin 16) (r : Fin 256) => (show EReal from argX m c (ix2 (tok ⟨16 * (t.val / 16) + s.val, lt_of t s⟩ r) d)) * OutRows.inv (argX m c) (tok ⟨16 * (t.val / 16) + s.val, lt_of t s⟩ r) * (show EReal from argN m c (ix2 0 d))
      * InRows.dp (argP m c) (argF m c) (argA m c) (argD m c) (argS m c) (argU m c) (argQ m c) (argZ m c) (argB m c) (tok ⟨16 * (t.val / 16) + s.val, lt_of t s⟩ r) l)
    (f := fun R : Fin 4096 => (show EReal from argX m c (ix2 R d)) * OutRows.inv (argX m c) R * (show EReal from argN m c (ix2 0 d)) * InRows.dp (argP m c) (argF m c) (argA m c) (argD m c) (argS m c) (argU m c) (argQ m c) (argZ m c) (argB m c) R l) (fun s r hl => ?_)
  rw [tok_of t h7 s _ r hl]

end

/-! The three arrays the launch leaves. -/

theorem final_12 (c : Dev nD) : (dats m 0 c).arrAt 12 (cfgs 0).N
    = (fun i => (show EReal from InRows.dx (argX m c) (argN m c) (argW m c) (argP m c) (argF m c) (argR m c) (argA m c) (argD m c) (argS m c) (argU m c) (argQ m c) (argZ m c) (argB m c) (i 0) (i 1)) : FVec Ideal ⟨2, ![4096, 1024]⟩ .f32) := by
  refine (dats m 0 c).arrAt_eq_of_covers 12 _ (by decide +kernel) fun t hf y => ?_
  obtain ⟨e0, e1, e2, e3, e4, e5, e6, e7, e8, e9, e10, e11, e12, e13⟩ := idx t
  idx_vars y
  have he : ((View.whole main_v4_0).slice (win0_12.rect t)).emb (ix2 y0 y1) = ix2 (tok t y0) y1 := by
    unfold tok; blk_ext [e12]
  refine (after_12 m c t y0 y1).trans ?_
  exact (congrArg (fun i : Shape.Idx ⟨2, ![4096, 1024]⟩ => InRows.dx (argX m c) (argN m c) (argW m c) (argP m c) (argF m c) (argR m c) (argA m c) (argD m c) (argS m c) (argU m c) (argQ m c) (argZ m c) (argB m c) (i 0) (i 1)) he).symm

theorem final_13 (c : Dev nD) : (dats m 0 c).arrAt 13 (cfgs 0).N
    = (fun i => (show EReal from InRows.dnw (argX m c) (argW m c) (argP m c) (argF m c) (argA m c) (argD m c) (argS m c) (argU m c) (argQ m c) (argZ m c) (argB m c) (i 1)) : FVec Ideal ⟨2, ![1, 1024]⟩ .f32) := by
  refine (dats m 0 c).arrAt_eq_of_covers 13 _ (by decide +kernel) fun t hf y => ?_
  obtain ⟨e0, e1, e2, e3, e4, e5, e6, e7, e8, e9, e10, e11, e12, e13⟩ := idx t
  have h7 : t.val % 16 = 15 := (flush0_13 t).mp hf
  idx_vars y
  obtain rfl : y0 = 0 := Subsingleton.elim _ _
  have he : ((View.whole main_v4_1).slice (win0_13.rect t)).emb (ix2 0 y1) = ix2 (0 : Fin 1) y1 := by
    blk_ext [e13]
  refine (after_13 m c t h7 y1).trans ?_
  exact (congrArg (fun i : Shape.Idx ⟨2, ![1, 1024]⟩ => InRows.dnw (argX m c) (argW m c) (argP m c) (argF m c) (argA m c) (argD m c) (argS m c) (argU m c) (argQ m c) (argZ m c) (argB m c) (i 1)) he).symm

theorem out_w (c : Dev nD) (q : Nat) (hlt : q < cfg0.N) (h7 : q % 16 = 15) : (outsAt0 m c q hlt).2.2.2.2
    = (fun i => (show EReal from InRows.dw (argX m c) (argN m c) (argP m c) (argF m c) (argA m c) (argD m c) (argS m c) (argU m c) (argQ m c) (argZ m c) (argB m c) (i 0) (i 1)) : FVec Ideal ⟨2, ![1024, 3200]⟩ .f32) := by
  have h0 : ¬ q % 16 = 0 := by omega
  refine funext fun y => ?_
  idx_vars y
  refine (lastW m c ⟨q, hlt⟩ h0 h7 (ix2 y0 y1)).trans ?_
  refine (stepWC m c ⟨q, hlt⟩ h0 h7 (ix2 y0 y1)).symm.trans ?_
  exact sum_w m c ⟨q, hlt⟩ h7 y0 y1

/-- The array the last point copies out. -/
theorem final_w (c : Dev nD) : hbG0 m c main_v4_2
    = (fun i => (show EReal from InRows.dw (argX m c) (argN m c) (argP m c) (argF m c) (argA m c) (argD m c) (argS m c) (argU m c) (argQ m c) (argZ m c) (argB m c) (i 0) (i 1)) : FVec Ideal ⟨2, ![1024, 3200]⟩ .f32) :=
  (hbG0_1 m c).trans (out_w m c _ _ (by rw [Fin.val_last]; have : cfg0.N = 16 := N_0; omega))

end Cert.InBIdeal.Val

end
-- ==== Proof.InB.Ref.lean ====
module

public import proofs.«01_k».proof.Proof.InB.Rows
public import proofs.«01_k».proof.Proof.Reals.Norm
public import proofs.«01_k».proof.Proof.Gen.InBRefIdeal.Run

@[expose] public section

set_option maxRecDepth 16384

noncomputable section

open Idealize.ShloMosaic Idealize.ShloMosaic.TcCoe Idealize.SL.Sem
open Idealize.ShloMosaic.Pipeline (Dat)
open scoped BigOperators

/-! The reference's gradients of the input projection, read at an index. -/

namespace Cert.InBRefIdeal.Val

open Cert.InBRefIdeal Cert.InBRefIdeal.Gen Cert.InBRefIdeal.Value
open Cert.OutRows (ms inv)
open Cert.InRows (att ang turn beside)

variable (x : FVec Ideal S4096x1024 .f32) (nw : FVec Ideal S1x1024 .f32) (w : FVec Ideal S1024x3200 .bf16) (pos : IVec S4096x1 32) (fr : FVec Ideal S32 .f32)
  (dr : FVec Ideal S4096x1024 .f32) (da : FVec Ideal S4096x768 .f32) (d4 : FVec Ideal S4x1024x768 .f32) (d16 : FVec Ideal S16x256x768 .f32)
  (pu : FVec Ideal S4096x256 .f32) (dq : FVec Ideal S4096x1536 .f32) (dz : FVec Ideal S4096x512 .f32) (db : FVec Ideal S4096x128 .f32)

/-! The reference's steps, named. -/

def tMs : FVec Ideal S4096x1 .f32 := addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def tGs (g : FVec Ideal S4096x1024 .f32) : FVec Ideal S4096x1024 .f32 := mulf g (broadcastInDim S4096x1024 ![0, 1] bcast_S1x1024_S4096x1024_0_1 nw)
def tHat (v : FVec Ideal S4096x1 .f32) : FVec Ideal S4096x1024 .f32 := mulf x (broadcastInDim S4096x1024 ![0, 1] bcast_S4096x1_S4096x1024_0_1 (Host.rsqrt v))
def tSum (g : FVec Ideal S4096x1024 .f32) : FVec Ideal S4096x1 .f32 := shapeCast _ (Host.reduceAdd (mulf x g) (constant S_ .f32 0x00000000#32) reducesTo_S4096x1024_S4096_d1 h_S_) shapeCasts_S4096_S4096x1
def tSlope (v : FVec Ideal S4096x1 .f32) : FVec Ideal S4096x1 .f32 := mulf (broadcastInDim S4096x1 ![] bcast_S_S4096x1 (constant S_ .f32 0xBF000000#32)) (Host.divf (Host.rsqrt v) v)
def tC (u v : FVec Ideal S4096x1 .f32) : FVec Ideal S4096x1024 .f32 := broadcastInDim S4096x1024 ![0] bcast_S4096_S4096x1024_0 (Host.reduceAdd (Host.divf (mulf u v) (broadcastInDim S4096x1 ![] bcast_S_S4096x1 (constant S_ .f32 0x44800000#32))) (constant S_ .f32 0x00000000#32) reducesTo_S4096x1_S4096_d1 h_S_)
def tDx (g c : FVec Ideal S4096x1024 .f32) (v : FVec Ideal S4096x1 .f32) : FVec Ideal S4096x1024 .f32 :=
  addf dr (addf (addf (mulf g (broadcastInDim S4096x1024 ![0, 1] bcast_S4096x1_S4096x1024_0_1 (Host.rsqrt v))) (mulf x c)) (mulf c x))
def tDnw (h g : FVec Ideal S4096x1024 .f32) : FVec Ideal S1x1024 .f32 := shapeCast _ (Host.reduceAdd (mulf h g) (constant S_ .f32 0x00000000#32) reducesTo_S4096x1024_S1024_d0 h_S_) shapeCasts_S1024_S1x1024

def tAtt : FVec Ideal S4096x768 .f32 := addf (addf da (shapeCast _ (transpose S256x16x768 [1, 0, 2] d16 transposes_S16x256x768_S256x16x768_1_0_2) shapeCasts_S256x16x768_S4096x768)) (shapeCast _ (transpose S1024x4x768 [1, 0, 2] d4 transposes_S4x1024x768_S1024x4x768_1_0_2) shapeCasts_S1024x4x768_S4096x768)
def tAng : FVec Ideal S4096x32 .f32 := mulf (broadcastInDim S4096x32 ![0, 1] bcast_S4096x1_S4096x32_0_1 (sitofp .f32 pos)) (broadcastInDim S4096x32 ![0, 1] bcast_S1x32_S4096x32_0_1 (broadcastInDim S1x32 ![1] bcast_S32_S1x32_1 fr))
def tWide (a : FVec Ideal S4096x32 .f32) : FVec Ideal S4096x4x32 .f32 := broadcastInDim S4096x4x32 ![0, 1, 2] bcast_S4096x1x32_S4096x4x32_0_1_2 (broadcastInDim S4096x1x32 ![0, 2] bcast_S4096x32_S4096x1x32_0_2 a)
def tLo (g : FVec Ideal S4096x256 .f32) : FVec Ideal S4096x4x32 .f32 := extractStridedSlice S4096x4x32 ![0, 0, 0] (shapeCast _ g shapeCasts_S4096x256_S4096x4x64) slices_S4096x4x64_S4096x4x32_0_0_0
def tHi (g : FVec Ideal S4096x256 .f32) : FVec Ideal S4096x4x32 .f32 := extractStridedSlice S4096x4x32 ![0, 0, 32] (shapeCast _ g shapeCasts_S4096x256_S4096x4x64) slices_S4096x4x64_S4096x4x32_0_0_32
def tTurn (a b c s : FVec Ideal S4096x4x32 .f32) : FVec Ideal S4096x256 .f32 := shapeCast _ (concatenate S4096x4x64 2 [⟨S4096x4x32, addf (mulf b s) (mulf a c)⟩, ⟨S4096x4x32, addf (mulf b c) (mulf (Host.negf a) s)⟩] concatenates_S4096x4x32_S4096x4x32_S4096x4x64_d2) shapeCasts_S4096x4x64_S4096x256
def tRope (g : FVec Ideal S4096x256 .f32) (t : FVec Ideal S4096x32 .f32) : FVec Ideal S4096x256 .f32 := tTurn (tLo g) (tHi g) (tWide (Host.cos t)) (tWide (Host.sin t))
def tCut0 (a : FVec Ideal S4096x768 .f32) : FVec Ideal S4096x256 .f32 := extractStridedSlice S4096x256 ![0, 0] a slices_S4096x768_S4096x256_0_0
def tCut1 (a : FVec Ideal S4096x768 .f32) : FVec Ideal S4096x256 .f32 := extractStridedSlice S4096x256 ![0, 256] a slices_S4096x768_S4096x256_0_256
def tCut2 (a : FVec Ideal S4096x768 .f32) : FVec Ideal S4096x256 .f32 := extractStridedSlice S4096x256 ![0, 512] a slices_S4096x768_S4096x256_0_512
def tCat (p q v : FVec Ideal S4096x256 .f32) : FVec Ideal S4096x3200 .f32 := concatenate S4096x3200 1 [⟨S4096x256, p⟩, ⟨S4096x256, q⟩, ⟨S4096x256, v⟩, ⟨S4096x256, pu⟩, ⟨S4096x1536, dq⟩, ⟨S4096x512, dz⟩, ⟨S4096x128, db⟩] concatenates_S4096x256_S4096x256_S4096x256_S4096x256_S4096x1536_S4096x512_S4096x128_S4096x3200_d1
def tBack (g : FVec Ideal S4096x3200 .f32) : FVec Ideal S4096x1024 .f32 := Host.dotGeneral dot_S4096x3200_S1024x3200_S4096x1024_1_1_0_0_n_n none g (extf .f32 w bitsLt_bf16_f32)
def tDw (g : FVec Ideal S4096x3200 .f32) (a : FVec Ideal S4096x1024 .f32) : FVec Ideal S1024x3200 .f32 := transpose S1024x3200 [1, 0] (Host.dotGeneral dot_S4096x3200_S4096x1024_S3200x1024_0_0_1_1_n_n none g a) transposes_S3200x1024_S1024x3200_1_0

/-! The three terms the reference leaves, put together from the steps. -/

def DP : FVec Ideal S4096x3200 .f32 := tCat pu dq dz db (tRope (tCut0 (tAtt da d4 d16)) (tAng pos fr)) (tRope (tCut1 (tAtt da d4 d16)) (tAng pos fr)) (tCut2 (tAtt da d4 d16))
def DH : FVec Ideal S4096x1024 .f32 := tBack w (DP pos fr da d4 d16 pu dq dz db)
def DX : FVec Ideal S4096x1024 .f32 := tDx x dr (tGs nw (DH w pos fr da d4 d16 pu dq dz db)) (tC (tSum x (tGs nw (DH w pos fr da d4 d16 pu dq dz db))) (tSlope (tMs x))) (tMs x)
def DNW : FVec Ideal S1x1024 .f32 := tDnw (tHat x (tMs x)) (DH w pos fr da d4 d16 pu dq dz db)
def DW : FVec Ideal S1024x3200 .f32 := tDw (DP pos fr da d4 d16 pu dq dz db) (tGs nw (tHat x (tMs x)))

/-! Each step at an index, over any operands. -/

theorem tMs_at (r : Fin 4096) : tMs x (ix2 r 0) = ms x r := by
  unfold ms
  pointwise [tMs]
theorem tGs_at (g : FVec Ideal S4096x1024 .f32) (r : Fin 4096) (d : Fin 1024) : tGs nw g (ix2 r d) = (show EReal from g (ix2 r d)) * nw (ix2 0 d) := by
  pointwise [tGs]
theorem tHat_at (v : FVec Ideal S4096x1 .f32) (r : Fin 4096) (d : Fin 1024) : tHat x v (ix2 r d) = (show EReal from x (ix2 r d)) * Ideal.rsqrt (v (ix2 r 0)) := by
  pointwise [tHat]
theorem tSum_at (g : FVec Ideal S4096x1024 .f32) (r : Fin 4096) : tSum x g (ix2 r 0) = ∑ k : Fin 1024, (show EReal from x (ix2 r k)) * g (ix2 r k) := by
  pointwise [tSum]
theorem tSlope_at (v : FVec Ideal S4096x1 .f32) (r : Fin 4096) : tSlope v (ix2 r 0)
    = Ideal.ofBits FTy.f32 0xBF000000#32 * Ideal.div (Ideal.rsqrt (v (ix2 r 0))) (v (ix2 r 0)) := by
  pointwise [tSlope]
theorem tC_at (u v : FVec Ideal S4096x1 .f32) (r : Fin 4096) (d : Fin 1024) : tC u v (ix2 r d)
    = Ideal.div ((show EReal from u (ix2 r 0)) * v (ix2 r 0)) (Ideal.ofBits FTy.f32 1149239296#32) := by
  pointwise [tC]
  exact Fintype.sum_unique _
theorem tDx_at (g c : FVec Ideal S4096x1024 .f32) (v : FVec Ideal S4096x1 .f32) (r : Fin 4096) (d : Fin 1024) : tDx x dr g c v (ix2 r d)
    = (show EReal from dr (ix2 r d)) + ((show EReal from g (ix2 r d)) * Ideal.rsqrt (v (ix2 r 0)) + (show EReal from x (ix2 r d)) * c (ix2 r d)
      + (show EReal from c (ix2 r d)) * x (ix2 r d)) := by
  pointwise [tDx]
theorem tDnw_at (h g : FVec Ideal S4096x1024 .f32) (d : Fin 1024) : tDnw h g (ix2 0 d) = ∑ r : Fin 4096, (show EReal from h (ix2 r d)) * g (ix2 r d) := by
  pointwise [tDnw]

theorem tAtt_at (r : Fin 4096) (l : Fin 768) : tAtt da d4 d16 (ix2 r l) = att da d4 d16 r l := by
  unfold att
  rw [add_right_comm]
  pointwise [tAtt]
theorem tAng_at (r : Fin 4096) (j : Fin 32) : tAng pos fr (ix2 r j) = ang pos fr r j := by
  unfold ang
  pointwise [tAng]
  rfl
theorem tWide_at (a : FVec Ideal S4096x32 .f32) (r : Fin 4096) (h : Fin 4) (j : Fin 32) : tWide a (ix3 r h j) = a (ix2 r j) := by
  pointwise [tWide]
theorem tLo_at (g : FVec Ideal S4096x256 .f32) (r : Fin 4096) (h : Fin 4) (j : Fin 32) : tLo g (ix3 r h j) = g (ix2 r (⟨h.val * 64 + j.val, by omega⟩ : Fin 256)) := by
  pointwise [tLo]
theorem tHi_at (g : FVec Ideal S4096x256 .f32) (r : Fin 4096) (h : Fin 4) (j : Fin 32) : tHi g (ix3 r h j) = g (ix2 r (⟨h.val * 64 + (32 + j.val), by omega⟩ : Fin 256)) := by
  pointwise [tHi]
theorem tTurn_at (a b c s : FVec Ideal S4096x4x32 .f32) (r : Fin 4096) (l : Fin 256) : tTurn a b c s (ix2 r l)
    = if h : l.val % 64 < 32 then (show EReal from b (ix3 r (⟨l.val / 64, by omega⟩ : Fin 4) (⟨l.val % 64, h⟩ : Fin 32))) * s (ix3 r (⟨l.val / 64, by omega⟩ : Fin 4) (⟨l.val % 64, h⟩ : Fin 32))
        + (show EReal from a (ix3 r (⟨l.val / 64, by omega⟩ : Fin 4) (⟨l.val % 64, h⟩ : Fin 32))) * c (ix3 r (⟨l.val / 64, by omega⟩ : Fin 4) (⟨l.val % 64, h⟩ : Fin 32))
      else (show EReal from b (ix3 r (⟨l.val / 64, by omega⟩ : Fin 4) (⟨l.val % 64 - 32, by omega⟩ : Fin 32))) * c (ix3 r (⟨l.val / 64, by omega⟩ : Fin 4) (⟨l.val % 64 - 32, by omega⟩ : Fin 32))
        + -(show EReal from a (ix3 r (⟨l.val / 64, by omega⟩ : Fin 4) (⟨l.val % 64 - 32, by omega⟩ : Fin 32))) * s (ix3 r (⟨l.val / 64, by omega⟩ : Fin 4) (⟨l.val % 64 - 32, by omega⟩ : Fin 32)) := by
  pointwise [tTurn]
theorem tRope_at (g : FVec Ideal S4096x256 .f32) (t : FVec Ideal S4096x32 .f32) (r : Fin 4096) (l : Fin 256) : tRope g t (ix2 r l)
    = turn (fun k => g (ix2 r k)) (fun j => Ideal.cos (t (ix2 r j))) (fun j => Ideal.sin (t (ix2 r j))) l := by
  unfold turn
  refine (tTurn_at _ _ _ _ r l).trans ?_
  have hc (h : Fin 4) (j : Fin 32) : tWide (Host.cos t) (ix3 r h j) = Ideal.cos (t (ix2 r j)) := (tWide_at _ r h j).trans rfl
  have hs (h : Fin 4) (j : Fin 32) : tWide (Host.sin t) (ix3 r h j) = Ideal.sin (t (ix2 r j)) := (tWide_at _ r h j).trans rfl
  simp only [tLo_at, tHi_at, hc, hs]
  split_ifs with h
  · rw [add_comm (G := EReal)]
    refine congrArg₂ (fun a c : EReal => a + c) (congrArg₂ (fun a c : EReal => a * c) ?_ ?_) (congrArg₂ (fun a c : EReal => a * c) ?_ ?_)
    · exact congrArg (fun k => (show EReal from g (ix2 r k))) (Fin.ext (by dsimp only; omega))
    · exact congrArg (fun j => Ideal.cos (t (ix2 r j))) (Fin.ext (by dsimp only; omega))
    · exact congrArg (fun k => (show EReal from g (ix2 r k))) (Fin.ext (by dsimp only; omega))
    · exact congrArg (fun j => Ideal.sin (t (ix2 r j))) (Fin.ext (by dsimp only; omega))
  · refine congrArg₂ (fun a c : EReal => a + c) (congrArg₂ (fun a c : EReal => a * c) ?_ ?_) (congrArg₂ (fun a c : EReal => -a * c) ?_ ?_)
    · exact congrArg (fun k => (show EReal from g (ix2 r k))) (Fin.ext (by dsimp only; omega))
    · exact congrArg (fun j => Ideal.cos (t (ix2 r j))) (Fin.ext (by dsimp only; omega))
    · exact congrArg (fun k => (show EReal from g (ix2 r k))) (Fin.ext (by dsimp only; omega))
    · exact congrArg (fun j => Ideal.sin (t (ix2 r j))) (Fin.ext (by dsimp only; omega))
theorem tCut0_at (a : FVec Ideal S4096x768 .f32) (r : Fin 4096) (k : Fin 256) : tCut0 a (ix2 r k) = a (ix2 r (⟨k.val, by omega⟩ : Fin 768)) := by
  pointwise [tCut0]
theorem tCut1_at (a : FVec Ideal S4096x768 .f32) (r : Fin 4096) (k : Fin 256) : tCut1 a (ix2 r k) = a (ix2 r (⟨256 + k.val, by omega⟩ : Fin 768)) := by
  pointwise [tCut1]
theorem tCut2_at (a : FVec Ideal S4096x768 .f32) (r : Fin 4096) (k : Fin 256) : tCut2 a (ix2 r k) = a (ix2 r (⟨512 + k.val, by omega⟩ : Fin 768)) := by
  pointwise [tCut2]
theorem tCat_at (p q v : FVec Ideal S4096x256 .f32) (r : Fin 4096) (l : Fin 3200) : tCat pu dq dz db p q v (ix2 r l)
    = beside (fun k => p (ix2 r k)) (fun k => q (ix2 r k)) (fun k => v (ix2 r k)) (fun k => pu (ix2 r k)) (fun k => dq (ix2 r k)) (fun k => dz (ix2 r k)) (fun k => db (ix2 r k)) l := by
  unfold beside
  pointwise [tCat]
theorem tBack_at (g : FVec Ideal S4096x3200 .f32) (r : Fin 4096) (d : Fin 1024) : tBack w g (ix2 r d) = ∑ l : Fin 3200, (show EReal from g (ix2 r l)) * w (ix2 d l) := by
  pointwise [tBack]
theorem tDw_at (g : FVec Ideal S4096x3200 .f32) (a : FVec Ideal S4096x1024 .f32) (d : Fin 1024) (l : Fin 3200) : tDw g a (ix2 d l)
    = ∑ r : Fin 4096, (show EReal from g (ix2 r l)) * a (ix2 r d) := by
  pointwise [tDw]

/-! The three terms. -/

theorem dp_at (r : Fin 4096) (l : Fin 3200) : DP pos fr da d4 d16 pu dq dz db (ix2 r l) = InRows.dp pos fr da d4 d16 pu dq dz db r l := by
  refine (tCat_at pu dq dz db _ _ _ r l).trans ?_
  unfold InRows.dp
  simp only [tRope_at, tCut0_at, tCut1_at, tCut2_at, tAtt_at, tAng_at]

theorem dh_at (r : Fin 4096) (d : Fin 1024) : DH w pos fr da d4 d16 pu dq dz db (ix2 r d) = InRows.dh w pos fr da d4 d16 pu dq dz db r d :=
  (tBack_at w _ r d).trans (Finset.sum_congr rfl fun l _ => congrArg (fun a : EReal => a * _) (dp_at pos fr da d4 d16 pu dq dz db r l))

theorem gs_at (r : Fin 4096) (d : Fin 1024) : tGs nw (DH w pos fr da d4 d16 pu dq dz db) (ix2 r d) = InRows.gs nw w pos fr da d4 d16 pu dq dz db r d :=
  (tGs_at nw _ r d).trans (congrArg (fun a : EReal => a * _) (dh_at w pos fr da d4 d16 pu dq dz db r d))

theorem hat_at (r : Fin 4096) (d : Fin 1024) : tHat x (tMs x) (ix2 r d) = (show EReal from x (ix2 r d)) * inv x r :=
  (tHat_at x _ r d).trans (congrArg (fun a : EReal => _ * Ideal.rsqrt a) (tMs_at x r))

/-- The differentiated norm and the kernel's closed form agree at every extended real. -/
theorem dx_eq : DX x nw w pos fr dr da d4 d16 pu dq dz db
    = (fun i => (show EReal from InRows.dx x nw w pos fr dr da d4 d16 pu dq dz db (i 0) (i 1)) : FVec Ideal S4096x1024 .f32) := by
  funext i
  idx_vars i
  show _ = InRows.dx x nw w pos fr dr da d4 d16 pu dq dz db i0 i1
  refine (tDx_at x dr _ _ _ i0 i1).trans ?_
  have hc : tC (tSum x (tGs nw (DH w pos fr da d4 d16 pu dq dz db))) (tSlope (tMs x)) (ix2 i0 i1)
      = Ideal.div ((∑ k : Fin 1024, (show EReal from x (ix2 i0 k)) * InRows.gs nw w pos fr da d4 d16 pu dq dz db i0 k) * (Ideal.ofBits FTy.f32 0xBF000000#32 * Ideal.div (Ideal.rsqrt (ms x i0)) (ms x i0)))
        (Ideal.ofBits FTy.f32 1149239296#32) := by
    refine (tC_at _ _ i0 i1).trans (congrArg (fun a : EReal => Ideal.div a _) (congrArg₂ (fun a c : EReal => a * c) ?_ ?_))
    · exact (tSum_at x _ i0).trans (Finset.sum_congr rfl fun k _ => congrArg (fun a : EReal => _ * a) (gs_at nw w pos fr da d4 d16 pu dq dz db i0 k))
    · exact (tSlope_at _ i0).trans (congrArg (fun a : EReal => _ * Ideal.div (Ideal.rsqrt a) a) (tMs_at x i0))
  rw [hc, gs_at, tMs_at]
  unfold InRows.dx OutRows.inv
  obtain ⟨e, he, h⟩ := Reals.ceps
  have hr := Reals.norm_rule (fun k : Fin 1024 => (show EReal from x (ix2 i0 k))) (fun k => InRows.gs nw w pos fr da d4 d16 pu dq dz db i0 k) i1 (n := 1024) (e := e) (by norm_num) he
  have hv : ms x i0 = Ideal.div (∑ k : Fin 1024, (show EReal from x (ix2 i0 k)) * x (ix2 i0 k)) ((1024 : ℝ) : EReal) + (e : EReal) := by
    unfold ms
    exact congrArg₂ (fun a c : EReal => Ideal.div _ a + c) Reals.c1024 h
  dsimp only at hr
  rw [← hv] at hr
  refine congrArg (fun a : EReal => _ + a) ?_
  rw [show Ideal.ofBits FTy.f32 1149239296#32 = ((1024 : ℝ) : EReal) from Reals.c1024, Reals.cneghalf]
  refine Eq.trans ?_ hr
  rw [add_assoc (G := EReal)]
  exact congrArg (fun a : EReal => _ + (_ + a)) (mul_comm _ _)

theorem dnw_eq : DNW x w pos fr da d4 d16 pu dq dz db
    = (fun i => (show EReal from InRows.dnw x w pos fr da d4 d16 pu dq dz db (i 1)) : FVec Ideal S1x1024 .f32) := by
  funext i
  idx_vars i
  obtain rfl : i0 = 0 := Subsingleton.elim _ _
  refine (tDnw_at _ _ i1).trans (Finset.sum_congr rfl fun r _ => ?_)
  exact (congrArg₂ (fun a c : EReal => a * c) (hat_at x r i1) (dh_at w pos fr da d4 d16 pu dq dz db r i1)).trans (mul_comm _ _)

theorem dw_eq : DW x nw pos fr da d4 d16 pu dq dz db
    = (fun i => (show EReal from InRows.dw x nw pos fr da d4 d16 pu dq dz db (i 0) (i 1)) : FVec Ideal S1024x3200 .f32) := by
  funext i
  idx_vars i
  refine (tDw_at _ _ i0 i1).trans (Finset.sum_congr rfl fun r _ => ?_)
  refine (congrArg₂ (fun a c : EReal => a * c) (dp_at pos fr da d4 d16 pu dq dz db r i1) ((tGs_at nw _ r i0).trans ?_)).trans (mul_comm _ _)
  exact congrArg (fun a : EReal => a * _) (hat_at x r i0)

end Cert.InBRefIdeal.Val

end
-- ==== Proof.InB.Claim.lean ====
module

public import proofs.«01_k».proof.Defs
public import proofs.«01_k».proof.Proof.InB.Final
public import proofs.«01_k».proof.Proof.InB.Ref
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

/-! The gradients of the input projection and of the norm before it equal their reference. -/

namespace Cert.InBPair

variable {m : (ℓ : Loc Cert.InBIdeal.nD Cert.InBIdeal.τ Cert.InBIdeal.sig) → Buf (Elt Ideal) ℓ}
  {m' : (ℓ : Loc Cert.InBRefIdeal.nD Cert.InBRefIdeal.τ Cert.InBRefIdeal.sig) → Buf (Elt Ideal) ℓ}

/-- Both programs begin from the same arguments. -/
abbrev Agree (m : (ℓ : Loc Cert.InBIdeal.nD Cert.InBIdeal.τ Cert.InBIdeal.sig) → Buf (Elt Ideal) ℓ)
    (m' : (ℓ : Loc Cert.InBRefIdeal.nD Cert.InBRefIdeal.τ Cert.InBRefIdeal.sig) → Buf (Elt Ideal) ℓ) : Prop :=
  ∀ c : Dev Cert.InBIdeal.nD, m' (c.tc.loc Cert.InBRefIdeal.main_arg0) = m (c.tc.loc Cert.InBIdeal.main_arg0) ∧ m' (c.tc.loc Cert.InBRefIdeal.main_arg1) = m (c.tc.loc Cert.InBIdeal.main_arg1) ∧ m' (c.tc.loc Cert.InBRefIdeal.main_arg2) = m (c.tc.loc Cert.InBIdeal.main_arg2) ∧ m' (c.tc.loc Cert.InBRefIdeal.main_arg3) = m (c.tc.loc Cert.InBIdeal.main_arg3) ∧ m' (c.tc.loc Cert.InBRefIdeal.main_arg4) = m (c.tc.loc Cert.InBIdeal.main_arg4) ∧ m' (c.tc.loc Cert.InBRefIdeal.main_arg5) = m (c.tc.loc Cert.InBIdeal.main_arg5) ∧ m' (c.tc.loc Cert.InBRefIdeal.main_arg6) = m (c.tc.loc Cert.InBIdeal.main_arg6) ∧ m' (c.tc.loc Cert.InBRefIdeal.main_arg7) = m (c.tc.loc Cert.InBIdeal.main_arg7) ∧ m' (c.tc.loc Cert.InBRefIdeal.main_arg8) = m (c.tc.loc Cert.InBIdeal.main_arg8) ∧ m' (c.tc.loc Cert.InBRefIdeal.main_arg9) = m (c.tc.loc Cert.InBIdeal.main_arg9) ∧ m' (c.tc.loc Cert.InBRefIdeal.main_arg10) = m (c.tc.loc Cert.InBIdeal.main_arg10) ∧ m' (c.tc.loc Cert.InBRefIdeal.main_arg11) = m (c.tc.loc Cert.InBIdeal.main_arg11) ∧ m' (c.tc.loc Cert.InBRefIdeal.main_arg12) = m (c.tc.loc Cert.InBIdeal.main_arg12)

/-! What the reference leaves is what the kernel leaves, result by result. -/

theorem res_x (hagree : Agree m m') (c : Dev Cert.InBIdeal.nD) :
    Cert.InBRefIdeal.Val.DX (m' (c.tc.loc Cert.InBRefIdeal.main_arg0)) (m' (c.tc.loc Cert.InBRefIdeal.main_arg1)) (m' (c.tc.loc Cert.InBRefIdeal.main_arg2)) (m' (c.tc.loc Cert.InBRefIdeal.main_arg3)) (m' (c.tc.loc Cert.InBRefIdeal.main_arg4)) (m' (c.tc.loc Cert.InBRefIdeal.main_arg5)) (m' (c.tc.loc Cert.InBRefIdeal.main_arg6)) (m' (c.tc.loc Cert.InBRefIdeal.main_arg7)) (m' (c.tc.loc Cert.InBRefIdeal.main_arg8)) (m' (c.tc.loc Cert.InBRefIdeal.main_arg9)) (m' (c.tc.loc Cert.InBRefIdeal.main_arg10)) (m' (c.tc.loc Cert.InBRefIdeal.main_arg11)) (m' (c.tc.loc Cert.InBRefIdeal.main_arg12)) = (Cert.InBIdeal.Gen.dats m 0 c).arrAt 12 (Cert.InBIdeal.cfgs 0).N := by
  obtain ⟨h0, h1, h2, h3, h4, h5, h6, h7, h8, h9, h10, h11, h12⟩ := hagree c
  rw [h0, h1, h2, h3, h4, h5, h6, h7, h8, h9, h10, h11, h12]
  exact (Cert.InBRefIdeal.Val.dx_eq _ _ _ _ _ _ _ _ _ _ _ _ _).trans (Cert.InBIdeal.Val.final_12 m c).symm

theorem res_n (hagree : Agree m m') (c : Dev Cert.InBIdeal.nD) :
    Cert.InBRefIdeal.Val.DNW (m' (c.tc.loc Cert.InBRefIdeal.main_arg0)) (m' (c.tc.loc Cert.InBRefIdeal.main_arg2)) (m' (c.tc.loc Cert.InBRefIdeal.main_arg3)) (m' (c.tc.loc Cert.InBRefIdeal.main_arg4)) (m' (c.tc.loc Cert.InBRefIdeal.main_arg6)) (m' (c.tc.loc Cert.InBRefIdeal.main_arg7)) (m' (c.tc.loc Cert.InBRefIdeal.main_arg8)) (m' (c.tc.loc Cert.InBRefIdeal.main_arg9)) (m' (c.tc.loc Cert.InBRefIdeal.main_arg10)) (m' (c.tc.loc Cert.InBRefIdeal.main_arg11)) (m' (c.tc.loc Cert.InBRefIdeal.main_arg12)) = (Cert.InBIdeal.Gen.dats m 0 c).arrAt 13 (Cert.InBIdeal.cfgs 0).N := by
  obtain ⟨h0, h1, h2, h3, h4, h5, h6, h7, h8, h9, h10, h11, h12⟩ := hagree c
  rw [h0, h2, h3, h4, h6, h7, h8, h9, h10, h11, h12]
  exact (Cert.InBRefIdeal.Val.dnw_eq _ _ _ _ _ _ _ _ _ _ _).trans (Cert.InBIdeal.Val.final_13 m c).symm

theorem res_w (hagree : Agree m m') (c : Dev Cert.InBIdeal.nD) :
    Cert.InBRefIdeal.Val.DW (m' (c.tc.loc Cert.InBRefIdeal.main_arg0)) (m' (c.tc.loc Cert.InBRefIdeal.main_arg1)) (m' (c.tc.loc Cert.InBRefIdeal.main_arg3)) (m' (c.tc.loc Cert.InBRefIdeal.main_arg4)) (m' (c.tc.loc Cert.InBRefIdeal.main_arg6)) (m' (c.tc.loc Cert.InBRefIdeal.main_arg7)) (m' (c.tc.loc Cert.InBRefIdeal.main_arg8)) (m' (c.tc.loc Cert.InBRefIdeal.main_arg9)) (m' (c.tc.loc Cert.InBRefIdeal.main_arg10)) (m' (c.tc.loc Cert.InBRefIdeal.main_arg11)) (m' (c.tc.loc Cert.InBRefIdeal.main_arg12)) = Cert.InBIdeal.Gen.hbG0 m c Cert.InBIdeal.main_v4_2 := by
  obtain ⟨h0, h1, h2, h3, h4, h5, h6, h7, h8, h9, h10, h11, h12⟩ := hagree c
  rw [h0, h1, h3, h4, h6, h7, h8, h9, h10, h11, h12]
  exact (Cert.InBRefIdeal.Val.dw_eq _ _ _ _ _ _ _ _ _ _ _).trans (Cert.InBIdeal.Val.final_w m c).symm

end Cert.InBPair

namespace Cert.Proof

open Cert.InBPair

theorem inb : Cert.algebraic_InBIdeal_InBRefIdeal (hInBIdeal := Cert.InBIdeal.Gen.facts)
    (hInBRefIdeal := Cert.InBRefIdeal.Gen.facts) := by
  intro m g m' g' _ hagree
  refine ⟨fun c => (Cert.InBIdeal.Gen.dats m 0 c).arrAt 12 (Cert.InBIdeal.cfgs 0).N, fun c => (Cert.InBIdeal.Gen.dats m 0 c).arrAt 13 (Cert.InBIdeal.cfgs 0).N, fun c => Cert.InBIdeal.Gen.hbG0 m c Cert.InBIdeal.main_v4_2, ?_, ?_⟩
  · refine θ_run_mono (θ_run_and (Cert.InBIdeal.Gen.run_main m g) (Cert.InBIdeal.Gen.unchanged m g)) fun r h c => ?_
    exact ⟨(h.1.1 c).1 12, (h.1.1 c).1 13, h.1.2 c Cert.InBIdeal.main_v4_2 (by decide), h.2 c⟩
  · refine θ_run_mono (Cert.InBRefIdeal.Value.run (F := Ideal) m' g') fun r h c => ?_
    obtain ⟨e0, e1, e2, e⟩ := h c
    exact ⟨e0.trans (res_x hagree c), e1.trans (res_n hagree c), e2.trans (res_w hagree c), e⟩

end Cert.Proof

end
-- ==== Proof.lean ====
module

public import proofs.«01_k».proof.Defs
public import proofs.«01_k».proof.Proof.Gen.Conv.Frame
public import proofs.«01_k».proof.Proof.Gen.ConvIdeal.Frame
public import proofs.«01_k».proof.Proof.Gen.ConvRefIdeal.Run
public import proofs.«01_k».proof.Proof.Conv.Claim
public import proofs.«01_k».proof.Proof.Gen.Ffn.Frame
public import proofs.«01_k».proof.Proof.Gen.FfnIdeal.Frame
public import proofs.«01_k».proof.Proof.Gen.FfnRefIdeal.Run
public import proofs.«01_k».proof.Proof.Ffn.Claim
public import proofs.«01_k».proof.Proof.Gen.FfnF.Frame
public import proofs.«01_k».proof.Proof.Gen.FfnFIdeal.Frame
public import proofs.«01_k».proof.Proof.Gen.FfnFRefIdeal.Run
public import proofs.«01_k».proof.Proof.FfnF.Claim
public import proofs.«01_k».proof.Proof.Gen.OutF.Frame
public import proofs.«01_k».proof.Proof.Gen.OutFIdeal.Frame
public import proofs.«01_k».proof.Proof.Gen.OutFRefIdeal.Run
public import proofs.«01_k».proof.Proof.OutF.Claim
public import proofs.«01_k».proof.Proof.Gen.OutB.Frame
public import proofs.«01_k».proof.Proof.Gen.OutBIdeal.Frame
public import proofs.«01_k».proof.Proof.Gen.OutBRefIdeal.Run
public import proofs.«01_k».proof.Proof.OutB.Claim
public import proofs.«01_k».proof.Proof.Gen.InB.Frame
public import proofs.«01_k».proof.Proof.Gen.InBIdeal.Frame
public import proofs.«01_k».proof.Proof.Gen.InBRefIdeal.Run
public import proofs.«01_k».proof.Proof.InB.Claim
public import Idealize.ShloMosaic.Lib.Claim
public import Idealize.ShloMosaic.Adequacy
public import Idealize.ShloMosaic.Init

@[expose] public section

noncomputable section

namespace Cert.Proof

open Idealize.ShloMosaic Idealize.SL.Sem

/-- The reference Conv runs and leaves its arguments as they were; it has no semaphore. -/
theorem convRef_frame : Cert.quiescent_ConvRefIdeal (hConvRefIdeal := Cert.ConvRefIdeal.Gen.facts) := fun m g _ =>
  (θ_run Cert.ConvRefIdeal.defs _ _).mono (fun r h => ⟨fun c => (h c).2.2,
    Idealize.ShloMosaic.sem_eq_zero_of_no_sems (by decide) r.2⟩) (Cert.ConvRefIdeal.Value.run (F := Ideal) m g)

/-- The reference Ffn runs and leaves its arguments as they were; it has no semaphore. -/
theorem ffnRef_frame : Cert.quiescent_FfnRefIdeal (hFfnRefIdeal := Cert.FfnRefIdeal.Gen.facts) := fun m g _ =>
  (θ_run Cert.FfnRefIdeal.defs _ _).mono (fun r h => ⟨fun c => (h c).2.2.2.2,
    Idealize.ShloMosaic.sem_eq_zero_of_no_sems (by decide) r.2⟩) (Cert.FfnRefIdeal.Value.run (F := Ideal) m g)

/-- The reference FfnF runs and leaves its arguments as they were; it has no semaphore. -/
theorem ffnfRef_frame : Cert.quiescent_FfnFRefIdeal (hFfnFRefIdeal := Cert.FfnFRefIdeal.Gen.facts) := fun m g _ =>
  (θ_run Cert.FfnFRefIdeal.defs _ _).mono (fun r h => ⟨fun c => (h c).2,
    Idealize.ShloMosaic.sem_eq_zero_of_no_sems (by decide) r.2⟩) (Cert.FfnFRefIdeal.Value.run (F := Ideal) m g)

/-- The reference OutF runs and leaves its arguments as they were; it has no semaphore. -/
theorem outfRef_frame : Cert.quiescent_OutFRefIdeal (hOutFRefIdeal := Cert.OutFRefIdeal.Gen.facts) := fun m g _ =>
  (θ_run Cert.OutFRefIdeal.defs _ _).mono (fun r h => ⟨fun c => (h c).2,
    Idealize.ShloMosaic.sem_eq_zero_of_no_sems (by decide) r.2⟩) (Cert.OutFRefIdeal.Value.run (F := Ideal) m g)

/-- The reference OutB runs and leaves its arguments as they were; it has no semaphore. -/
theorem outbRef_frame : Cert.quiescent_OutBRefIdeal (hOutBRefIdeal := Cert.OutBRefIdeal.Gen.facts) := fun m g _ =>
  (θ_run Cert.OutBRefIdeal.defs _ _).mono (fun r h => ⟨fun c => (h c).2.2.2.2.2.2,
    Idealize.ShloMosaic.sem_eq_zero_of_no_sems (by decide) r.2⟩) (Cert.OutBRefIdeal.Value.run (F := Ideal) m g)

/-- The reference InB runs and leaves its arguments as they were; it has no semaphore. -/
theorem inbRef_frame : Cert.quiescent_InBRefIdeal (hInBRefIdeal := Cert.InBRefIdeal.Gen.facts) := fun m g _ =>
  (θ_run Cert.InBRefIdeal.defs _ _).mono (fun r h => ⟨fun c => (h c).2.2.2,
    Idealize.ShloMosaic.sem_eq_zero_of_no_sems (by decide) r.2⟩) (Cert.InBRefIdeal.Value.run (F := Ideal) m g)

theorem claim : Cert.Claim := ⟨Cert.Conv.Gen.facts,
  Cert.ConvIdeal.Gen.facts,
  Cert.ConvRefIdeal.Gen.facts,
  Cert.Ffn.Gen.facts,
  Cert.FfnIdeal.Gen.facts,
  Cert.FfnRefIdeal.Gen.facts,
  Cert.FfnF.Gen.facts,
  Cert.FfnFIdeal.Gen.facts,
  Cert.FfnFRefIdeal.Gen.facts,
  Cert.OutF.Gen.facts,
  Cert.OutFIdeal.Gen.facts,
  Cert.OutFRefIdeal.Gen.facts,
  Cert.OutB.Gen.facts,
  Cert.OutBIdeal.Gen.facts,
  Cert.OutBRefIdeal.Gen.facts,
  Cert.InB.Gen.facts,
  Cert.InBIdeal.Gen.facts,
  Cert.InBRefIdeal.Gen.facts,
  Cert.FfnPre.facts,
  fun m ρ _ => Cert.Conv.Gen.frame m ρ,
  fun m ρ _ => Cert.ConvIdeal.Gen.frame m ρ,
  convRef_frame,
  fun m ρ _ => Cert.Ffn.Gen.frame m ρ,
  fun m ρ _ => Cert.FfnIdeal.Gen.frame m ρ,
  fun m ρ _ => Cert.FfnIdeal.Gen.frame m ρ,
  ffnRef_frame,
  fun m ρ _ => ffnRef_frame m ρ trivial,
  fun m ρ _ => Cert.FfnF.Gen.frame m ρ,
  fun m ρ _ => Cert.FfnFIdeal.Gen.frame m ρ,
  ffnfRef_frame,
  fun m ρ _ => Cert.OutF.Gen.frame m ρ,
  fun m ρ _ => Cert.OutFIdeal.Gen.frame m ρ,
  outfRef_frame,
  fun m ρ _ => Cert.OutB.Gen.frame m ρ,
  fun m ρ _ => Cert.OutBIdeal.Gen.frame m ρ,
  outbRef_frame,
  fun m ρ _ => Cert.InB.Gen.frame m ρ,
  fun m ρ _ => Cert.InBIdeal.Gen.frame m ρ,
  inbRef_frame,
  trivial,
  Cert.Proof.conv,
  trivial,
  Cert.Proof.ffn,
  trivial,
  Cert.Proof.ffnf,
  trivial,
  Cert.Proof.outf,
  trivial,
  Cert.Proof.outb,
  trivial,
  Cert.Proof.inb⟩

end Cert.Proof

end
